-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x3584 : Shape := ⟨3, ![2, 128, 3584]⟩
abbrev S2x128x9728 : Shape := ⟨3, ![2, 128, 9728]⟩
abbrev S5 : Shape := ⟨1, ![5]⟩
abbrev S_ : Shape := ⟨0, ![]⟩

class Facts : Prop where
  bitsLt_bf16_f32 : FTy.bits .bf16 < FTy.bits .f32
  bcast_S_S2x128x3584 : S_.BroadcastsInDim S2x128x3584 (![] : Fin 0 → Fin S2x128x3584.rank)
  reducesTo_S2x128x3584_S_d0_1_2 : S2x128x3584.ReducesTo [0, 1, 2] S_
  h_S_ : 0 < S_.numel
  bcast_S_S2x128x9728 : S_.BroadcastsInDim S2x128x9728 (![] : Fin 0 → Fin S2x128x9728.rank)
  reducesTo_S2x128x9728_S_d0_1_2 : S2x128x9728.ReducesTo [0, 1, 2] S_

variable [Facts]

def fn {F : FTy → Type} [FloatOps F] (main_arg0 : FVec F S2x128x3584 .bf16) (main_arg1 : FVec F S2x128x9728 .bf16) (main_arg2 : IVec S5 32) : IVec S_ 1 :=
  let main_v0 : FVec F S2x128x3584 .f32 := (extf .f32 · bitsLt_bf16_f32) main_arg0
  let main_v1 : FVec F S2x128x3584 .f32 := Host.absf main_v0
  let main_cst : FVec F S_ .f32 := constant S_ .f32 0x7F7F0000#32
  let main_v2 : FVec F S2x128x3584 .f32 := broadcastInDim S2x128x3584 ![] bcast_S_S2x128x3584 main_cst
  let main_v3 : IVec S2x128x3584 1 := cmpf .ole main_v1 main_v2
  let main_c : IVec S_ 1 := constantI S_ 1 1#1
  let main_v4 : IVec S_ 1 := (fun x v => Host.reduce IntOp.andi x v reducesTo_S2x128x3584_S_d0_1_2 h_S_) main_v3 main_c
  let main_v5 : FVec F S2x128x9728 .f32 := (extf .f32 · bitsLt_bf16_f32) main_arg1
  let main_v6 : FVec F S2x128x9728 .f32 := Host.absf main_v5
  let main_cst_0 : FVec F S_ .f32 := constant S_ .f32 0x7F7F0000#32
  let main_v7 : FVec F S2x128x9728 .f32 := broadcastInDim S2x128x9728 ![] bcast_S_S2x128x9728 main_cst_0
  let main_v8 : IVec S2x128x9728 1 := cmpf .ole main_v6 main_v7
  let main_c_1 : IVec S_ 1 := constantI S_ 1 1#1
  let main_v9 : IVec S_ 1 := (fun x v => Host.reduce IntOp.andi x v reducesTo_S2x128x9728_S_d0_1_2 h_S_) main_v8 main_c_1
  let main_v10 : IVec S_ 1 := andi main_v4 main_v9
  main_v10
-- ==== Kernel.lean ====
abbrev S2x128x3584 : Shape := ⟨3, ![2, 128, 3584]⟩
abbrev S2x128x9728 : Shape := ⟨3, ![2, 128, 9728]⟩
abbrev S5 : Shape := ⟨1, ![5]⟩
abbrev S5x3584x9728 : Shape := ⟨3, ![5, 3584, 9728]⟩
abbrev S2x4x3584 : Shape := ⟨3, ![2, 4, 3584]⟩
abbrev S2x4x9728 : Shape := ⟨3, ![2, 4, 9728]⟩
abbrev S3584x256 : Shape := ⟨2, ![3584, 256]⟩
abbrev S256x9728 : Shape := ⟨2, ![256, 9728]⟩
abbrev S128x9728 : Shape := ⟨2, ![128, 9728]⟩
abbrev S4x128x9728 : Shape := ⟨3, ![4, 128, 9728]⟩
abbrev S3x5 : Shape := ⟨2, ![3, 5]⟩
abbrev S2 : Shape := ⟨1, ![2]⟩
abbrev S_ : Shape := ⟨0, ![]⟩
abbrev S4 : Shape := ⟨1, ![4]⟩
abbrev S1 : Shape := ⟨1, ![1]⟩
abbrev S1x1 : Shape := ⟨2, ![1, 1]⟩
abbrev S1x128x9728 : Shape := ⟨3, ![1, 128, 9728]⟩
abbrev S2x128x256 : Shape := ⟨3, ![2, 128, 256]⟩
abbrev S256x256 : Shape := ⟨2, ![256, 256]⟩
abbrev S8x32x256 : Shape := ⟨3, ![8, 32, 256]⟩
abbrev S8x256 : Shape := ⟨2, ![8, 256]⟩
abbrev S8x1x256 : Shape := ⟨3, ![8, 1, 256]⟩
abbrev S4x256 : Shape := ⟨2, ![4, 256]⟩
abbrev S1x4x256 : Shape := ⟨3, ![1, 4, 256]⟩
abbrev S128x256 : Shape := ⟨2, ![128, 256]⟩

abbrev nBuf : Space → Nat
  | .hbm => 8
  | .vmem => 10
  | .smem => 2
  | _ => 0

abbrev bufTy : (tb : Table) → Fin (tcTables nBuf tb) → BufTy
  | .hbm, ⟨0, _⟩ => ⟨S2x128x3584, .bf16⟩
  | .hbm, ⟨1, _⟩ => ⟨S2x128x9728, .bf16⟩
  | .hbm, ⟨2, _⟩ => ⟨S5, .i32⟩
  | .hbm, ⟨3, _⟩ => ⟨S5x3584x9728, .f32⟩
  | .hbm, ⟨4, _⟩ => ⟨S2x128x3584, .fp8e4m3⟩
  | .hbm, ⟨5, _⟩ => ⟨S2x4x3584, .f32⟩
  | .hbm, ⟨6, _⟩ => ⟨S2x128x9728, .fp8e5m2⟩
  | .hbm, ⟨7, _⟩ => ⟨S2x4x9728, .f32⟩
  | .local _ .vmem, ⟨0, _⟩ => ⟨S2x128x3584, .bf16⟩
  | .local _ .vmem, ⟨1, _⟩ => ⟨S2x128x9728, .bf16⟩
  | .local _ .vmem, ⟨2, _⟩ => ⟨S2x128x3584, .fp8e4m3⟩
  | .local _ .vmem, ⟨3, _⟩ => ⟨S2x4x3584, .f32⟩
  | .local _ .vmem, ⟨4, _⟩ => ⟨S2x128x9728, .fp8e5m2⟩
  | .local _ .vmem, ⟨5, _⟩ => ⟨S2x4x9728, .f32⟩
  | .local _ .vmem, ⟨6, _⟩ => ⟨S3584x256, .bf16⟩
  | .local _ .vmem, ⟨7, _⟩ => ⟨S256x9728, .bf16⟩
  | .local _ .vmem, ⟨8, _⟩ => ⟨S128x9728, .f32⟩
  | .local _ .vmem, ⟨9, _⟩ => ⟨S4x128x9728, .f32⟩
  | .local _ .smem, ⟨0, _⟩ => ⟨S5, .i32⟩
  | .local _ .smem, ⟨1, _⟩ => ⟨S3x5, .i32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_stg0_0 : Ref sig .tc := ⟨.smem, 0, rfl⟩
abbrev cc0_scratch10 : Ref sig .tc := ⟨.smem, 1, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_76 : BitVec 32 := 0#32
  let c28_i32_77 : BitVec 32 := 28#32
  let v116 : BitVec 32 := Scalar.addi c0_i32_76 c28_i32_77
  let c1_i32_78 : BitVec 32 := 1#32
  ⟨c0_i32_76, v116, c1_i32_78⟩
def k0_off1 (k0_t1 : Fin k0_t1_loop.trips) : Fin 3 → Nat :=
  let c0_i32_82 : BitVec 32 := 0#32
  let c0_i32_81 : BitVec 32 := 0#32
  let c0_i32_76 : BitVec 32 := 0#32
  let c1_i32_78 : BitVec 32 := 1#32
  let arg23 : BitVec 32 := Scf.iv c0_i32_76 c1_i32_78 k0_t1
  let c1_i32_80 : BitVec 32 := 1#32
  let v117 : BitVec 32 := Scalar.muli arg23 c1_i32_80
  let v118 : BitVec 32 := Scalar.addi c0_i32_81 v117
  let c128_i32 : BitVec 32 := 128#32
  let v119 : BitVec 32 := Scalar.muli v118 c128_i32
  let c0_i32_83 : BitVec 32 := 0#32
  ![0, v119.toNat, 0]
def k0_off2 (v8 : BitVec 32) : Fin 2 → Nat :=
  let c0_77 : Index := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let v116 : Index := Scalar.indexCast v18
  ![0, v116.toNat]
def k0_cond3 (v19 : BitVec 32) : BitVec 1 :=
  let c0_i32_11 : BitVec 32 := 0#32
  let v21 : BitVec 1 := Scalar.cmpi .sgt v19 c0_i32_11
  let v22 : BitVec 32 := Scalar.extui v21
  let c0_i32_12 : BitVec 32 := 0#32
  let v23 : BitVec 1 := Scalar.cmpi .ne v22 c0_i32_12
  v23

def k0_off3 (v8 : BitVec 32) : Fin 2 → Nat :=
  let c1_78 : Index := 1#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let v118 : Index := Scalar.indexCast v18
  ![1, v118.toNat]
def k0_off4 (v8 : BitVec 32) : Fin 2 → Nat :=
  let c2_79 : Index := 2#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let v120 : Index := Scalar.indexCast v18
  ![2, v120.toNat]

def k0_chk1 (v8 : BitVec 32) (v19 : BitVec 32) : Prop :=
  (∀ (k0_h3 : k0_cond3 v19 = 1#1), ∀ a, (k0_off2 v8) a + S1x1.size a ≤ S3x5.size a) ∧
  (∀ (k0_h3 : k0_cond3 v19 = 1#1), ∀ a, (k0_off3 v8) a + S1x1.size a ≤ S3x5.size a) ∧
  (∀ (k0_h3 : k0_cond3 v19 = 1#1), ∀ a, (k0_off4 v8) a + S1x1.size a ≤ S3x5.size a)
theorem k0_off2_inb : ∀ (v8 : BitVec 32) (v19 : BitVec 32) (k0_hw1 : k0_chk1 v8 v19), ∀ (k0_h3 : k0_cond3 v19 = 1#1), ∀ a, (k0_off2 v8) a + S1x1.size a ≤ S3x5.size a := fun v8 v19 k0_hw1 k0_h3 => k0_hw1.1 k0_h3
theorem k0_off3_inb : ∀ (v8 : BitVec 32) (v19 : BitVec 32) (k0_hw1 : k0_chk1 v8 v19), ∀ (k0_h3 : k0_cond3 v19 = 1#1), ∀ a, (k0_off3 v8) a + S1x1.size a ≤ S3x5.size a := fun v8 v19 k0_hw1 k0_h3 => k0_hw1.2.1 k0_h3
theorem k0_off4_inb : ∀ (v8 : BitVec 32) (v19 : BitVec 32) (k0_hw1 : k0_chk1 v8 v19), ∀ (k0_h3 : k0_cond3 v19 = 1#1), ∀ a, (k0_off4 v8) a + S1x1.size a ≤ S3x5.size a := fun v8 v19 k0_hw1 k0_h3 => k0_hw1.2.2 k0_h3

@[reducible] def k0_t2_loop : Scf.Loop 32 :=
  let c0_i32_76 : BitVec 32 := 0#32
  let c28_i32_77 : BitVec 32 := 28#32
  let v116 : BitVec 32 := Scalar.addi c0_i32_76 c28_i32_77
  let c1_i32_78 : BitVec 32 := 1#32
  ⟨c0_i32_76, v116, c1_i32_78⟩
def k0_off5 (k0_t2 : Fin k0_t2_loop.trips) : Fin 3 → Nat :=
  let c1_i32_82 : BitVec 32 := 1#32
  let c0_i32_81 : BitVec 32 := 0#32
  let c0_i32_76 : BitVec 32 := 0#32
  let c1_i32_78 : BitVec 32 := 1#32
  let arg23 : BitVec 32 := Scf.iv c0_i32_76 c1_i32_78 k0_t2
  let c1_i32_80 : BitVec 32 := 1#32
  let v117 : BitVec 32 := Scalar.muli arg23 c1_i32_80
  let v118 : BitVec 32 := Scalar.addi c0_i32_81 v117
  let c128_i32 : BitVec 32 := 128#32
  let v119 : BitVec 32 := Scalar.muli v118 c128_i32
  let c0_i32_83 : BitVec 32 := 0#32
  ![1, v119.toNat, 0]
def k0_off6 (v8 : BitVec 32) (v19 : BitVec 32) : Fin 2 → Nat :=
  let c0_77 : Index := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let v116 : Index := Scalar.indexCast v29
  ![0, v116.toNat]
def k0_cond5 (v30 : BitVec 32) : BitVec 1 :=
  let c0_i32_16 : BitVec 32 := 0#32
  let v32 : BitVec 1 := Scalar.cmpi .sgt v30 c0_i32_16
  let v33 : BitVec 32 := Scalar.extui v32
  let c0_i32_17 : BitVec 32 := 0#32
  let v34 : BitVec 1 := Scalar.cmpi .ne v33 c0_i32_17
  v34

def k0_off7 (v8 : BitVec 32) (v19 : BitVec 32) : Fin 2 → Nat :=
  let c1_78 : Index := 1#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let v118 : Index := Scalar.indexCast v29
  ![1, v118.toNat]
def k0_off8 (v8 : BitVec 32) (v19 : BitVec 32) : Fin 2 → Nat :=
  let c2_79 : Index := 2#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let v120 : Index := Scalar.indexCast v29
  ![2, v120.toNat]

def k0_chk2 (v8 : BitVec 32) (v19 : BitVec 32) (v30 : BitVec 32) : Prop :=
  (∀ (k0_h5 : k0_cond5 v30 = 1#1), ∀ a, (k0_off6 v8 v19) a + S1x1.size a ≤ S3x5.size a) ∧
  (∀ (k0_h5 : k0_cond5 v30 = 1#1), ∀ a, (k0_off7 v8 v19) a + S1x1.size a ≤ S3x5.size a) ∧
  (∀ (k0_h5 : k0_cond5 v30 = 1#1), ∀ a, (k0_off8 v8 v19) a + S1x1.size a ≤ S3x5.size a)
theorem k0_off6_inb : ∀ (v8 : BitVec 32) (v19 : BitVec 32) (v30 : BitVec 32) (k0_hw2 : k0_chk2 v8 v19 v30), ∀ (k0_h5 : k0_cond5 v30 = 1#1), ∀ a, (k0_off6 v8 v19) a + S1x1.size a ≤ S3x5.size a := fun v8 v19 v30 k0_hw2 k0_h5 => k0_hw2.1 k0_h5
theorem k0_off7_inb : ∀ (v8 : BitVec 32) (v19 : BitVec 32) (v30 : BitVec 32) (k0_hw2 : k0_chk2 v8 v19 v30), ∀ (k0_h5 : k0_cond5 v30 = 1#1), ∀ a, (k0_off7 v8 v19) a + S1x1.size a ≤ S3x5.size a := fun v8 v19 v30 k0_hw2 k0_h5 => k0_hw2.2.1 k0_h5
theorem k0_off8_inb : ∀ (v8 : BitVec 32) (v19 : BitVec 32) (v30 : BitVec 32) (k0_hw2 : k0_chk2 v8 v19 v30), ∀ (k0_h5 : k0_cond5 v30 = 1#1), ∀ a, (k0_off8 v8 v19) a + S1x1.size a ≤ S3x5.size a := fun v8 v19 v30 k0_hw2 k0_h5 => k0_hw2.2.2 k0_h5

@[reducible] def k0_t3_loop : Scf.Loop 32 :=
  let c0_i32_76 : BitVec 32 := 0#32
  let c28_i32_77 : BitVec 32 := 28#32
  let v116 : BitVec 32 := Scalar.addi c0_i32_76 c28_i32_77
  let c1_i32_78 : BitVec 32 := 1#32
  ⟨c0_i32_76, v116, c1_i32_78⟩
def k0_off9 (k0_t3 : Fin k0_t3_loop.trips) : Fin 3 → Nat :=
  let c2_i32_82 : BitVec 32 := 2#32
  let c0_i32_81 : BitVec 32 := 0#32
  let c0_i32_76 : BitVec 32 := 0#32
  let c1_i32_78 : BitVec 32 := 1#32
  let arg23 : BitVec 32 := Scf.iv c0_i32_76 c1_i32_78 k0_t3
  let c1_i32_80 : BitVec 32 := 1#32
  let v117 : BitVec 32 := Scalar.muli arg23 c1_i32_80
  let v118 : BitVec 32 := Scalar.addi c0_i32_81 v117
  let c128_i32 : BitVec 32 := 128#32
  let v119 : BitVec 32 := Scalar.muli v118 c128_i32
  let c0_i32_83 : BitVec 32 := 0#32
  ![2, v119.toNat, 0]
def k0_off10 (v8 : BitVec 32) (v19 : BitVec 32) (v30 : BitVec 32) : Fin 2 → Nat :=
  let c0_77 : Index := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let v116 : Index := Scalar.indexCast v40
  ![0, v116.toNat]
def k0_cond7 (v41 : BitVec 32) : BitVec 1 :=
  let c0_i32_21 : BitVec 32 := 0#32
  let v43 : BitVec 1 := Scalar.cmpi .sgt v41 c0_i32_21
  let v44 : BitVec 32 := Scalar.extui v43
  let c0_i32_22 : BitVec 32 := 0#32
  let v45 : BitVec 1 := Scalar.cmpi .ne v44 c0_i32_22
  v45

def k0_off11 (v8 : BitVec 32) (v19 : BitVec 32) (v30 : BitVec 32) : Fin 2 → Nat :=
  let c1_78 : Index := 1#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let v118 : Index := Scalar.indexCast v40
  ![1, v118.toNat]
def k0_off12 (v8 : BitVec 32) (v19 : BitVec 32) (v30 : BitVec 32) : Fin 2 → Nat :=
  let c2_79 : Index := 2#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let v120 : Index := Scalar.indexCast v40
  ![2, v120.toNat]

def k0_chk3 (v8 : BitVec 32) (v19 : BitVec 32) (v30 : BitVec 32) (v41 : BitVec 32) : Prop :=
  (∀ (k0_h7 : k0_cond7 v41 = 1#1), ∀ a, (k0_off10 v8 v19 v30) a + S1x1.size a ≤ S3x5.size a) ∧
  (∀ (k0_h7 : k0_cond7 v41 = 1#1), ∀ a, (k0_off11 v8 v19 v30) a + S1x1.size a ≤ S3x5.size a) ∧
  (∀ (k0_h7 : k0_cond7 v41 = 1#1), ∀ a, (k0_off12 v8 v19 v30) a + S1x1.size a ≤ S3x5.size a)
theorem k0_off10_inb : ∀ (v8 : BitVec 32) (v19 : BitVec 32) (v30 : BitVec 32) (v41 : BitVec 32) (k0_hw3 : k0_chk3 v8 v19 v30 v41), ∀ (k0_h7 : k0_cond7 v41 = 1#1), ∀ a, (k0_off10 v8 v19 v30) a + S1x1.size a ≤ S3x5.size a := fun v8 v19 v30 v41 k0_hw3 k0_h7 => k0_hw3.1 k0_h7
theorem k0_off11_inb : ∀ (v8 : BitVec 32) (v19 : BitVec 32) (v30 : BitVec 32) (v41 : BitVec 32) (k0_hw3 : k0_chk3 v8 v19 v30 v41), ∀ (k0_h7 : k0_cond7 v41 = 1#1), ∀ a, (k0_off11 v8 v19 v30) a + S1x1.size a ≤ S3x5.size a := fun v8 v19 v30 v41 k0_hw3 k0_h7 => k0_hw3.2.1 k0_h7
theorem k0_off12_inb : ∀ (v8 : BitVec 32) (v19 : BitVec 32) (v30 : BitVec 32) (v41 : BitVec 32) (k0_hw3 : k0_chk3 v8 v19 v30 v41), ∀ (k0_h7 : k0_cond7 v41 = 1#1), ∀ a, (k0_off12 v8 v19 v30) a + S1x1.size a ≤ S3x5.size a := fun v8 v19 v30 v41 k0_hw3 k0_h7 => k0_hw3.2.2 k0_h7

@[reducible] def k0_t4_loop : Scf.Loop 32 :=
  let c0_i32_76 : BitVec 32 := 0#32
  let c28_i32_77 : BitVec 32 := 28#32
  let v116 : BitVec 32 := Scalar.addi c0_i32_76 c28_i32_77
  let c1_i32_78 : BitVec 32 := 1#32
  ⟨c0_i32_76, v116, c1_i32_78⟩
def k0_off13 (k0_t4 : Fin k0_t4_loop.trips) : Fin 3 → Nat :=
  let c3_i32_82 : BitVec 32 := 3#32
  let c0_i32_81 : BitVec 32 := 0#32
  let c0_i32_76 : BitVec 32 := 0#32
  let c1_i32_78 : BitVec 32 := 1#32
  let arg23 : BitVec 32 := Scf.iv c0_i32_76 c1_i32_78 k0_t4
  let c1_i32_80 : BitVec 32 := 1#32
  let v117 : BitVec 32 := Scalar.muli arg23 c1_i32_80
  let v118 : BitVec 32 := Scalar.addi c0_i32_81 v117
  let c128_i32 : BitVec 32 := 128#32
  let v119 : BitVec 32 := Scalar.muli v118 c128_i32
  let c0_i32_83 : BitVec 32 := 0#32
  ![3, v119.toNat, 0]
def k0_off14 (v8 : BitVec 32) (v19 : BitVec 32) (v30 : BitVec 32) (v41 : BitVec 32) : Fin 2 → Nat :=
  let c0_77 : Index := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let v116 : Index := Scalar.indexCast v51
  ![0, v116.toNat]
def k0_cond9 (v52 : BitVec 32) : BitVec 1 :=
  let c0_i32_26 : BitVec 32 := 0#32
  let v54 : BitVec 1 := Scalar.cmpi .sgt v52 c0_i32_26
  let v55 : BitVec 32 := Scalar.extui v54
  let c0_i32_27 : BitVec 32 := 0#32
  let v56 : BitVec 1 := Scalar.cmpi .ne v55 c0_i32_27
  v56

def k0_off15 (v8 : BitVec 32) (v19 : BitVec 32) (v30 : BitVec 32) (v41 : BitVec 32) : Fin 2 → Nat :=
  let c1_78 : Index := 1#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let v118 : Index := Scalar.indexCast v51
  ![1, v118.toNat]
def k0_off16 (v8 : BitVec 32) (v19 : BitVec 32) (v30 : BitVec 32) (v41 : BitVec 32) : Fin 2 → Nat :=
  let c2_79 : Index := 2#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let v120 : Index := Scalar.indexCast v51
  ![2, v120.toNat]
@[reducible] def k0_t5_loop : Scf.Loop 32 :=
  let c0_i32_76 : BitVec 32 := 0#32
  let c28_i32_77 : BitVec 32 := 28#32
  let v116 : BitVec 32 := Scalar.addi c0_i32_76 c28_i32_77
  let c1_i32_78 : BitVec 32 := 1#32
  ⟨c0_i32_76, v116, c1_i32_78⟩
def k0_off17 (k0_t5 : Fin k0_t5_loop.trips) : Fin 3 → Nat :=
  let c4_i32_82 : BitVec 32 := 4#32
  let c0_i32_81 : BitVec 32 := 0#32
  let c0_i32_76 : BitVec 32 := 0#32
  let c1_i32_78 : BitVec 32 := 1#32
  let arg23 : BitVec 32 := Scf.iv c0_i32_76 c1_i32_78 k0_t5
  let c1_i32_80 : BitVec 32 := 1#32
  let v117 : BitVec 32 := Scalar.muli arg23 c1_i32_80
  let v118 : BitVec 32 := Scalar.addi c0_i32_81 v117
  let c128_i32 : BitVec 32 := 128#32
  let v119 : BitVec 32 := Scalar.muli v118 c128_i32
  let c0_i32_83 : BitVec 32 := 0#32
  ![4, v119.toNat, 0]
@[reducible] def k0_t6_loop : Scf.Loop 32 :=
  let c0_i32_32 : BitVec 32 := 0#32
  let c14_i32 : BitVec 32 := 14#32
  let v65 : BitVec 32 := Scalar.addi c0_i32_32 c14_i32
  let c1_i32_33 : BitVec 32 := 1#32
  ⟨c0_i32_32, v65, c1_i32_33⟩
def k0_mult1 (k0_t6 : Fin k0_t6_loop.trips) : BitVec 32 :=
  let c0_i32_77 : BitVec 32 := 0#32
  let c0_i32_32 : BitVec 32 := 0#32
  let c1_i32_33 : BitVec 32 := 1#32
  let arg23 : BitVec 32 := Scf.iv c0_i32_32 c1_i32_33 k0_t6
  let c1_i32_76 : BitVec 32 := 1#32
  let v116 : BitVec 32 := Scalar.muli arg23 c1_i32_76
  let v117 : BitVec 32 := Scalar.addi c0_i32_77 v116
  let c256_i32 : BitVec 32 := 256#32
  let v118 : BitVec 32 := Scalar.muli v117 c256_i32
  v118
def k0_off18 (k0_t6 : Fin k0_t6_loop.trips) : Fin 3 → Nat :=
  let c0_78 : Index := 0#32
  let c0_79 : Index := 0#32
  let c0_i32_77 : BitVec 32 := 0#32
  let c0_i32_32 : BitVec 32 := 0#32
  let c1_i32_33 : BitVec 32 := 1#32
  let arg23 : BitVec 32 := Scf.iv c0_i32_32 c1_i32_33 k0_t6
  let c1_i32_76 : BitVec 32 := 1#32
  let v116 : BitVec 32 := Scalar.muli arg23 c1_i32_76
  let v117 : BitVec 32 := Scalar.addi c0_i32_77 v116
  let c256_i32 : BitVec 32 := 256#32
  let v118 : BitVec 32 := Scalar.muli v117 c256_i32
  let v119 : BitVec 32 := v118
  let v120 : Index := Scalar.indexCast v119
  ![0, 0, v120.toNat]
def k0_off19 (k0_t6 : Fin k0_t6_loop.trips) : Fin 3 → Nat :=
  let c0_102 : Index := 0#32
  let c0_103 : Index := 0#32
  let c0_i32_77 : BitVec 32 := 0#32
  let c0_i32_32 : BitVec 32 := 0#32
  let c1_i32_33 : BitVec 32 := 1#32
  let arg23 : BitVec 32 := Scf.iv c0_i32_32 c1_i32_33 k0_t6
  let c1_i32_76 : BitVec 32 := 1#32
  let v116 : BitVec 32 := Scalar.muli arg23 c1_i32_76
  let v117 : BitVec 32 := Scalar.addi c0_i32_77 v116
  let c256_i32 : BitVec 32 := 256#32
  let v118 : BitVec 32 := Scalar.muli v117 c256_i32
  let v119 : BitVec 32 := v118
  let v220 : Index := Scalar.indexCast v119
  ![0, 0, v220.toNat]
def k0_off20 (k0_t6 : Fin k0_t6_loop.trips) : Fin 3 → Nat :=
  let c1_104 : Index := 1#32
  let c0_105 : Index := 0#32
  let c0_i32_77 : BitVec 32 := 0#32
  let c0_i32_32 : BitVec 32 := 0#32
  let c1_i32_33 : BitVec 32 := 1#32
  let arg23 : BitVec 32 := Scf.iv c0_i32_32 c1_i32_33 k0_t6
  let c1_i32_76 : BitVec 32 := 1#32
  let v116 : BitVec 32 := Scalar.muli arg23 c1_i32_76
  let v117 : BitVec 32 := Scalar.addi c0_i32_77 v116
  let c256_i32 : BitVec 32 := 256#32
  let v118 : BitVec 32 := Scalar.muli v117 c256_i32
  let v119 : BitVec 32 := v118
  let v225 : Index := Scalar.indexCast v119
  ![1, 0, v225.toNat]
def k0_off21 (k0_t6 : Fin k0_t6_loop.trips) : Fin 2 → Nat :=
  let c0_i32_77 : BitVec 32 := 0#32
  let c0_i32_32 : BitVec 32 := 0#32
  let c1_i32_33 : BitVec 32 := 1#32
  let arg23 : BitVec 32 := Scf.iv c0_i32_32 c1_i32_33 k0_t6
  let c1_i32_76 : BitVec 32 := 1#32
  let v116 : BitVec 32 := Scalar.muli arg23 c1_i32_76
  let v117 : BitVec 32 := Scalar.addi c0_i32_77 v116
  let c256_i32 : BitVec 32 := 256#32
  let v118 : BitVec 32 := Scalar.muli v117 c256_i32
  let v119 : BitVec 32 := v118
  let v237 : Index := Scalar.indexCast v119
  let c0_106 : Index := 0#32
  ![v237.toNat, 0]
@[reducible] def k0_t7_loop : Scf.Loop 32 :=
  let c0_i32_36 : BitVec 32 := 0#32
  let c38_i32 : BitVec 32 := 38#32
  let v68 : BitVec 32 := Scalar.addi c0_i32_36 c38_i32
  let c1_i32_37 : BitVec 32 := 1#32
  ⟨c0_i32_36, v68, c1_i32_37⟩
def k0_mult2 (k0_t7 : Fin k0_t7_loop.trips) : BitVec 32 :=
  let c0_i32_77 : BitVec 32 := 0#32
  let c0_i32_36 : BitVec 32 := 0#32
  let c1_i32_37 : BitVec 32 := 1#32
  let arg23 : BitVec 32 := Scf.iv c0_i32_36 c1_i32_37 k0_t7
  let c1_i32_76 : BitVec 32 := 1#32
  let v116 : BitVec 32 := Scalar.muli arg23 c1_i32_76
  let v117 : BitVec 32 := Scalar.addi c0_i32_77 v116
  let c256_i32 : BitVec 32 := 256#32
  let v118 : BitVec 32 := Scalar.muli v117 c256_i32
  v118
def k0_off22 (k0_t7 : Fin k0_t7_loop.trips) : Fin 3 → Nat :=
  let c0_78 : Index := 0#32
  let c0_79 : Index := 0#32
  let c0_i32_77 : BitVec 32 := 0#32
  let c0_i32_36 : BitVec 32 := 0#32
  let c1_i32_37 : BitVec 32 := 1#32
  let arg23 : BitVec 32 := Scf.iv c0_i32_36 c1_i32_37 k0_t7
  let c1_i32_76 : BitVec 32 := 1#32
  let v116 : BitVec 32 := Scalar.muli arg23 c1_i32_76
  let v117 : BitVec 32 := Scalar.addi c0_i32_77 v116
  let c256_i32 : BitVec 32 := 256#32
  let v118 : BitVec 32 := Scalar.muli v117 c256_i32
  let v119 : BitVec 32 := v118
  let v120 : Index := Scalar.indexCast v119
  ![0, 0, v120.toNat]
def k0_off23 (k0_t7 : Fin k0_t7_loop.trips) : Fin 3 → Nat :=
  let c0_102 : Index := 0#32
  let c0_103 : Index := 0#32
  let c0_i32_77 : BitVec 32 := 0#32
  let c0_i32_36 : BitVec 32 := 0#32
  let c1_i32_37 : BitVec 32 := 1#32
  let arg23 : BitVec 32 := Scf.iv c0_i32_36 c1_i32_37 k0_t7
  let c1_i32_76 : BitVec 32 := 1#32
  let v116 : BitVec 32 := Scalar.muli arg23 c1_i32_76
  let v117 : BitVec 32 := Scalar.addi c0_i32_77 v116
  let c256_i32 : BitVec 32 := 256#32
  let v118 : BitVec 32 := Scalar.muli v117 c256_i32
  let v119 : BitVec 32 := v118
  let v220 : Index := Scalar.indexCast v119
  ![0, 0, v220.toNat]
def k0_off24 (k0_t7 : Fin k0_t7_loop.trips) : Fin 3 → Nat :=
  let c1_104 : Index := 1#32
  let c0_105 : Index := 0#32
  let c0_i32_77 : BitVec 32 := 0#32
  let c0_i32_36 : BitVec 32 := 0#32
  let c1_i32_37 : BitVec 32 := 1#32
  let arg23 : BitVec 32 := Scf.iv c0_i32_36 c1_i32_37 k0_t7
  let c1_i32_76 : BitVec 32 := 1#32
  let v116 : BitVec 32 := Scalar.muli arg23 c1_i32_76
  let v117 : BitVec 32 := Scalar.addi c0_i32_77 v116
  let c256_i32 : BitVec 32 := 256#32
  let v118 : BitVec 32 := Scalar.muli v117 c256_i32
  let v119 : BitVec 32 := v118
  let v225 : Index := Scalar.indexCast v119
  ![1, 0, v225.toNat]
def k0_off25 (k0_t7 : Fin k0_t7_loop.trips) : Fin 2 → Nat :=
  let c0_106 : Index := 0#32
  let c0_i32_77 : BitVec 32 := 0#32
  let c0_i32_36 : BitVec 32 := 0#32
  let c1_i32_37 : BitVec 32 := 1#32
  let arg23 : BitVec 32 := Scf.iv c0_i32_36 c1_i32_37 k0_t7
  let c1_i32_76 : BitVec 32 := 1#32
  let v116 : BitVec 32 := Scalar.muli arg23 c1_i32_76
  let v117 : BitVec 32 := Scalar.addi c0_i32_77 v116
  let c256_i32 : BitVec 32 := 256#32
  let v118 : BitVec 32 := Scalar.muli v117 c256_i32
  let v119 : BitVec 32 := v118
  let v236 : Index := Scalar.indexCast v119
  ![0, v236.toNat]
@[reducible] def k0_t8_loop (v8 : BitVec 32) (v19 : BitVec 32) (v30 : BitVec 32) (v41 : BitVec 32) (v52 : BitVec 32) : Scf.Loop 32 :=
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_49 : BitVec 32 := 1#32
  ⟨c0_i32_47, v86, c1_i32_49⟩
def k0_off26 (v8 : BitVec 32) (v19 : BitVec 32) (v30 : BitVec 32) (v41 : BitVec 32) (v52 : BitVec 32) (k0_t8 : Fin (k0_t8_loop v8 v19 v30 v41 v52).trips) : Fin 2 → Nat :=
  let c0_79 : Index := 0#32
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c28_i32_77 : BitVec 32 := 28#32
  let v119 : BitVec 32 := Scalar.divsi v117 c28_i32_77
  let v121 : Index := Scalar.indexCast v119
  ![0, v121.toNat]
def k0_cond11 (v8 : BitVec 32) (v19 : BitVec 32) (v30 : BitVec 32) (v41 : BitVec 32) (v52 : BitVec 32) (k0_t8 : Fin (k0_t8_loop v8 v19 v30 v41 v52).trips) : BitVec 1 :=
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c4_i32_80 : BitVec 32 := 4#32
  let v123 : BitVec 1 := Scalar.cmpi .sge v117 c4_i32_80
  let v124 : BitVec 32 := Scalar.extui v123
  let c0_i32_81 : BitVec 32 := 0#32
  let v125 : BitVec 1 := Scalar.cmpi .ne v124 c0_i32_81
  v125

def k0_off27 (v8 : BitVec 32) (v19 : BitVec 32) (v30 : BitVec 32) (v41 : BitVec 32) (v52 : BitVec 32) (k0_t8 : Fin (k0_t8_loop v8 v19 v30 v41 v52).trips) : Fin 1 → Nat :=
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c4_i32_76 : BitVec 32 := 4#32
  let v118 : BitVec 32 := Scalar.remsi v117 c4_i32_76
  ![v118.toNat]
def k0_off28 (v8 : BitVec 32) (v19 : BitVec 32) (v30 : BitVec 32) (v41 : BitVec 32) (v52 : BitVec 32) (k0_t8 : Fin (k0_t8_loop v8 v19 v30 v41 v52).trips) (v122 : BitVec 32) : Fin 3 → Nat :=
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c28_i32_78 : BitVec 32 := 28#32
  let v120 : BitVec 32 := Scalar.remsi v117 c28_i32_78
  let c128_i32_95 : BitVec 32 := 128#32
  let v157 : BitVec 32 := Scalar.muli v120 c128_i32_95
  let c0_i32_96 : BitVec 32 := 0#32
  ![v122.toNat, v157.toNat, 0]

def k0_off29 (v8 : BitVec 32) (v19 : BitVec 32) (v30 : BitVec 32) (v41 : BitVec 32) (v52 : BitVec 32) (k0_t8 : Fin (k0_t8_loop v8 v19 v30 v41 v52).trips) : Fin 3 → Nat :=
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c4_i32_76 : BitVec 32 := 4#32
  let v118 : BitVec 32 := Scalar.remsi v117 c4_i32_76
  let c0_i32_97 : BitVec 32 := 0#32
  let c0_i32_98 : BitVec 32 := 0#32
  ![v118.toNat, 0, 0]
def k0_mult3 (v8 : BitVec 32) (v19 : BitVec 32) (v30 : BitVec 32) (v41 : BitVec 32) (v52 : BitVec 32) (k0_t8 : Fin (k0_t8_loop v8 v19 v30 v41 v52).trips) : BitVec 32 :=
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c28_i32_78 : BitVec 32 := 28#32
  let v120 : BitVec 32 := Scalar.remsi v117 c28_i32_78
  let c128_i32 : BitVec 32 := 128#32
  let v126 : BitVec 32 := Scalar.muli v120 c128_i32
  v126
def k0_off30 (v8 : BitVec 32) (v19 : BitVec 32) (v30 : BitVec 32) (v41 : BitVec 32) (v52 : BitVec 32) (k0_t8 : Fin (k0_t8_loop v8 v19 v30 v41 v52).trips) : Fin 2 → Nat :=
  let c1_82 : Index := 1#32
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c28_i32_77 : BitVec 32 := 28#32
  let v119 : BitVec 32 := Scalar.divsi v117 c28_i32_77
  let v129 : Index := Scalar.indexCast v119
  ![1, v129.toNat]
def k0_off31 (v8 : BitVec 32) (v19 : BitVec 32) (v30 : BitVec 32) (v41 : BitVec 32) (v52 : BitVec 32) (k0_t8 : Fin (k0_t8_loop v8 v19 v30 v41 v52).trips) : Fin 2 → Nat :=
  let c2_83 : Index := 2#32
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c28_i32_77 : BitVec 32 := 28#32
  let v119 : BitVec 32 := Scalar.divsi v117 c28_i32_77
  let v133 : Index := Scalar.indexCast v119
  ![2, v133.toNat]
def k0_off32 (v8 : BitVec 32) (v19 : BitVec 32) (v30 : BitVec 32) (v41 : BitVec 32) (v52 : BitVec 32) (k0_t8 : Fin (k0_t8_loop v8 v19 v30 v41 v52).trips) : Fin 2 → Nat :=
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c28_i32_78 : BitVec 32 := 28#32
  let v120 : BitVec 32 := Scalar.remsi v117 c28_i32_78
  let c128_i32 : BitVec 32 := 128#32
  let v126 : BitVec 32 := Scalar.muli v120 c128_i32
  let v127 : BitVec 32 := v126
  let v138 : Index := Scalar.indexCast v127
  let c0_84 : Index := 0#32
  ![v138.toNat, 0]
def k0_off33 (v8 : BitVec 32) (v19 : BitVec 32) (v30 : BitVec 32) (v41 : BitVec 32) (v52 : BitVec 32) (k0_t8 : Fin (k0_t8_loop v8 v19 v30 v41 v52).trips) : Fin 3 → Nat :=
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c4_i32_76 : BitVec 32 := 4#32
  let v118 : BitVec 32 := Scalar.remsi v117 c4_i32_76
  let v146 : Index := Scalar.indexCast v118
  let c0_89 : Index := 0#32
  let c0_90 : Index := 0#32
  ![v146.toNat, 0, 0]
def k0_off34 (v8 : BitVec 32) (v19 : BitVec 32) (v30 : BitVec 32) (v41 : BitVec 32) (v52 : BitVec 32) (k0_t8 : Fin (k0_t8_loop v8 v19 v30 v41 v52).trips) : Fin 1 → Nat :=
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c4_i32_76 : BitVec 32 := 4#32
  let v118 : BitVec 32 := Scalar.remsi v117 c4_i32_76
  ![v118.toNat]
def k0_off35 (v8 : BitVec 32) (v19 : BitVec 32) (v30 : BitVec 32) (v41 : BitVec 32) (v52 : BitVec 32) (k0_t8 : Fin (k0_t8_loop v8 v19 v30 v41 v52).trips) (v122 : BitVec 32) : Fin 3 → Nat :=
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c28_i32_78 : BitVec 32 := 28#32
  let v120 : BitVec 32 := Scalar.remsi v117 c28_i32_78
  let c128_i32_91 : BitVec 32 := 128#32
  let v150 : BitVec 32 := Scalar.muli v120 c128_i32_91
  let c0_i32_92 : BitVec 32 := 0#32
  ![v122.toNat, v150.toNat, 0]

def k0_chk5 (v8 : BitVec 32) (v19 : BitVec 32) (v30 : BitVec 32) (v41 : BitVec 32) (v52 : BitVec 32) (k0_t8 : Fin (k0_t8_loop v8 v19 v30 v41 v52).trips) (v122 : BitVec 32) : Prop :=
  (∀ (k0_h11 : k0_cond11 v8 v19 v30 v41 v52 k0_t8 = 1#1), ∀ a, (k0_off28 v8 v19 v30 v41 v52 k0_t8 v122) a + S1x128x9728.size a ≤ S5x3584x9728.size a) ∧
  (∀ a, (k0_off35 v8 v19 v30 v41 v52 k0_t8 v122) a + S1x128x9728.size a ≤ S5x3584x9728.size a)
theorem k0_off28_inb : ∀ (v8 : BitVec 32) (v19 : BitVec 32) (v30 : BitVec 32) (v41 : BitVec 32) (v52 : BitVec 32) (k0_t8 : Fin (k0_t8_loop v8 v19 v30 v41 v52).trips) (v122 : BitVec 32) (k0_hw5 : k0_chk5 v8 v19 v30 v41 v52 k0_t8 v122), ∀ (k0_h11 : k0_cond11 v8 v19 v30 v41 v52 k0_t8 = 1#1), ∀ a, (k0_off28 v8 v19 v30 v41 v52 k0_t8 v122) a + S1x128x9728.size a ≤ S5x3584x9728.size a := fun v8 v19 v30 v41 v52 k0_t8 v122 k0_hw5 k0_h11 => k0_hw5.1 k0_h11
theorem k0_off35_inb : ∀ (v8 : BitVec 32) (v19 : BitVec 32) (v30 : BitVec 32) (v41 : BitVec 32) (v52 : BitVec 32) (k0_t8 : Fin (k0_t8_loop v8 v19 v30 v41 v52).trips) (v122 : BitVec 32) (k0_hw5 : k0_chk5 v8 v19 v30 v41 v52 k0_t8 v122), ∀ a, (k0_off35 v8 v19 v30 v41 v52 k0_t8 v122) a + S1x128x9728.size a ≤ S5x3584x9728.size a := fun v8 v19 v30 v41 v52 k0_t8 v122 k0_hw5 => k0_hw5.2

def k0_off36 (v8 : BitVec 32) (v19 : BitVec 32) (v30 : BitVec 32) (v41 : BitVec 32) (v52 : BitVec 32) (k0_t8 : Fin (k0_t8_loop v8 v19 v30 v41 v52).trips) : Fin 3 → Nat :=
  let c0_i32_46 : BitVec 32 := 0#32
  let c0_i32_47 : BitVec 32 := 0#32
  let c1_i32_49 : BitVec 32 := 1#32
  let arg23 : BitVec 32 := Scf.iv c0_i32_47 c1_i32_49 k0_t8
  let c1_i32_45 : BitVec 32 := 1#32
  let v116 : BitVec 32 := Scalar.muli arg23 c1_i32_45
  let v117 : BitVec 32 := Scalar.addi c0_i32_46 v116
  let c4_i32_76 : BitVec 32 := 4#32
  let v118 : BitVec 32 := Scalar.remsi v117 c4_i32_76
  let c0_i32_93 : BitVec 32 := 0#32
  let c0_i32_94 : BitVec 32 := 0#32
  ![v118.toNat, 0, 0]
@[reducible] def k0_t9_loop (v8 : BitVec 32) (v19 : BitVec 32) (v30 : BitVec 32) (v41 : BitVec 32) (v52 : BitVec 32) : Scf.Loop 32 :=
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let v83 : BitVec 32 := Scalar.addi c0_i32_47 v82
  let c1_i32_50 : BitVec 32 := 1#32
  ⟨v86, v83, c1_i32_50⟩
def k0_off37 (v8 : BitVec 32) (v19 : BitVec 32) (v30 : BitVec 32) (v41 : BitVec 32) (v52 : BitVec 32) (k0_t9 : Fin (k0_t9_loop v8 v19 v30 v41 v52).trips) : Fin 2 → Nat :=
  let c0_79 : Index := 0#32
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c28_i32_77 : BitVec 32 := 28#32
  let v119 : BitVec 32 := Scalar.divsi v117 c28_i32_77
  let v121 : Index := Scalar.indexCast v119
  ![0, v121.toNat]
def k0_off38 (v8 : BitVec 32) (v19 : BitVec 32) (v30 : BitVec 32) (v41 : BitVec 32) (v52 : BitVec 32) (k0_t9 : Fin (k0_t9_loop v8 v19 v30 v41 v52).trips) : Fin 1 → Nat :=
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c4_i32_76 : BitVec 32 := 4#32
  let v118 : BitVec 32 := Scalar.remsi v117 c4_i32_76
  ![v118.toNat]
def k0_cond12 (v8 : BitVec 32) (v19 : BitVec 32) (v30 : BitVec 32) (v41 : BitVec 32) (v52 : BitVec 32) (k0_t9 : Fin (k0_t9_loop v8 v19 v30 v41 v52).trips) : BitVec 1 :=
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c4_i32_80 : BitVec 32 := 4#32
  let v123 : BitVec 1 := Scalar.cmpi .sge v117 c4_i32_80
  let v124 : BitVec 32 := Scalar.extui v123
  let c0_i32_81 : BitVec 32 := 0#32
  let v125 : BitVec 1 := Scalar.cmpi .ne v124 c0_i32_81
  v125

def k0_off39 (v8 : BitVec 32) (v19 : BitVec 32) (v30 : BitVec 32) (v41 : BitVec 32) (v52 : BitVec 32) (k0_t9 : Fin (k0_t9_loop v8 v19 v30 v41 v52).trips) (v122 : BitVec 32) : Fin 3 → Nat :=
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c28_i32_78 : BitVec 32 := 28#32
  let v120 : BitVec 32 := Scalar.remsi v117 c28_i32_78
  let c128_i32_95 : BitVec 32 := 128#32
  let v157 : BitVec 32 := Scalar.muli v120 c128_i32_95
  let c0_i32_96 : BitVec 32 := 0#32
  ![v122.toNat, v157.toNat, 0]

def k0_off40 (v8 : BitVec 32) (v19 : BitVec 32) (v30 : BitVec 32) (v41 : BitVec 32) (v52 : BitVec 32) (k0_t9 : Fin (k0_t9_loop v8 v19 v30 v41 v52).trips) : Fin 3 → Nat :=
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c4_i32_76 : BitVec 32 := 4#32
  let v118 : BitVec 32 := Scalar.remsi v117 c4_i32_76
  let c0_i32_97 : BitVec 32 := 0#32
  let c0_i32_98 : BitVec 32 := 0#32
  ![v118.toNat, 0, 0]
def k0_mult4 (v8 : BitVec 32) (v19 : BitVec 32) (v30 : BitVec 32) (v41 : BitVec 32) (v52 : BitVec 32) (k0_t9 : Fin (k0_t9_loop v8 v19 v30 v41 v52).trips) : BitVec 32 :=
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c28_i32_78 : BitVec 32 := 28#32
  let v120 : BitVec 32 := Scalar.remsi v117 c28_i32_78
  let c128_i32 : BitVec 32 := 128#32
  let v126 : BitVec 32 := Scalar.muli v120 c128_i32
  v126
def k0_off41 (v8 : BitVec 32) (v19 : BitVec 32) (v30 : BitVec 32) (v41 : BitVec 32) (v52 : BitVec 32) (k0_t9 : Fin (k0_t9_loop v8 v19 v30 v41 v52).trips) : Fin 2 → Nat :=
  let c1_82 : Index := 1#32
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c28_i32_77 : BitVec 32 := 28#32
  let v119 : BitVec 32 := Scalar.divsi v117 c28_i32_77
  let v129 : Index := Scalar.indexCast v119
  ![1, v129.toNat]
def k0_off42 (v8 : BitVec 32) (v19 : BitVec 32) (v30 : BitVec 32) (v41 : BitVec 32) (v52 : BitVec 32) (k0_t9 : Fin (k0_t9_loop v8 v19 v30 v41 v52).trips) : Fin 2 → Nat :=
  let c2_83 : Index := 2#32
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c28_i32_77 : BitVec 32 := 28#32
  let v119 : BitVec 32 := Scalar.divsi v117 c28_i32_77
  let v133 : Index := Scalar.indexCast v119
  ![2, v133.toNat]
def k0_off43 (v8 : BitVec 32) (v19 : BitVec 32) (v30 : BitVec 32) (v41 : BitVec 32) (v52 : BitVec 32) (k0_t9 : Fin (k0_t9_loop v8 v19 v30 v41 v52).trips) : Fin 2 → Nat :=
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c28_i32_78 : BitVec 32 := 28#32
  let v120 : BitVec 32 := Scalar.remsi v117 c28_i32_78
  let c128_i32 : BitVec 32 := 128#32
  let v126 : BitVec 32 := Scalar.muli v120 c128_i32
  let v127 : BitVec 32 := v126
  let v138 : Index := Scalar.indexCast v127
  let c0_84 : Index := 0#32
  ![v138.toNat, 0]
def k0_off44 (v8 : BitVec 32) (v19 : BitVec 32) (v30 : BitVec 32) (v41 : BitVec 32) (v52 : BitVec 32) (k0_t9 : Fin (k0_t9_loop v8 v19 v30 v41 v52).trips) : Fin 3 → Nat :=
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c4_i32_76 : BitVec 32 := 4#32
  let v118 : BitVec 32 := Scalar.remsi v117 c4_i32_76
  let v146 : Index := Scalar.indexCast v118
  let c0_89 : Index := 0#32
  let c0_90 : Index := 0#32
  ![v146.toNat, 0, 0]
def k0_off45 (v8 : BitVec 32) (v19 : BitVec 32) (v30 : BitVec 32) (v41 : BitVec 32) (v52 : BitVec 32) (k0_t9 : Fin (k0_t9_loop v8 v19 v30 v41 v52).trips) : Fin 1 → Nat :=
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c4_i32_76 : BitVec 32 := 4#32
  let v118 : BitVec 32 := Scalar.remsi v117 c4_i32_76
  ![v118.toNat]
def k0_off46 (v8 : BitVec 32) (v19 : BitVec 32) (v30 : BitVec 32) (v41 : BitVec 32) (v52 : BitVec 32) (k0_t9 : Fin (k0_t9_loop v8 v19 v30 v41 v52).trips) (v122 : BitVec 32) : Fin 3 → Nat :=
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c28_i32_78 : BitVec 32 := 28#32
  let v120 : BitVec 32 := Scalar.remsi v117 c28_i32_78
  let c128_i32_91 : BitVec 32 := 128#32
  let v150 : BitVec 32 := Scalar.muli v120 c128_i32_91
  let c0_i32_92 : BitVec 32 := 0#32
  ![v122.toNat, v150.toNat, 0]

def k0_chk6 (v8 : BitVec 32) (v19 : BitVec 32) (v30 : BitVec 32) (v41 : BitVec 32) (v52 : BitVec 32) (k0_t9 : Fin (k0_t9_loop v8 v19 v30 v41 v52).trips) (v122 : BitVec 32) : Prop :=
  (∀ (k0_h12 : k0_cond12 v8 v19 v30 v41 v52 k0_t9 = 1#1), ∀ a, (k0_off39 v8 v19 v30 v41 v52 k0_t9 v122) a + S1x128x9728.size a ≤ S5x3584x9728.size a) ∧
  (∀ a, (k0_off46 v8 v19 v30 v41 v52 k0_t9 v122) a + S1x128x9728.size a ≤ S5x3584x9728.size a)
theorem k0_off39_inb : ∀ (v8 : BitVec 32) (v19 : BitVec 32) (v30 : BitVec 32) (v41 : BitVec 32) (v52 : BitVec 32) (k0_t9 : Fin (k0_t9_loop v8 v19 v30 v41 v52).trips) (v122 : BitVec 32) (k0_hw6 : k0_chk6 v8 v19 v30 v41 v52 k0_t9 v122), ∀ (k0_h12 : k0_cond12 v8 v19 v30 v41 v52 k0_t9 = 1#1), ∀ a, (k0_off39 v8 v19 v30 v41 v52 k0_t9 v122) a + S1x128x9728.size a ≤ S5x3584x9728.size a := fun v8 v19 v30 v41 v52 k0_t9 v122 k0_hw6 k0_h12 => k0_hw6.1 k0_h12
theorem k0_off46_inb : ∀ (v8 : BitVec 32) (v19 : BitVec 32) (v30 : BitVec 32) (v41 : BitVec 32) (v52 : BitVec 32) (k0_t9 : Fin (k0_t9_loop v8 v19 v30 v41 v52).trips) (v122 : BitVec 32) (k0_hw6 : k0_chk6 v8 v19 v30 v41 v52 k0_t9 v122), ∀ a, (k0_off46 v8 v19 v30 v41 v52 k0_t9 v122) a + S1x128x9728.size a ≤ S5x3584x9728.size a := fun v8 v19 v30 v41 v52 k0_t9 v122 k0_hw6 => k0_hw6.2

def k0_off47 (v8 : BitVec 32) (v19 : BitVec 32) (v30 : BitVec 32) (v41 : BitVec 32) (v52 : BitVec 32) (k0_t9 : Fin (k0_t9_loop v8 v19 v30 v41 v52).trips) : Fin 3 → Nat :=
  let c0_i32_46 : BitVec 32 := 0#32
  let c0_i32_47 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c0_i32_41 : BitVec 32 := 0#32
  let v78 : BitVec 32 := Scalar.subi v77 c0_i32_41
  let c1_i32_42 : BitVec 32 := 1#32
  let c1_i32_43 : BitVec 32 := 1#32
  let v79 : BitVec 32 := Scalar.subi c1_i32_42 c1_i32_43
  let v80 : BitVec 32 := Scalar.addi v78 v79
  let c1_i32_44 : BitVec 32 := 1#32
  let v81 : BitVec 32 := Scalar.divsi v80 c1_i32_44
  let v82 : BitVec 32 := Scalar.subi v81 c0_i32_47
  let c1_i32_48 : BitVec 32 := 1#32
  let v84 : BitVec 32 := Scalar.divsi v82 c1_i32_48
  let v85 : BitVec 32 := Scalar.muli v84 c1_i32_48
  let v86 : BitVec 32 := Scalar.addi c0_i32_47 v85
  let c1_i32_50 : BitVec 32 := 1#32
  let arg23 : BitVec 32 := Scf.iv v86 c1_i32_50 k0_t9
  let c1_i32_45 : BitVec 32 := 1#32
  let v116 : BitVec 32 := Scalar.muli arg23 c1_i32_45
  let v117 : BitVec 32 := Scalar.addi c0_i32_46 v116
  let c4_i32_76 : BitVec 32 := 4#32
  let v118 : BitVec 32 := Scalar.remsi v117 c4_i32_76
  let c0_i32_93 : BitVec 32 := 0#32
  let c0_i32_94 : BitVec 32 := 0#32
  ![v118.toNat, 0, 0]
@[reducible] def k0_t10_loop (v8 : BitVec 32) (v19 : BitVec 32) (v30 : BitVec 32) (v41 : BitVec 32) (v52 : BitVec 32) : Scf.Loop 32 :=
  let c0_i32_57 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c4_i32 : BitVec 32 := 4#32
  let v87 : BitVec 32 := Scalar.minsi v77 c4_i32
  let c0_i32_51 : BitVec 32 := 0#32
  let v88 : BitVec 32 := Scalar.subi v87 c0_i32_51
  let c1_i32_52 : BitVec 32 := 1#32
  let c1_i32_53 : BitVec 32 := 1#32
  let v89 : BitVec 32 := Scalar.subi c1_i32_52 c1_i32_53
  let v90 : BitVec 32 := Scalar.addi v88 v89
  let c1_i32_54 : BitVec 32 := 1#32
  let v91 : BitVec 32 := Scalar.divsi v90 c1_i32_54
  let v92 : BitVec 32 := Scalar.subi v91 c0_i32_57
  let c1_i32_58 : BitVec 32 := 1#32
  let v94 : BitVec 32 := Scalar.divsi v92 c1_i32_58
  let v95 : BitVec 32 := Scalar.muli v94 c1_i32_58
  let v96 : BitVec 32 := Scalar.addi c0_i32_57 v95
  let c1_i32_59 : BitVec 32 := 1#32
  ⟨c0_i32_57, v96, c1_i32_59⟩
def k0_off48 (v8 : BitVec 32) (v19 : BitVec 32) (v30 : BitVec 32) (v41 : BitVec 32) (v52 : BitVec 32) (k0_t10 : Fin (k0_t10_loop v8 v19 v30 v41 v52).trips) : Fin 1 → Nat :=
  let c0_i32_56 : BitVec 32 := 0#32
  let c0_i32_57 : BitVec 32 := 0#32
  let c1_i32_59 : BitVec 32 := 1#32
  let arg23 : BitVec 32 := Scf.iv c0_i32_57 c1_i32_59 k0_t10
  let c1_i32_55 : BitVec 32 := 1#32
  let v116 : BitVec 32 := Scalar.muli arg23 c1_i32_55
  let v117 : BitVec 32 := Scalar.addi c0_i32_56 v116
  ![v117.toNat]
def k0_off49 (v8 : BitVec 32) (v19 : BitVec 32) (v30 : BitVec 32) (v41 : BitVec 32) (v52 : BitVec 32) (k0_t10 : Fin (k0_t10_loop v8 v19 v30 v41 v52).trips) : Fin 3 → Nat :=
  let c0_i32_56 : BitVec 32 := 0#32
  let c0_i32_57 : BitVec 32 := 0#32
  let c1_i32_59 : BitVec 32 := 1#32
  let arg23 : BitVec 32 := Scf.iv c0_i32_57 c1_i32_59 k0_t10
  let c1_i32_55 : BitVec 32 := 1#32
  let v116 : BitVec 32 := Scalar.muli arg23 c1_i32_55
  let v117 : BitVec 32 := Scalar.addi c0_i32_56 v116
  let c0_i32_79 : BitVec 32 := 0#32
  let c0_i32_80 : BitVec 32 := 0#32
  ![v117.toNat, 0, 0]
@[reducible] def k0_t11_loop (v8 : BitVec 32) (v19 : BitVec 32) (v30 : BitVec 32) (v41 : BitVec 32) (v52 : BitVec 32) : Scf.Loop 32 :=
  let c0_i32_57 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c4_i32 : BitVec 32 := 4#32
  let v87 : BitVec 32 := Scalar.minsi v77 c4_i32
  let c0_i32_51 : BitVec 32 := 0#32
  let v88 : BitVec 32 := Scalar.subi v87 c0_i32_51
  let c1_i32_52 : BitVec 32 := 1#32
  let c1_i32_53 : BitVec 32 := 1#32
  let v89 : BitVec 32 := Scalar.subi c1_i32_52 c1_i32_53
  let v90 : BitVec 32 := Scalar.addi v88 v89
  let c1_i32_54 : BitVec 32 := 1#32
  let v91 : BitVec 32 := Scalar.divsi v90 c1_i32_54
  let v92 : BitVec 32 := Scalar.subi v91 c0_i32_57
  let c1_i32_58 : BitVec 32 := 1#32
  let v94 : BitVec 32 := Scalar.divsi v92 c1_i32_58
  let v95 : BitVec 32 := Scalar.muli v94 c1_i32_58
  let v96 : BitVec 32 := Scalar.addi c0_i32_57 v95
  let v93 : BitVec 32 := Scalar.addi c0_i32_57 v92
  let c1_i32_60 : BitVec 32 := 1#32
  ⟨v96, v93, c1_i32_60⟩
def k0_off50 (v8 : BitVec 32) (v19 : BitVec 32) (v30 : BitVec 32) (v41 : BitVec 32) (v52 : BitVec 32) (k0_t11 : Fin (k0_t11_loop v8 v19 v30 v41 v52).trips) : Fin 1 → Nat :=
  let c0_i32_56 : BitVec 32 := 0#32
  let c0_i32_57 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c4_i32 : BitVec 32 := 4#32
  let v87 : BitVec 32 := Scalar.minsi v77 c4_i32
  let c0_i32_51 : BitVec 32 := 0#32
  let v88 : BitVec 32 := Scalar.subi v87 c0_i32_51
  let c1_i32_52 : BitVec 32 := 1#32
  let c1_i32_53 : BitVec 32 := 1#32
  let v89 : BitVec 32 := Scalar.subi c1_i32_52 c1_i32_53
  let v90 : BitVec 32 := Scalar.addi v88 v89
  let c1_i32_54 : BitVec 32 := 1#32
  let v91 : BitVec 32 := Scalar.divsi v90 c1_i32_54
  let v92 : BitVec 32 := Scalar.subi v91 c0_i32_57
  let c1_i32_58 : BitVec 32 := 1#32
  let v94 : BitVec 32 := Scalar.divsi v92 c1_i32_58
  let v95 : BitVec 32 := Scalar.muli v94 c1_i32_58
  let v96 : BitVec 32 := Scalar.addi c0_i32_57 v95
  let c1_i32_60 : BitVec 32 := 1#32
  let arg23 : BitVec 32 := Scf.iv v96 c1_i32_60 k0_t11
  let c1_i32_55 : BitVec 32 := 1#32
  let v116 : BitVec 32 := Scalar.muli arg23 c1_i32_55
  let v117 : BitVec 32 := Scalar.addi c0_i32_56 v116
  ![v117.toNat]
def k0_off51 (v8 : BitVec 32) (v19 : BitVec 32) (v30 : BitVec 32) (v41 : BitVec 32) (v52 : BitVec 32) (k0_t11 : Fin (k0_t11_loop v8 v19 v30 v41 v52).trips) : Fin 3 → Nat :=
  let c0_i32_56 : BitVec 32 := 0#32
  let c0_i32_57 : BitVec 32 := 0#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let c28_i32 : BitVec 32 := 28#32
  let v77 : BitVec 32 := Scalar.muli v62 c28_i32
  let c4_i32 : BitVec 32 := 4#32
  let v87 : BitVec 32 := Scalar.minsi v77 c4_i32
  let c0_i32_51 : BitVec 32 := 0#32
  let v88 : BitVec 32 := Scalar.subi v87 c0_i32_51
  let c1_i32_52 : BitVec 32 := 1#32
  let c1_i32_53 : BitVec 32 := 1#32
  let v89 : BitVec 32 := Scalar.subi c1_i32_52 c1_i32_53
  let v90 : BitVec 32 := Scalar.addi v88 v89
  let c1_i32_54 : BitVec 32 := 1#32
  let v91 : BitVec 32 := Scalar.divsi v90 c1_i32_54
  let v92 : BitVec 32 := Scalar.subi v91 c0_i32_57
  let c1_i32_58 : BitVec 32 := 1#32
  let v94 : BitVec 32 := Scalar.divsi v92 c1_i32_58
  let v95 : BitVec 32 := Scalar.muli v94 c1_i32_58
  let v96 : BitVec 32 := Scalar.addi c0_i32_57 v95
  let c1_i32_60 : BitVec 32 := 1#32
  let arg23 : BitVec 32 := Scf.iv v96 c1_i32_60 k0_t11
  let c1_i32_55 : BitVec 32 := 1#32
  let v116 : BitVec 32 := Scalar.muli arg23 c1_i32_55
  let v117 : BitVec 32 := Scalar.addi c0_i32_56 v116
  let c0_i32_79 : BitVec 32 := 0#32
  let c0_i32_80 : BitVec 32 := 0#32
  ![v117.toNat, 0, 0]
@[reducible] def k0_t12_loop (v8 : BitVec 32) (v19 : BitVec 32) (v30 : BitVec 32) (v41 : BitVec 32) (v52 : BitVec 32) : Scf.Loop 32 :=
  let c0_i32_68 : BitVec 32 := 0#32
  let c5_i32 : BitVec 32 := 5#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let v97 : BitVec 32 := Scalar.subi c5_i32 v62
  let c28_i32_61 : BitVec 32 := 28#32
  let v98 : BitVec 32 := Scalar.muli v97 c28_i32_61
  let c0_i32_62 : BitVec 32 := 0#32
  let v99 : BitVec 32 := Scalar.subi v98 c0_i32_62
  let c1_i32_63 : BitVec 32 := 1#32
  let c1_i32_64 : BitVec 32 := 1#32
  let v100 : BitVec 32 := Scalar.subi c1_i32_63 c1_i32_64
  let v101 : BitVec 32 := Scalar.addi v99 v100
  let c1_i32_65 : BitVec 32 := 1#32
  let v102 : BitVec 32 := Scalar.divsi v101 c1_i32_65
  let v103 : BitVec 32 := Scalar.subi v102 c0_i32_68
  let c1_i32_69 : BitVec 32 := 1#32
  let v105 : BitVec 32 := Scalar.divsi v103 c1_i32_69
  let v106 : BitVec 32 := Scalar.muli v105 c1_i32_69
  let v107 : BitVec 32 := Scalar.addi c0_i32_68 v106
  let c1_i32_70 : BitVec 32 := 1#32
  ⟨c0_i32_68, v107, c1_i32_70⟩
@[reducible] def k0_t13_loop (v8 : BitVec 32) (v19 : BitVec 32) (v30 : BitVec 32) (v41 : BitVec 32) (v52 : BitVec 32) : Scf.Loop 32 :=
  let c0_i32_68 : BitVec 32 := 0#32
  let c5_i32 : BitVec 32 := 5#32
  let c0_i32_10 : BitVec 32 := 0#32
  let c0_i32_9 : BitVec 32 := 0#32
  let v16 : BitVec 1 := Scalar.cmpi .sgt v8 c0_i32_9
  let v17 : BitVec 32 := Scalar.extui v16
  let v18 : BitVec 32 := Scalar.addi c0_i32_10 v17
  let c0_i32_15 : BitVec 32 := 0#32
  let v27 : BitVec 1 := Scalar.cmpi .sgt v19 c0_i32_15
  let v28 : BitVec 32 := Scalar.extui v27
  let v29 : BitVec 32 := Scalar.addi v18 v28
  let c0_i32_20 : BitVec 32 := 0#32
  let v38 : BitVec 1 := Scalar.cmpi .sgt v30 c0_i32_20
  let v39 : BitVec 32 := Scalar.extui v38
  let v40 : BitVec 32 := Scalar.addi v29 v39
  let c0_i32_25 : BitVec 32 := 0#32
  let v49 : BitVec 1 := Scalar.cmpi .sgt v41 c0_i32_25
  let v50 : BitVec 32 := Scalar.extui v49
  let v51 : BitVec 32 := Scalar.addi v40 v50
  let c0_i32_30 : BitVec 32 := 0#32
  let v60 : BitVec 1 := Scalar.cmpi .sgt v52 c0_i32_30
  let v61 : BitVec 32 := Scalar.extui v60
  let v62 : BitVec 32 := Scalar.addi v51 v61
  let v97 : BitVec 32 := Scalar.subi c5_i32 v62
  let c28_i32_61 : BitVec 32 := 28#32
  let v98 : BitVec 32 := Scalar.muli v97 c28_i32_61
  let c0_i32_62 : BitVec 32 := 0#32
  let v99 : BitVec 32 := Scalar.subi v98 c0_i32_62
  let c1_i32_63 : BitVec 32 := 1#32
  let c1_i32_64 : BitVec 32 := 1#32
  let v100 : BitVec 32 := Scalar.subi c1_i32_63 c1_i32_64
  let v101 : BitVec 32 := Scalar.addi v99 v100
  let c1_i32_65 : BitVec 32 := 1#32
  let v102 : BitVec 32 := Scalar.divsi v101 c1_i32_65
  let v103 : BitVec 32 := Scalar.subi v102 c0_i32_68
  let c1_i32_69 : BitVec 32 := 1#32
  let v105 : BitVec 32 := Scalar.divsi v103 c1_i32_69
  let v106 : BitVec 32 := Scalar.muli v105 c1_i32_69
  let v107 : BitVec 32 := Scalar.addi c0_i32_68 v106
  let v104 : BitVec 32 := Scalar.addi c0_i32_68 v103
  let c1_i32_71 : BitVec 32 := 1#32
  ⟨v107, v104, c1_i32_71⟩

def k0_chk4_0 (v8 : BitVec 32) (v19 : BitVec 32) (v30 : BitVec 32) (v41 : BitVec 32) (v52 : BitVec 32) : Prop :=
  (∀ (k0_h9 : k0_cond9 v52 = 1#1), ∀ a, (k0_off14 v8 v19 v30 v41) a + S1x1.size a ≤ S3x5.size a) ∧
  (∀ (k0_h9 : k0_cond9 v52 = 1#1), ∀ a, (k0_off15 v8 v19 v30 v41) a + S1x1.size a ≤ S3x5.size a) ∧
  (∀ (k0_h9 : k0_cond9 v52 = 1#1), ∀ a, (k0_off16 v8 v19 v30 v41) a + S1x1.size a ≤ S3x5.size a) ∧
  ((k0_t8_loop v8 v19 v30 v41 v52).OK) ∧
  (∀ k0_t8 : Fin (k0_t8_loop v8 v19 v30 v41 v52).trips, ∀ a, (k0_off26 v8 v19 v30 v41 v52 k0_t8) a + S1x1.size a ≤ S3x5.size a) ∧
  (∀ k0_t8 : Fin (k0_t8_loop v8 v19 v30 v41 v52).trips, ∀ (k0_h11 : k0_cond11 v8 v19 v30 v41 v52 k0_t8 = 1#1), ∀ a, (k0_off27 v8 v19 v30 v41 v52 k0_t8) a + S1.size a ≤ S4.size a) ∧
  (∀ k0_t8 : Fin (k0_t8_loop v8 v19 v30 v41 v52).trips, ∀ (k0_h11 : k0_cond11 v8 v19 v30 v41 v52 k0_t8 = 1#1), ∀ a, (k0_off29 v8 v19 v30 v41 v52 k0_t8) a + S1x128x9728.size a ≤ S4x128x9728.size a) ∧
  (∀ k0_t8 : Fin (k0_t8_loop v8 v19 v30 v41 v52).trips, 128 ∣ (k0_mult3 v8 v19 v30 v41 v52 k0_t8).toNat) ∧
  (∀ k0_t8 : Fin (k0_t8_loop v8 v19 v30 v41 v52).trips, ∀ a, (k0_off30 v8 v19 v30 v41 v52 k0_t8) a + S1x1.size a ≤ S3x5.size a) ∧
  (∀ k0_t8 : Fin (k0_t8_loop v8 v19 v30 v41 v52).trips, ∀ a, (k0_off31 v8 v19 v30 v41 v52 k0_t8) a + S1x1.size a ≤ S3x5.size a) ∧
  (∀ k0_t8 : Fin (k0_t8_loop v8 v19 v30 v41 v52).trips, ∀ a, (k0_off32 v8 v19 v30 v41 v52 k0_t8) a + S128x256.size a ≤ S3584x256.size a) ∧
  (∀ k0_t8 : Fin (k0_t8_loop v8 v19 v30 v41 v52).trips, ∀ a, (k0_off33 v8 v19 v30 v41 v52 k0_t8) a + S1x128x9728.size a ≤ S4x128x9728.size a) ∧
  (∀ k0_t8 : Fin (k0_t8_loop v8 v19 v30 v41 v52).trips, ∀ a, (k0_off34 v8 v19 v30 v41 v52 k0_t8) a + S1.size a ≤ S4.size a) ∧
  (∀ k0_t8 : Fin (k0_t8_loop v8 v19 v30 v41 v52).trips, ∀ a, (k0_off36 v8 v19 v30 v41 v52 k0_t8) a + S1x128x9728.size a ≤ S4x128x9728.size a) ∧
  ((k0_t9_loop v8 v19 v30 v41 v52).OK) ∧
  (∀ k0_t9 : Fin (k0_t9_loop v8 v19 v30 v41 v52).trips, ∀ a, (k0_off37 v8 v19 v30 v41 v52 k0_t9) a + S1x1.size a ≤ S3x5.size a) ∧
  (∀ k0_t9 : Fin (k0_t9_loop v8 v19 v30 v41 v52).trips, ∀ (k0_h12 : k0_cond12 v8 v19 v30 v41 v52 k0_t9 = 1#1), ∀ a, (k0_off38 v8 v19 v30 v41 v52 k0_t9) a + S1.size a ≤ S4.size a) ∧
  (∀ k0_t9 : Fin (k0_t9_loop v8 v19 v30 v41 v52).trips, ∀ (k0_h12 : k0_cond12 v8 v19 v30 v41 v52 k0_t9 = 1#1), ∀ a, (k0_off40 v8 v19 v30 v41 v52 k0_t9) a + S1x128x9728.size a ≤ S4x128x9728.size a) ∧
  (∀ k0_t9 : Fin (k0_t9_loop v8 v19 v30 v41 v52).trips, 128 ∣ (k0_mult4 v8 v19 v30 v41 v52 k0_t9).toNat) ∧
  (∀ k0_t9 : Fin (k0_t9_loop v8 v19 v30 v41 v52).trips, ∀ a, (k0_off41 v8 v19 v30 v41 v52 k0_t9) a + S1x1.size a ≤ S3x5.size a) ∧
  (∀ k0_t9 : Fin (k0_t9_loop v8 v19 v30 v41 v52).trips, ∀ a, (k0_off42 v8 v19 v30 v41 v52 k0_t9) a + S1x1.size a ≤ S3x5.size a) ∧
  (∀ k0_t9 : Fin (k0_t9_loop v8 v19 v30 v41 v52).trips, ∀ a, (k0_off43 v8 v19 v30 v41 v52 k0_t9) a + S128x256.size a ≤ S3584x256.size a) ∧
  (∀ k0_t9 : Fin (k0_t9_loop v8 v19 v30 v41 v52).trips, ∀ a, (k0_off44 v8 v19 v30 v41 v52 k0_t9) a + S1x128x9728.size a ≤ S4x128x9728.size a) ∧
  (∀ k0_t9 : Fin (k0_t9_loop v8 v19 v30 v41 v52).trips, ∀ a, (k0_off45 v8 v19 v30 v41 v52 k0_t9) a + S1.size a ≤ S4.size a) ∧
  (∀ k0_t9 : Fin (k0_t9_loop v8 v19 v30 v41 v52).trips, ∀ a, (k0_off47 v8 v19 v30 v41 v52 k0_t9) a + S1x128x9728.size a ≤ S4x128x9728.size a) ∧
  ((k0_t10_loop v8 v19 v30 v41 v52).OK) ∧
  (∀ k0_t10 : Fin (k0_t10_loop v8 v19 v30 v41 v52).trips, ∀ a, (k0_off48 v8 v19 v30 v41 v52 k0_t10) a + S1.size a ≤ S4.size a) ∧
  (∀ k0_t10 : Fin (k0_t10_loop v8 v19 v30 v41 v52).trips, ∀ a, (k0_off49 v8 v19 v30 v41 v52 k0_t10) a + S1x128x9728.size a ≤ S4x128x9728.size a) ∧
  ((k0_t11_loop v8 v19 v30 v41 v52).OK) ∧
  (∀ k0_t11 : Fin (k0_t11_loop v8 v19 v30 v41 v52).trips, ∀ a, (k0_off50 v8 v19 v30 v41 v52 k0_t11) a + S1.size a ≤ S4.size a) ∧
  (∀ k0_t11 : Fin (k0_t11_loop v8 v19 v30 v41 v52).trips, ∀ a, (k0_off51 v8 v19 v30 v41 v52 k0_t11) a + S1x128x9728.size a ≤ S4x128x9728.size a) ∧
  ((k0_t12_loop v8 v19 v30 v41 v52).OK)
def k0_chk4_1 (v8 : BitVec 32) (v19 : BitVec 32) (v30 : BitVec 32) (v41 : BitVec 32) (v52 : BitVec 32) : Prop :=
  ((k0_t13_loop v8 v19 v30 v41 v52).OK)
def k0_chk4 (v8 : BitVec 32) (v19 : BitVec 32) (v30 : BitVec 32) (v41 : BitVec 32) (v52 : BitVec 32) : Prop :=
  k0_chk4_0 v8 v19 v30 v41 v52 ∧
  k0_chk4_1 v8 v19 v30 v41 v52
theorem k0_off14_inb : ∀ (v8 : BitVec 32) (v19 : BitVec 32) (v30 : BitVec 32) (v41 : BitVec 32) (v52 : BitVec 32) (k0_hw4 : k0_chk4 v8 v19 v30 v41 v52), ∀ (k0_h9 : k0_cond9 v52 = 1#1), ∀ a, (k0_off14 v8 v19 v30 v41) a + S1x1.size a ≤ S3x5.size a := fun v8 v19 v30 v41 v52 k0_hw4 k0_h9 => k0_hw4.1.1 k0_h9
theorem k0_off15_inb : ∀ (v8 : BitVec 32) (v19 : BitVec 32) (v30 : BitVec 32) (v41 : BitVec 32) (v52 : BitVec 32) (k0_hw4 : k0_chk4 v8 v19 v30 v41 v52), ∀ (k0_h9 : k0_cond9 v52 = 1#1), ∀ a, (k0_off15 v8 v19 v30 v41) a + S1x1.size a ≤ S3x5.size a := fun v8 v19 v30 v41 v52 k0_hw4 k0_h9 => k0_hw4.1.2.1 k0_h9
theorem k0_off16_inb : ∀ (v8 : BitVec 32) (v19 : BitVec 32) (v30 : BitVec 32) (v41 : BitVec 32) (v52 : BitVec 32) (k0_hw4 : k0_chk4 v8 v19 v30 v41 v52), ∀ (k0_h9 : k0_cond9 v52 = 1#1), ∀ a, (k0_off16 v8 v19 v30 v41) a + S1x1.size a ≤ S3x5.size a := fun v8 v19 v30 v41 v52 k0_hw4 k0_h9 => k0_hw4.1.2.2.1 k0_h9
theorem k0_t8_ok : ∀ (v8 : BitVec 32) (v19 : BitVec 32) (v30 : BitVec 32) (v41 : BitVec 32) (v52 : BitVec 32) (k0_hw4 : k0_chk4 v8 v19 v30 v41 v52), (k0_t8_loop v8 v19 v30 v41 v52).OK := fun v8 v19 v30 v41 v52 k0_hw4 => k0_hw4.1.2.2.2.1
theorem k0_off26_inb : ∀ (v8 : BitVec 32) (v19 : BitVec 32) (v30 : BitVec 32) (v41 : BitVec 32) (v52 : BitVec 32) (k0_hw4 : k0_chk4 v8 v19 v30 v41 v52) (k0_t8 : Fin (k0_t8_loop v8 v19 v30 v41 v52).trips), ∀ a, (k0_off26 v8 v19 v30 v41 v52 k0_t8) a + S1x1.size a ≤ S3x5.size a := fun v8 v19 v30 v41 v52 k0_hw4 k0_t8 => k0_hw4.1.2.2.2.2.1 k0_t8
theorem k0_off27_inb : ∀ (v8 : BitVec 32) (v19 : BitVec 32) (v30 : BitVec 32) (v41 : BitVec 32) (v52 : BitVec 32) (k0_hw4 : k0_chk4 v8 v19 v30 v41 v52) (k0_t8 : Fin (k0_t8_loop v8 v19 v30 v41 v52).trips), ∀ (k0_h11 : k0_cond11 v8 v19 v30 v41 v52 k0_t8 = 1#1), ∀ a, (k0_off27 v8 v19 v30 v41 v52 k0_t8) a + S1.size a ≤ S4.size a := fun v8 v19 v30 v41 v52 k0_hw4 k0_t8 k0_h11 => k0_hw4.1.2.2.2.2.2.1 k0_t8 k0_h11
theorem k0_off29_inb : ∀ (v8 : BitVec 32) (v19 : BitVec 32) (v30 : BitVec 32) (v41 : BitVec 32) (v52 : BitVec 32) (k0_hw4 : k0_chk4 v8 v19 v30 v41 v52) (k0_t8 : Fin (k0_t8_loop v8 v19 v30 v41 v52).trips), ∀ (k0_h11 : k0_cond11 v8 v19 v30 v41 v52 k0_t8 = 1#1), ∀ a, (k0_off29 v8 v19 v30 v41 v52 k0_t8) a + S1x128x9728.size a ≤ S4x128x9728.size a := fun v8 v19 v30 v41 v52 k0_hw4 k0_t8 k0_h11 => k0_hw4.1.2.2.2.2.2.2.1 k0_t8 k0_h11
theorem k0_mult3_dvd : ∀ (v8 : BitVec 32) (v19 : BitVec 32) (v30 : BitVec 32) (v41 : BitVec 32) (v52 : BitVec 32) (k0_hw4 : k0_chk4 v8 v19 v30 v41 v52) (k0_t8 : Fin (k0_t8_loop v8 v19 v30 v41 v52).trips), 128 ∣ (k0_mult3 v8 v19 v30 v41 v52 k0_t8).toNat := fun v8 v19 v30 v41 v52 k0_hw4 k0_t8 => k0_hw4.1.2.2.2.2.2.2.2.1 k0_t8
theorem k0_off30_inb : ∀ (v8 : BitVec 32) (v19 : BitVec 32) (v30 : BitVec 32) (v41 : BitVec 32) (v52 : BitVec 32) (k0_hw4 : k0_chk4 v8 v19 v30 v41 v52) (k0_t8 : Fin (k0_t8_loop v8 v19 v30 v41 v52).trips), ∀ a, (k0_off30 v8 v19 v30 v41 v52 k0_t8) a + S1x1.size a ≤ S3x5.size a := fun v8 v19 v30 v41 v52 k0_hw4 k0_t8 => k0_hw4.1.2.2.2.2.2.2.2.2.1 k0_t8
theorem k0_off31_inb : ∀ (v8 : BitVec 32) (v19 : BitVec 32) (v30 : BitVec 32) (v41 : BitVec 32) (v52 : BitVec 32) (k0_hw4 : k0_chk4 v8 v19 v30 v41 v52) (k0_t8 : Fin (k0_t8_loop v8 v19 v30 v41 v52).trips), ∀ a, (k0_off31 v8 v19 v30 v41 v52 k0_t8) a + S1x1.size a ≤ S3x5.size a := fun v8 v19 v30 v41 v52 k0_hw4 k0_t8 => k0_hw4.1.2.2.2.2.2.2.2.2.2.1 k0_t8
theorem k0_off32_inb : ∀ (v8 : BitVec 32) (v19 : BitVec 32) (v30 : BitVec 32) (v41 : BitVec 32) (v52 : BitVec 32) (k0_hw4 : k0_chk4 v8 v19 v30 v41 v52) (k0_t8 : Fin (k0_t8_loop v8 v19 v30 v41 v52).trips), ∀ a, (k0_off32 v8 v19 v30 v41 v52 k0_t8) a + S128x256.size a ≤ S3584x256.size a := fun v8 v19 v30 v41 v52 k0_hw4 k0_t8 => k0_hw4.1.2.2.2.2.2.2.2.2.2.2.1 k0_t8
theorem k0_off33_inb : ∀ (v8 : BitVec 32) (v19 : BitVec 32) (v30 : BitVec 32) (v41 : BitVec 32) (v52 : BitVec 32) (k0_hw4 : k0_chk4 v8 v19 v30 v41 v52) (k0_t8 : Fin (k0_t8_loop v8 v19 v30 v41 v52).trips), ∀ a, (k0_off33 v8 v19 v30 v41 v52 k0_t8) a + S1x128x9728.size a ≤ S4x128x9728.size a := fun v8 v19 v30 v41 v52 k0_hw4 k0_t8 => k0_hw4.1.2.2.2.2.2.2.2.2.2.2.2.1 k0_t8
theorem k0_off34_inb : ∀ (v8 : BitVec 32) (v19 : BitVec 32) (v30 : BitVec 32) (v41 : BitVec 32) (v52 : BitVec 32) (k0_hw4 : k0_chk4 v8 v19 v30 v41 v52) (k0_t8 : Fin (k0_t8_loop v8 v19 v30 v41 v52).trips), ∀ a, (k0_off34 v8 v19 v30 v41 v52 k0_t8) a + S1.size a ≤ S4.size a := fun v8 v19 v30 v41 v52 k0_hw4 k0_t8 => k0_hw4.1.2.2.2.2.2.2.2.2.2.2.2.2.1 k0_t8
theorem k0_off36_inb : ∀ (v8 : BitVec 32) (v19 : BitVec 32) (v30 : BitVec 32) (v41 : BitVec 32) (v52 : BitVec 32) (k0_hw4 : k0_chk4 v8 v19 v30 v41 v52) (k0_t8 : Fin (k0_t8_loop v8 v19 v30 v41 v52).trips), ∀ a, (k0_off36 v8 v19 v30 v41 v52 k0_t8) a + S1x128x9728.size a ≤ S4x128x9728.size a := fun v8 v19 v30 v41 v52 k0_hw4 k0_t8 => k0_hw4.1.2.2.2.2.2.2.2.2.2.2.2.2.2.1 k0_t8
theorem k0_t9_ok : ∀ (v8 : BitVec 32) (v19 : BitVec 32) (v30 : BitVec 32) (v41 : BitVec 32) (v52 : BitVec 32) (k0_hw4 : k0_chk4 v8 v19 v30 v41 v52), (k0_t9_loop v8 v19 v30 v41 v52).OK := fun v8 v19 v30 v41 v52 k0_hw4 => k0_hw4.1.2.2.2.2.2.2.2.2.2.2.2.2.2.2.1
theorem k0_off37_inb : ∀ (v8 : BitVec 32) (v19 : BitVec 32) (v30 : BitVec 32) (v41 : BitVec 32) (v52 : BitVec 32) (k0_hw4 : k0_chk4 v8 v19 v30 v41 v52) (k0_t9 : Fin (k0_t9_loop v8 v19 v30 v41 v52).trips), ∀ a, (k0_off37 v8 v19 v30 v41 v52 k0_t9) a + S1x1.size a ≤ S3x5.size a := fun v8 v19 v30 v41 v52 k0_hw4 k0_t9 => k0_hw4.1.2.2.2.2.2.2.2.2.2.2.2.2.2.2.2.1 k0_t9
theorem k0_off38_inb : ∀ (v8 : BitVec 32) (v19 : BitVec 32) (v30 : BitVec 32) (v41 : BitVec 32) (v52 : BitVec 32) (k0_hw4 : k0_chk4 v8 v19 v30 v41 v52) (k0_t9 : Fin (k0_t9_loop v8 v19 v30 v41 v52).trips), ∀ (k0_h12 : k0_cond12 v8 v19 v30 v41 v52 k0_t9 = 1#1), ∀ a, (k0_off38 v8 v19 v30 v41 v52 k0_t9) a + S1.size a ≤ S4.size a := fun v8 v19 v30 v41 v52 k0_hw4 k0_t9 k0_h12 => k0_hw4.1.2.2.2.2.2.2.2.2.2.2.2.2.2.2.2.2.1 k0_t9 k0_h12
theorem k0_off40_inb : ∀ (v8 : BitVec 32) (v19 : BitVec 32) (v30 : BitVec 32) (v41 : BitVec 32) (v52 : BitVec 32) (k0_hw4 : k0_chk4 v8 v19 v30 v41 v52) (k0_t9 : Fin (k0_t9_loop v8 v19 v30 v41 v52).trips), ∀ (k0_h12 : k0_cond12 v8 v19 v30 v41 v52 k0_t9 = 1#1), ∀ a, (k0_off40 v8 v19 v30 v41 v52 k0_t9) a + S1x128x9728.size a ≤ S4x128x9728.size a := fun v8 v19 v30 v41 v52 k0_hw4 k0_t9 k0_h12 => k0_hw4.1.2.2.2.2.2.2.2.2.2.2.2.2.2.2.2.2.2.1 k0_t9 k0_h12
theorem k0_mult4_dvd : ∀ (v8 : BitVec 32) (v19 : BitVec 32) (v30 : BitVec 32) (v41 : BitVec 32) (v52 : BitVec 32) (k0_hw4 : k0_chk4 v8 v19 v30 v41 v52) (k0_t9 : Fin (k0_t9_loop v8 v19 v30 v41 v52).trips), 128 ∣ (k0_mult4 v8 v19 v30 v41 v52 k0_t9).toNat := fun v8 v19 v30 v41 v52 k0_hw4 k0_t9 => k0_hw4.1.2.2.2.2.2.2.2.2.2.2.2.2.2.2.2.2.2.2.1 k0_t9
theorem k0_off41_inb : ∀ (v8 : BitVec 32) (v19 : BitVec 32) (v30 : BitVec 32) (v41 : BitVec 32) (v52 : BitVec 32) (k0_hw4 : k0_chk4 v8 v19 v30 v41 v52) (k0_t9 : Fin (k0_t9_loop v8 v19 v30 v41 v52).trips), ∀ a, (k0_off41 v8 v19 v30 v41 v52 k0_t9) a + S1x1.size a ≤ S3x5.size a := fun v8 v19 v30 v41 v52 k0_hw4 k0_t9 => k0_hw4.1.2.2.2.2.2.2.2.2.2.2.2.2.2.2.2.2.2.2.2.1 k0_t9
theorem k0_off42_inb : ∀ (v8 : BitVec 32) (v19 : BitVec 32) (v30 : BitVec 32) (v41 : BitVec 32) (v52 : BitVec 32) (k0_hw4 : k0_chk4 v8 v19 v30 v41 v52) (k0_t9 : Fin (k0_t9_loop v8 v19 v30 v41 v52).trips), ∀ a, (k0_off42 v8 v19 v30 v41 v52 k0_t9) a + S1x1.size a ≤ S3x5.size a := fun v8 v19 v30 v41 v52 k0_hw4 k0_t9 => k0_hw4.1.2.2.2.2.2.2.2.2.2.2.2.2.2.2.2.2.2.2.2.2.1 k0_t9
theorem k0_off43_inb : ∀ (v8 : BitVec 32) (v19 : BitVec 32) (v30 : BitVec 32) (v41 : BitVec 32) (v52 : BitVec 32) (k0_hw4 : k0_chk4 v8 v19 v30 v41 v52) (k0_t9 : Fin (k0_t9_loop v8 v19 v30 v41 v52).trips), ∀ a, (k0_off43 v8 v19 v30 v41 v52 k0_t9) a + S128x256.size a ≤ S3584x256.size a := fun v8 v19 v30 v41 v52 k0_hw4 k0_t9 => k0_hw4.1.2.2.2.2.2.2.2.2.2.2.2.2.2.2.2.2.2.2.2.2.2.1 k0_t9
theorem k0_off44_inb : ∀ (v8 : BitVec 32) (v19 : BitVec 32) (v30 : BitVec 32) (v41 : BitVec 32) (v52 : BitVec 32) (k0_hw4 : k0_chk4 v8 v19 v30 v41 v52) (k0_t9 : Fin (k0_t9_loop v8 v19 v30 v41 v52).trips), ∀ a, (k0_off44 v8 v19 v30 v41 v52 k0_t9) a + S1x128x9728.size a ≤ S4x128x9728.size a := fun v8 v19 v30 v41 v52 k0_hw4 k0_t9 => k0_hw4.1.2.2.2.2.2.2.2.2.2.2.2.2.2.2.2.2.2.2.2.2.2.2.1 k0_t9
theorem k0_off45_inb : ∀ (v8 : BitVec 32) (v19 : BitVec 32) (v30 : BitVec 32) (v41 : BitVec 32) (v52 : BitVec 32) (k0_hw4 : k0_chk4 v8 v19 v30 v41 v52) (k0_t9 : Fin (k0_t9_loop v8 v19 v30 v41 v52).trips), ∀ a, (k0_off45 v8 v19 v30 v41 v52 k0_t9) a + S1.size a ≤ S4.size a := fun v8 v19 v30 v41 v52 k0_hw4 k0_t9 => k0_hw4.1.2.2.2.2.2.2.2.2.2.2.2.2.2.2.2.2.2.2.2.2.2.2.2.1 k0_t9
theorem k0_off47_inb : ∀ (v8 : BitVec 32) (v19 : BitVec 32) (v30 : BitVec 32) (v41 : BitVec 32) (v52 : BitVec 32) (k0_hw4 : k0_chk4 v8 v19 v30 v41 v52) (k0_t9 : Fin (k0_t9_loop v8 v19 v30 v41 v52).trips), ∀ a, (k0_off47 v8 v19 v30 v41 v52 k0_t9) a + S1x128x9728.size a ≤ S4x128x9728.size a := fun v8 v19 v30 v41 v52 k0_hw4 k0_t9 => k0_hw4.1.2.2.2.2.2.2.2.2.2.2.2.2.2.2.2.2.2.2.2.2.2.2.2.2.1 k0_t9
theorem k0_t10_ok : ∀ (v8 : BitVec 32) (v19 : BitVec 32) (v30 : BitVec 32) (v41 : BitVec 32) (v52 : BitVec 32) (k0_hw4 : k0_chk4 v8 v19 v30 v41 v52), (k0_t10_loop v8 v19 v30 v41 v52).OK := fun v8 v19 v30 v41 v52 k0_hw4 => k0_hw4.1.2.2.2.2.2.2.2.2.2.2.2.2.2.2.2.2.2.2.2.2.2.2.2.2.2.1
theorem k0_off48_inb : ∀ (v8 : BitVec 32) (v19 : BitVec 32) (v30 : BitVec 32) (v41 : BitVec 32) (v52 : BitVec 32) (k0_hw4 : k0_chk4 v8 v19 v30 v41 v52) (k0_t10 : Fin (k0_t10_loop v8 v19 v30 v41 v52).trips), ∀ a, (k0_off48 v8 v19 v30 v41 v52 k0_t10) a + S1.size a ≤ S4.size a := fun v8 v19 v30 v41 v52 k0_hw4 k0_t10 => k0_hw4.1.2.2.2.2.2.2.2.2.2.2.2.2.2.2.2.2.2.2.2.2.2.2.2.2.2.2.1 k0_t10
theorem k0_off49_inb : ∀ (v8 : BitVec 32) (v19 : BitVec 32) (v30 : BitVec 32) (v41 : BitVec 32) (v52 : BitVec 32) (k0_hw4 : k0_chk4 v8 v19 v30 v41 v52) (k0_t10 : Fin (k0_t10_loop v8 v19 v30 v41 v52).trips), ∀ a, (k0_off49 v8 v19 v30 v41 v52 k0_t10) a + S1x128x9728.size a ≤ S4x128x9728.size a := fun v8 v19 v30 v41 v52 k0_hw4 k0_t10 => k0_hw4.1.2.2.2.2.2.2.2.2.2.2.2.2.2.2.2.2.2.2.2.2.2.2.2.2.2.2.2.1 k0_t10
theorem k0_t11_ok : ∀ (v8 : BitVec 32) (v19 : BitVec 32) (v30 : BitVec 32) (v41 : BitVec 32) (v52 : BitVec 32) (k0_hw4 : k0_chk4 v8 v19 v30 v41 v52), (k0_t11_loop v8 v19 v30 v41 v52).OK := fun v8 v19 v30 v41 v52 k0_hw4 => k0_hw4.1.2.2.2.2.2.2.2.2.2.2.2.2.2.2.2.2.2.2.2.2.2.2.2.2.2.2.2.2.1
theorem k0_off50_inb : ∀ (v8 : BitVec 32) (v19 : BitVec 32) (v30 : BitVec 32) (v41 : BitVec 32) (v52 : BitVec 32) (k0_hw4 : k0_chk4 v8 v19 v30 v41 v52) (k0_t11 : Fin (k0_t11_loop v8 v19 v30 v41 v52).trips), ∀ a, (k0_off50 v8 v19 v30 v41 v52 k0_t11) a + S1.size a ≤ S4.size a := fun v8 v19 v30 v41 v52 k0_hw4 k0_t11 => k0_hw4.1.2.2.2.2.2.2.2.2.2.2.2.2.2.2.2.2.2.2.2.2.2.2.2.2.2.2.2.2.2.1 k0_t11
theorem k0_off51_inb : ∀ (v8 : BitVec 32) (v19 : BitVec 32) (v30 : BitVec 32) (v41 : BitVec 32) (v52 : BitVec 32) (k0_hw4 : k0_chk4 v8 v19 v30 v41 v52) (k0_t11 : Fin (k0_t11_loop v8 v19 v30 v41 v52).trips), ∀ a, (k0_off51 v8 v19 v30 v41 v52 k0_t11) a + S1x128x9728.size a ≤ S4x128x9728.size a := fun v8 v19 v30 v41 v52 k0_hw4 k0_t11 => k0_hw4.1.2.2.2.2.2.2.2.2.2.2.2.2.2.2.2.2.2.2.2.2.2.2.2.2.2.2.2.2.2.2.1 k0_t11
theorem k0_t12_ok : ∀ (v8 : BitVec 32) (v19 : BitVec 32) (v30 : BitVec 32) (v41 : BitVec 32) (v52 : BitVec 32) (k0_hw4 : k0_chk4 v8 v19 v30 v41 v52), (k0_t12_loop v8 v19 v30 v41 v52).OK := fun v8 v19 v30 v41 v52 k0_hw4 => k0_hw4.1.2.2.2.2.2.2.2.2.2.2.2.2.2.2.2.2.2.2.2.2.2.2.2.2.2.2.2.2.2.2.2
theorem k0_t13_ok : ∀ (v8 : BitVec 32) (v19 : BitVec 32) (v30 : BitVec 32) (v41 : BitVec 32) (v52 : BitVec 32) (k0_hw4 : k0_chk4 v8 v19 v30 v41 v52), (k0_t13_loop v8 v19 v30 v41 v52).OK := fun v8 v19 v30 v41 v52 k0_hw4 => k0_hw4.2

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x128x3584 : Shape := ⟨3, ![2, 128, 3584]⟩
abbrev S2x128x9728 : Shape := ⟨3, ![2, 128, 9728]⟩
abbrev S5 : Shape := ⟨1, ![5]⟩
abbrev S5x3584x9728 : Shape := ⟨3, ![5, 3584, 9728]⟩
abbrev S2x4x3584 : Shape := ⟨3, ![2, 4, 3584]⟩
abbrev S2x4x9728 : Shape := ⟨3, ![2, 4, 9728]⟩
abbrev S2x4x32x3584 : Shape := ⟨4, ![2, 4, 32, 3584]⟩
abbrev S253x2x4x3584 : Shape := ⟨4, ![253, 2, 4, 3584]⟩
abbrev S1x2x4x3584 : Shape := ⟨4, ![1, 2, 4, 3584]⟩
abbrev S2x4x1x3584 : Shape := ⟨4, ![2, 4, 1, 3584]⟩
abbrev S2x4x32x9728 : Shape := ⟨4, ![2, 4, 32, 9728]⟩
abbrev S253x2x4x9728 : Shape := ⟨4, ![253, 2, 4, 9728]⟩
abbrev S1x2x4x9728 : Shape := ⟨4, ![1, 2, 4, 9728]⟩
abbrev S2x4x1x9728 : Shape := ⟨4, ![2, 4, 1, 9728]⟩
abbrev S256x3584 : Shape := ⟨2, ![256, 3584]⟩
abbrev S256x9728 : Shape := ⟨2, ![256, 9728]⟩
abbrev S1 : Shape := ⟨1, ![1]⟩
abbrev S3584x9728 : Shape := ⟨2, ![3584, 9728]⟩
abbrev S1x3584x9728 : Shape := ⟨3, ![1, 3584, 9728]⟩

abbrev nBuf : Space → Nat
  | .hbm => 8
  | .vmem => 7
  | .smem => 1
  | _ => 0

abbrev bufTy : (tb : Table) → Fin (tcTables nBuf tb) → BufTy
  | .hbm, ⟨0, _⟩ => ⟨S2x128x3584, .bf16⟩
  | .hbm, ⟨1, _⟩ => ⟨S2x128x9728, .bf16⟩
  | .hbm, ⟨2, _⟩ => ⟨S5, .i32⟩
  | .hbm, ⟨3, _⟩ => ⟨S5x3584x9728, .f32⟩
  | .hbm, ⟨4, _⟩ => ⟨S2x128x3584, .fp8e4m3⟩
  | .hbm, ⟨5, _⟩ => ⟨S2x4x3584, .f32⟩
  | .hbm, ⟨6, _⟩ => ⟨S2x128x9728, .fp8e5m2⟩
  | .hbm, ⟨7, _⟩ => ⟨S2x4x9728, .f32⟩
  | .local _ .vmem, ⟨0, _⟩ => ⟨S2x128x3584, .bf16⟩
  | .local _ .vmem, ⟨1, _⟩ => ⟨S2x128x9728, .bf16⟩
  | .local _ .vmem, ⟨2, _⟩ => ⟨S5x3584x9728, .f32⟩
  | .local _ .vmem, ⟨3, _⟩ => ⟨S2x128x3584, .fp8e4m3⟩
  | .local _ .vmem, ⟨4, _⟩ => ⟨S2x4x3584, .f32⟩
  | .local _ .vmem, ⟨5, _⟩ => ⟨S2x128x9728, .fp8e5m2⟩
  | .local _ .vmem, ⟨6, _⟩ => ⟨S2x4x9728, .f32⟩
  | .local _ .smem, ⟨0, _⟩ => ⟨S5, .i32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x9728 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x3584x9728 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x9728 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x9728 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Base.lean ====
/- The memrefs the kernel body is called on, the blocks of the gradient's array, and the few facts about iterated
   separating conjunctions and views that the other modules share. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The body's memrefs -/

abbrev M1 : Memref sig .tc .hbm S2x128x3584 .bf16 := Memref.whole main_arg0
abbrev M2 : Memref sig .tc .hbm S2x128x9728 .bf16 := Memref.whole main_arg1
abbrev M3 : Memref sig .tc .hbm S5x3584x9728 .f32 := Memref.whole main_v0_0
abbrev M4 : Memref sig .tc .hbm S2x128x3584 .fp8e4m3 := Memref.whole main_v0_1
abbrev M5 : Memref sig .tc .hbm S2x4x3584 .f32 := Memref.whole main_v0_2
abbrev M6 : Memref sig .tc .hbm S2x128x9728 .fp8e5m2 := Memref.whole main_v0_3
abbrev M7 : Memref sig .tc .hbm S2x4x9728 .f32 := Memref.whole main_v0_4
abbrev M8 : Memref sig .tc .vmem S2x128x3584 .bf16 := Memref.whole cc0_scratch0
abbrev M9 : Memref sig .tc .vmem S2x128x9728 .bf16 := Memref.whole cc0_scratch1
abbrev M10 : Memref sig .tc .vmem S2x128x3584 .fp8e4m3 := Memref.whole cc0_scratch2
abbrev M11 : Memref sig .tc .vmem S2x4x3584 .f32 := Memref.whole cc0_scratch3
abbrev M12 : Memref sig .tc .vmem S2x128x9728 .fp8e5m2 := Memref.whole cc0_scratch4
abbrev M13 : Memref sig .tc .vmem S2x4x9728 .f32 := Memref.whole cc0_scratch5
abbrev M14 : Memref sig .tc .vmem S3584x256 .bf16 := Memref.whole cc0_scratch6
abbrev M15 : Memref sig .tc .vmem S256x9728 .bf16 := Memref.whole cc0_scratch7
abbrev M16 : Memref sig .tc .vmem S128x9728 .f32 := Memref.whole cc0_scratch8
abbrev M17 : Memref sig .tc .vmem S4x128x9728 .f32 := Memref.whole cc0_scratch9
abbrev M18 : Memref sig .tc .smem S3x5 .i32 := Memref.whole cc0_scratch10

/-- A memref's buffer on core `c` held whole. -/
abbrev hold {sp : Space} {s : Shape} {e : EltTy} (c : Dev nD) (M : Memref sig .tc sp s e)
    (f : Buf (Elt F) (M.view.loc (c : Thread nD τ))) : sProp 𝕄 :=
  M.view.loc (c : Thread nD τ) ↦{fullShare} f

/-- After a rule applied by hand the continuation stands applied to its result. -/
theorem ret_bind' {E : Type → Type} {α β : Type} (a : α) (k : α → Prog E β) : (Prog.ret a).bind k = k a := rfl

/-! ## Iterated conjunctions -/

section Big

variable {M : Type} [URA M] {I : Type} [Fintype I] [DecidableEq I]

/-- One summand taken out of a conjunction over everything, a new one put back: the others are the same in both. -/
theorem bigSep_swap {Φ Ψ : I → sProp M} (i : I) (h : ∀ j, j ≠ i → Φ j = Ψ j) :
    bigSep Finset.univ Φ ⊢ iprop(Φ i ∗ (Ψ i -∗ bigSep Finset.univ Ψ)) := by
  have e1 : bigSep Finset.univ Φ = iprop(Φ i ∗ bigSep (Finset.univ.erase i) Φ) := bigSep_univ_split i
  have e2 : bigSep Finset.univ Ψ = iprop(Ψ i ∗ bigSep (Finset.univ.erase i) Ψ) := bigSep_univ_split i
  rw [e1, e2]
  rw [show bigSep (Finset.univ.erase i) Φ = bigSep (Finset.univ.erase i) Ψ from
    bigSep_congr fun j hj => h j (Finset.ne_of_mem_erase hj)]
  iintro ⟨H, HR⟩
  isplitl [H]; · iexact H
  iintro H'
  isplitl [H']; · iexact H'
  iexact HR

/-- A conjunction over everything in which the members outside `p` hold nothing. -/
theorem bigSep_ite (p : I → Prop) [DecidablePred p] (Φ : I → sProp M) :
    bigSep Finset.univ (fun i => if p i then Φ i else iprop(emp)) = bigSep (Finset.univ.filter p) Φ := by
  rw [bigSep_filter_split Finset.univ p]
  rw [show bigSep (Finset.univ.filter p) (fun i => if p i then Φ i else iprop(emp)) = bigSep (Finset.univ.filter p) Φ from
    bigSep_congr fun j hj => if_pos (Finset.mem_filter.mp hj).2]
  have e : bigSep (Finset.univ.filter fun i => ¬ p i) (fun i => if p i then Φ i else iprop(emp)) = (iprop(emp) : sProp M) := by
    refine (bigSep_congr fun j hj => if_neg (Finset.mem_filter.mp hj).2).trans (bigSep_emp_const _)
  refine (congrArg (fun Z => iprop(bigSep (Finset.univ.filter p) Φ ∗ Z)) e).trans (equiv_iff.mp BI.sep_emp)

/-- A conjunction over `Fin n` is the one over the numbers below `n`. -/
theorem bigSep_fin_range (n : ℕ) (Φ : ℕ → sProp M) :
    bigSep (Finset.univ : Finset (Fin n)) (fun i => Φ i.val) = bigSep (Finset.range n) Φ := by
  rw [show Finset.range n = (Finset.univ : Finset (Fin n)).map Fin.valEmbedding by
    ext k; simp [Finset.mem_map, Fin.exists_iff]]
  rw [bigSep_map]; rfl

end Big

/-! ## What a write leaves -/

/-- A view's elements, written with what the view reads of `g`, hold `g`. -/
theorem landed_eq {sp : Space} {s : Shape} {e : EltTy} (c : Dev nD) (v : View sig .tc sp s e)
    (f g : Buf (Elt F) (v.loc (c : Thread nD τ))) (w : s.Idx → Elt F e) (h : v.read (Elt F) g = w) :
    (v.loc (c : Thread nD τ) ↦[v.set]{fullShare} v.write (Elt F) f w Finset.univ : sProp 𝕄)
      = (v.loc (c : Thread nD τ) ↦[v.set]{fullShare} g) := by
  refine pointsTo_congr fun i hi => ?_
  obtain ⟨x, rfl⟩ : ∃ x, v.emb x = i := by
    simpa [View.set] using hi
  subst h
  rw [View.write_emb_of_mem _ _ (Finset.mem_univ x), View.read_apply]
  simp

/-! ## The gradient's blocks -/

theorem blk_inb (x : Fin 5 × Fin 28) :
    ∀ a, (![x.1.val, 128 * x.2.val, 0] : Fin 3 → ℕ) a + S1x128x9728.size a ≤ S5x3584x9728.size a := by
  have h1 := x.1.isLt; have h2 := x.2.isLt; intro a; fin_cases a
  · show x.1.val + 1 ≤ 5; omega
  · show 128 * x.2.val + 128 ≤ 3584; omega
  · show 0 + 9728 ≤ 9728; omega

/-- Block `x = (e, p)` of the gradient: rows `128 p … 128 p + 127` of expert `e`, as the transfers name it. -/
def blk (x : Fin 5 × Fin 28) : Memref sig .tc .hbm S128x9728 .f32 :=
  (M3.slice (Rect.unit (s := S5x3584x9728) ![x.1.val, 128 * x.2.val, 0] S1x128x9728.size (blk_inb x)) (fun _ => rfl)).squeeze
    S128x9728 squeezes_S1x128x9728_S128x9728

/-- Its elements of the gradient's array. -/
abbrev bset (x : Fin 5 × Fin 28) : Finset S5x3584x9728.Idx :=
  (Rect.unit (s := S5x3584x9728) ![x.1.val, 128 * x.2.val, 0] S1x128x9728.size (blk_inb x)).set

theorem blk_set (x : Fin 5 × Fin 28) : (blk x).view.set = bset x := by
  unfold blk; exact (View.set_reshape _ _).trans (View.set_slice_whole _ _)

theorem mem_bset (x : Fin 5 × Fin 28) (y : S5x3584x9728.Idx) :
    y ∈ bset x ↔ (y 0).val = x.1.val ∧ (y 1).val / 128 = x.2.val := by
  rw [Rect.mem_set_unit]
  have h1 : (y 1).val < 3584 := (y 1).isLt
  have h2 : (y 2).val < 9728 := (y 2).isLt
  constructor
  · intro H
    have a0 : x.1.val ≤ (y 0).val ∧ (y 0).val < x.1.val + 1 := H 0
    have a1 : 128 * x.2.val ≤ (y 1).val ∧ (y 1).val < 128 * x.2.val + 128 := H 1
    omega
  · rintro ⟨h, h'⟩ a; fin_cases a
    · show x.1.val ≤ (y 0).val ∧ (y 0).val < x.1.val + 1; omega
    · show 128 * x.2.val ≤ (y 1).val ∧ (y 1).val < 128 * x.2.val + 128; omega
    · show 0 ≤ (y 2).val ∧ (y 2).val < 0 + 9728; omega

theorem bset_disjoint : ∀ b b' : Fin 5 × Fin 28, b ≠ b' → Disjoint (bset b) (bset b') := fun b b' hne => by
  rw [Finset.disjoint_left]; intro y hy hy'
  rw [mem_bset] at hy hy'
  exact hne (Prod.ext (Fin.ext (by omega)) (Fin.ext (by omega)))

theorem bset_cover : Finset.univ.biUnion bset = Finset.univ := by
  ext y
  simp only [Finset.mem_biUnion, Finset.mem_univ, true_and, iff_true]
  have h1 : (y 1).val < 3584 := (y 1).isLt
  exact ⟨(y 0, ⟨(y 1).val / 128, by omega⟩), (mem_bset _ _).mpr ⟨rfl, rfl⟩⟩

section Blocks

variable (c : Dev nD)

/-- The contents of the gradient's array. -/
abbrev DWBuf : Type := Buf (Elt F) (M3.view.loc (c : Thread nD τ))

/-- Block `x` held at some contents. -/
def blkAny (x : Fin 5 × Fin 28) : sProp 𝕄 :=
  iprop(∃ f : DWBuf (F := F) c, M3.view.loc (c : Thread nD τ) ↦[(blk x).view.set]{fullShare} f)
/-- Block `x` held at the contents `DW` of the whole array. -/
def blkAt (DW : DWBuf (F := F) c) (x : Fin 5 × Fin 28) : sProp 𝕄 :=
  M3.view.loc (c : Thread nD τ) ↦[(blk x).view.set]{fullShare} DW

instance blkAt_storable (DW : DWBuf (F := F) c) (x : Fin 5 × Fin 28) : BI.Storable (upEmb : UEmb _ 𝕄) (blkAt c DW x) := by
  unfold blkAt
  set_option backward.isDefEq.respectTransparency.types false in
  infer_instance

/-- The array held whole is its blocks held; -/
theorem blocks_of (f : DWBuf (F := F) c) : hold c M3 f ⊢ (bigSep Finset.univ (blkAny c) : sProp 𝕄) := by
  refine (Entails.of_eq (Ring.pointsTo_blocks (ℓ := M3.view.loc (c : Thread nD τ)) (q := fullShare) bset bset_disjoint bset_cover f)).trans
    (BI.bigSep_mono fun b _ => ?_)
  show (M3.view.loc (c : Thread nD τ) ↦[bset b]{fullShare} f : sProp 𝕄) ⊢ blkAny c b
  unfold blkAny; rw [blk_set]; iintro H; iexists f; iexact H

/-- and back. -/
theorem blocks_join (DW : DWBuf (F := F) c) : (bigSep Finset.univ (blkAt c DW) : sProp 𝕄) ⊢ hold c M3 DW := by
  refine (BI.bigSep_mono fun b _ => ?_).trans
    (Entails.of_eq (Ring.pointsTo_blocks (ℓ := M3.view.loc (c : Thread nD τ)) (q := fullShare) bset bset_disjoint bset_cover DW).symm)
  show blkAt c DW b ⊢ (M3.view.loc (c : Thread nD τ) ↦[bset b]{fullShare} DW : sProp 𝕄)
  unfold blkAt; rw [blk_set]

end Blocks

end Cert.KernelIdeal.Hand

end
-- ==== Proof.Counts.lean ====
/- Counting the experts that receive tokens and those that do not: how many of either kind stand before an expert, and
   which expert has a given rank among its kind. -/
module

public import proofs.«01_k».proof.Proof.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## Counts -/

/-- How many experts before `e` receive no token; `l` says which do. -/
def nd (l : Fin 5 → Bool) (e : ℕ) : ℕ :=
  (Finset.univ.filter fun k : Fin 5 => k.val < e ∧ l k = false).card
/-- How many experts before `e` receive a token. -/
def nl (l : Fin 5 → Bool) (e : ℕ) : ℕ :=
  (Finset.univ.filter fun k : Fin 5 => k.val < e ∧ l k = true).card
/-- The expert of rank `r` among those without tokens; -/
def deadExp (l : Fin 5 → Bool) (r : ℕ) : Fin 5 := ((List.finRange 5).filter fun k => !l k).getD r 0
/-- and among those with tokens. -/
def liveExp (l : Fin 5 → Bool) (r : ℕ) : Fin 5 := ((List.finRange 5).filter fun k => l k).getD r 0

theorem nd_zero (l : Fin 5 → Bool) : nd l 0 = 0 := by simp [nd]
theorem nl_zero (l : Fin 5 → Bool) : nl l 0 = 0 := by simp [nl]

theorem nd_dead : ∀ (l : Fin 5 → Bool) (e : Fin 5), l e = false → nd l (e.val + 1) = nd l e.val + 1 := by decide
theorem nd_live : ∀ (l : Fin 5 → Bool) (e : Fin 5), l e = true → nd l (e.val + 1) = nd l e.val := by decide
theorem nl_live : ∀ (l : Fin 5 → Bool) (e : Fin 5), l e = true → nl l (e.val + 1) = nl l e.val + 1 := by decide
theorem nl_dead : ∀ (l : Fin 5 → Bool) (e : Fin 5), l e = false → nl l (e.val + 1) = nl l e.val := by decide
theorem deadExp_nd : ∀ (l : Fin 5 → Bool) (e : Fin 5), l e = false → deadExp l (nd l e.val) = e := by decide
theorem liveExp_nl : ∀ (l : Fin 5 → Bool) (e : Fin 5), l e = true → liveExp l (nl l e.val) = e := by decide
theorem nd_lt : ∀ (l : Fin 5 → Bool) (e : Fin 5), l e = false → nd l e.val < nd l 5 := by decide
theorem nl_lt : ∀ (l : Fin 5 → Bool) (e : Fin 5), l e = true → nl l e.val < nl l 5 := by decide
theorem nl_le : ∀ (l : Fin 5 → Bool) (e : Fin 5), nl l e.val ≤ e.val := by decide
theorem nl_five_le : ∀ (l : Fin 5 → Bool), nl l 5 ≤ 5 := by decide
theorem nd_five_le : ∀ (l : Fin 5 → Bool), nd l 5 ≤ 5 := by decide
theorem nd_add_nl : ∀ (l : Fin 5 → Bool), nd l 5 + nl l 5 = 5 := by decide

theorem dead_rank : ∀ (l : Fin 5 → Bool) (r : Fin 5), r.val < nd l 5 → l (deadExp l r.val) = false ∧ nd l (deadExp l r.val).val = r.val := by
  decide
theorem live_rank : ∀ (l : Fin 5 → Bool) (r : Fin 5), r.val < nl l 5 → l (liveExp l r.val) = true ∧ nl l (liveExp l r.val).val = r.val := by
  decide

/-- The block that the zero copy number `j` fills; -/
def deadBlk (l : Fin 5 → Bool) (j : ℕ) : Fin 5 × Fin 28 := (deadExp l (j / 28), ⟨j % 28, Nat.mod_lt _ (by decide)⟩)
/-- the number of the zero copy that fills block `x`. -/
def deadNo (l : Fin 5 → Bool) (x : Fin 5 × Fin 28) : ℕ := 28 * nd l x.1.val + x.2.val
/-- The block that product number `j` is copied out to; -/
def liveBlk (l : Fin 5 → Bool) (j : ℕ) : Fin 5 × Fin 28 := (liveExp l (j / 28), ⟨j % 28, Nat.mod_lt _ (by decide)⟩)
/-- the number of the product for block `x`. -/
def liveNo (l : Fin 5 → Bool) (x : Fin 5 × Fin 28) : ℕ := 28 * nl l x.1.val + x.2.val

theorem deadBlk_no (l : Fin 5 → Bool) (x : Fin 5 × Fin 28) (h : l x.1 = false) : deadBlk l (deadNo l x) = x := by
  have h2 := x.2.isLt
  unfold deadBlk deadNo
  refine Prod.ext ?_ (Fin.ext ?_)
  · show deadExp l ((28 * nd l x.1.val + x.2.val) / 28) = x.1
    rw [show (28 * nd l x.1.val + x.2.val) / 28 = nd l x.1.val by omega]; exact deadExp_nd l _ h
  · show (28 * nd l x.1.val + x.2.val) % 28 = x.2.val; omega
theorem liveBlk_no (l : Fin 5 → Bool) (x : Fin 5 × Fin 28) (h : l x.1 = true) : liveBlk l (liveNo l x) = x := by
  have h2 := x.2.isLt
  unfold liveBlk liveNo
  refine Prod.ext ?_ (Fin.ext ?_)
  · show liveExp l ((28 * nl l x.1.val + x.2.val) / 28) = x.1
    rw [show (28 * nl l x.1.val + x.2.val) / 28 = nl l x.1.val by omega]; exact liveExp_nl l _ h
  · show (28 * nl l x.1.val + x.2.val) % 28 = x.2.val; omega

theorem deadNo_blk (l : Fin 5 → Bool) (j : ℕ) (h : j < 28 * nd l 5) : l (deadBlk l j).1 = false ∧ deadNo l (deadBlk l j) = j := by
  have h5 := nd_five_le l
  have := dead_rank l ⟨j / 28, by omega⟩ (by show j / 28 < _; omega)
  refine ⟨this.1, ?_⟩
  show 28 * nd l (deadExp l (j / 28)).val + j % 28 = j
  rw [this.2]; show 28 * (j / 28) + j % 28 = j; omega
theorem liveNo_blk (l : Fin 5 → Bool) (j : ℕ) (h : j < 28 * nl l 5) : l (liveBlk l j).1 = true ∧ liveNo l (liveBlk l j) = j := by
  have h5 := nl_five_le l
  have := live_rank l ⟨j / 28, by omega⟩ (by show j / 28 < _; omega)
  refine ⟨this.1, ?_⟩
  show 28 * nl l (liveExp l (j / 28)).val + j % 28 = j
  rw [this.2]; show 28 * (j / 28) + j % 28 = j; omega

theorem deadNo_lt (l : Fin 5 → Bool) (x : Fin 5 × Fin 28) (h : l x.1 = false) : deadNo l x < 28 * nd l 5 := by
  have h2 := x.2.isLt; have := nd_lt l _ h; unfold deadNo; omega
theorem liveNo_lt (l : Fin 5 → Bool) (x : Fin 5 × Fin 28) (h : l x.1 = true) : liveNo l x < 28 * nl l 5 := by
  have h2 := x.2.isLt; have := nl_lt l _ h; unfold liveNo; omega

/-- A conjunction over the blocks without tokens is one over the zero copies; -/
theorem bigSep_dead {M : Type} [URA M] (l : Fin 5 → Bool) (Φ : ℕ → sProp M) :
    bigSep (Finset.univ.filter fun x : Fin 5 × Fin 28 => l x.1 = false) (fun x => Φ (deadNo l x)) = bigSep (Finset.range (28 * nd l 5)) Φ := by
  rw [show Finset.range (28 * nd l 5) = (Finset.univ.filter fun x : Fin 5 × Fin 28 => l x.1 = false).image (deadNo l) by
    ext j; simp only [Finset.mem_range, Finset.mem_image, Finset.mem_filter, Finset.mem_univ, true_and]
    constructor
    · intro h; exact ⟨deadBlk l j, (deadNo_blk l j h).1, (deadNo_blk l j h).2⟩
    · rintro ⟨x, hx, rfl⟩; exact deadNo_lt l x hx]
  rw [bigSep_image_of_injOn]
  intro x hx y hy hxy
  have hx' := (Finset.mem_filter.mp hx).2; have hy' := (Finset.mem_filter.mp hy).2
  rw [← deadBlk_no l x hx', ← deadBlk_no l y hy']; exact congrArg _ hxy

end Cert.KernelIdeal.Hand

end
-- ==== Proof.Zero.lean ====
/- The copies that fill the blocks of an expert without tokens: every one reads the same block of zeros, and all of them
   raise one semaphore, which the kernel waits for only at its end. They are one batch of transfers; each delivers its
   block and the share of the zeros that it read. -/
module

public import proofs.«01_k».proof.Proof.Counts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The copies of zeros -/

section

variable (c : Dev nD) (l : Fin 5 → Bool) (DW : DWBuf (F := F) c) (fz : Buf (Elt F) (M16.view.loc (c : Thread nD τ)))

/-- The share of the block of zeros that copy `i` reads. -/
def ztok (i : ℕ) : sProp 𝕄 := M16.view.loc (c : Thread nD τ) ↦[M16.view.set]{Transfers.shareTokN fullShare i} fz

/-- What copy `j` delivers: its block, and its share of the zeros back. -/
def zDel (j : Fin (28 * nd l 5)) : sProp 𝕄 := iprop(blkAt c DW (deadBlk l j.val) ∗ ztok c fz j.val)

set_option backward.isDefEq.respectTransparency.types false in
instance zDel_storable (j : Fin (28 * nd l 5)) : BI.Storable (upEmb : UEmb _ 𝕄) (zDel c l DW fz j) := by
  unfold zDel ztok; infer_instance

/-- What a copy of one block credits. -/
abbrev NZ : ℕ := (blk (0, 0)).view.amount (SemLoc.dma (sig := sig) (3 : DmaSem sig))

/-- The batch on the copies' semaphore: `j` issued, `u` credits consumed. -/
def zBat (j u : ℕ) : sProp 𝕄 :=
  Transfers.Batch (countersEmb (U := Pipeline.UD sig nD τ)) (c : Thread nD τ) (.dma (3 : DmaSem sig)) () NZ (zDel c l DW fz) j u

/-- The blocks while the copies are issued, `T` being 28 times the expert reached plus the copies issued of it: a block
    whose copy is under way is in the batch, one whose copy is yet to come is held with its share of the zeros. -/
def zBlk (T : ℕ) (x : Fin 5 × Fin 28) : sProp 𝕄 :=
  if l x.1 = true then blkAny c x else if 28 * x.1.val + x.2.val < T then iprop(emp) else iprop(blkAny c x ∗ ztok c fz (deadNo l x))

/-- One copy issued. -/
def zIssue (off : Fin 3 → ℕ) (hin : ∀ a, off a + S1x128x9728.size a ≤ S5x3584x9728.size a) : Prog (TpuEff nD τ sig (Elt F) Λ₀ .tc) Unit := do
  let v120 : Memref sig .tc .hbm S1x128x9728 .f32 := M3.slice (Rect.unit (s := S5x3584x9728) off S1x128x9728.size hin) (fun _ => rfl)
  let v121 : Memref sig .tc .hbm S128x9728 .f32 := v120.squeeze S128x9728 squeezes_S1x128x9728_S128x9728
  Prog.lift (.enqueueDma M16 (.here v121) (.dma cc0_scratch12.sem) (Memref.isWhole_whole _).wordExact ((View.wordExact_bits rfl).reshape _ _) ⟨Or.inl rfl, trivial⟩)
  pure ⟨⟩

theorem zIssue_wp (hz : ∀ x : Fin 5 × Fin 28, l x.1 = false → (blk x).view.read (Elt F) DW = M16.view.read (Elt F) fz)
    (x : Fin 5 × Fin 28) (hx : l x.1 = false) (off : Fin 3 → ℕ) (hin : ∀ a, off a + S1x128x9728.size a ≤ S5x3584x9728.size a)
    (hoff : off = ![x.1.val, 128 * x.2.val, 0]) :
    iprop(bigSep Finset.univ (zBlk c l fz (28 * x.1.val + x.2.val)) ∗ zBat c l DW fz (deadNo l x) 0)
      ⊢ wp frame (wpE (defs₀ (F := F)) Variants.none (c : Thread nD τ) none) Set.univ (zIssue off hin) (fun _ => iprop(bigSep Finset.univ (zBlk c l fz (28 * x.1.val + x.2.val + 1)) ∗ zBat c l DW fz (deadNo l x + 1) 0)) := by
  subst hoff
  iintro ⟨HX, HB⟩
  ihave HX := (bigSep_swap (Φ := zBlk c l fz (28 * x.1.val + x.2.val)) (Ψ := zBlk c l fz (28 * x.1.val + x.2.val + 1)) x ?_) $$ HX
  · intro y hy
    have h2 := x.2.isLt; have h2' := y.2.isLt
    have hne : 28 * y.1.val + y.2.val ≠ 28 * x.1.val + x.2.val := fun h =>
      hy (Prod.ext (Fin.ext (by omega)) (Fin.ext (by omega)))
    unfold zBlk
    by_cases hl : l y.1 = true
    · rw [if_pos hl, if_pos hl]
    · rw [if_neg hl, if_neg hl]
      by_cases hlt : 28 * y.1.val + y.2.val < 28 * x.1.val + x.2.val
      · rw [if_pos hlt, if_pos (by omega)]
      · rw [if_neg hlt, if_neg (by omega)]
  icases HX with ⟨Hx, HX⟩
  have ex : zBlk c l fz (28 * x.1.val + x.2.val) x = iprop(blkAny c x ∗ ztok c fz (deadNo l x)) := by
    unfold zBlk; rw [if_neg (by rw [hx]; decide), if_neg (Nat.lt_irrefl _)]
  ihave Hx := (Entails.of_eq ex) $$ Hx
  unfold blkAny
  icases Hx with ⟨⟨%f, Hb⟩, Ht⟩
  unfold zIssue zBat
  have hD : iprop(((blk x).view.loc (c : Thread nD τ) ↦[(blk x).view.set]{fullShare} (blk x).view.write (Elt F) f (M16.view.read (Elt F) fz) Finset.univ)
      ∗ (M16.view.loc (c : Thread nD τ) ↦[M16.view.set]{Transfers.shareTokN fullShare (deadNo l x)} fz)) ⊢ zDel c l DW fz ⟨deadNo l x, deadNo_lt l x hx⟩ := by
    unfold zDel
    rw [deadBlk_no l x hx]
    iintro ⟨H1, H2⟩
    isplitl [H1]
    · unfold blkAt; iapply (Entails.of_eq (landed_eq c (blk x).view f DW _ (hz x hx))) $$ H1
    · unfold ztok; iexact H2
  iapply (Transfers.wp_dmaBatch (countersEmb (U := Pipeline.UD sig nD τ)) Variants.none (c : Thread nD τ) none (src := M16) (dst := blk x) (via := .same) (fs := fz) (fd := f) () NZ rfl subset_rfl
    (D := zDel c l DW fz) (j := deadNo l x) (u := 0) (deadNo_lt l x hx) (Nat.zero_le _) hD) $$ [Hb Ht HB]
  · isplitl [Ht]; · unfold ztok; iexact Ht
    isplitl [Hb]; · iexact Hb
    iexact HB
  iintro HB
  simp only [ret_bind']
  sl_step
  isplitl [HX]
  · iapply HX
    unfold zBlk; rw [if_neg (by rw [hx]; decide), if_pos (Nat.lt_succ_self _)]
    iempintro
  · iexact HB

/-- The loop that issues an expert's 28 copies. -/
theorem zLoop_wp (hz : ∀ x : Fin 5 × Fin 28, l x.1 = false → (blk x).view.read (Elt F) DW = M16.view.read (Elt F) fz)
    (L : Scf.Loop 32) (ok : L.OK) (hT : L.trips = 28) (e : Fin 5) (he : l e = false) (off : Fin L.trips → Fin 3 → ℕ)
    (hin : ∀ t, ∀ a, off t a + S1x128x9728.size a ≤ S5x3584x9728.size a) (hoff : ∀ t, off t = ![e.val, 128 * t.val, 0]) :
    iprop(bigSep Finset.univ (zBlk c l fz (28 * e.val)) ∗ zBat c l DW fz (28 * nd l e.val) 0)
      ⊢ wp frame (wpE (defs₀ (F := F)) Variants.none (c : Thread nD τ) none) Set.univ (Scf.Loop.for L ok ⟨⟩ (fun t _ => zIssue (F := F) (off t) (hin t)))
        (fun _ => iprop(bigSep Finset.univ (zBlk c l fz (28 * (e.val + 1))) ∗ zBat c l DW fz (28 * nd l (e.val + 1)) 0)) := by
  iintro H
  iapply (Scf.wp_for frame (wpE (defs₀ (F := F)) Variants.none (c : Thread nD τ) none) Set.univ L.lb L.ub L.st ok ⟨⟩ (fun t _ => zIssue (F := F) (off t) (hin t))
    (fun k _ => iprop(bigSep Finset.univ (zBlk c l fz (28 * e.val + k)) ∗ zBat c l DW fz (28 * nd l e.val + k) 0)) ?_)
  · intro k acc
    have hk : k.val < 28 := hT ▸ k.isLt
    exact zIssue_wp c l DW fz hz (e, ⟨k.val, hk⟩) he (off k) (hin k) (hoff k)
  isplitl [H]
  · iexact H
  iintro %acc H
  rw [nd_dead l e he, show Scf.trips L.lb L.ub L.st = 28 from hT, Nat.mul_succ, Nat.mul_succ]
  iexact H

/-- An expert with tokens leaves the copies as they are. -/
theorem zSkip (e : Fin 5) (he : l e = true) :
    iprop(bigSep Finset.univ (zBlk c l fz (28 * e.val)) ∗ zBat c l DW fz (28 * nd l e.val) 0)
      ⊢ iprop(bigSep Finset.univ (zBlk c l fz (28 * (e.val + 1))) ∗ zBat c l DW fz (28 * nd l (e.val + 1)) 0) := by
  rw [nd_live l e he, show bigSep Finset.univ (zBlk c l fz (28 * e.val)) = bigSep Finset.univ (zBlk c l fz (28 * (e.val + 1))) from
    bigSep_congr fun y _ => by
      have h2' := y.2.isLt
      unfold zBlk
      by_cases hl : l y.1 = true
      · rw [if_pos hl, if_pos hl]
      · rw [if_neg hl, if_neg hl]
        have hne : y.1.val ≠ e.val := fun h => hl ((Fin.ext h : y.1 = e) ▸ he)
        by_cases hlt : 28 * y.1.val + y.2.val < 28 * e.val
        · rw [if_pos hlt, if_pos (by omega)]
        · rw [if_neg hlt, if_neg (by omega)]]

/-! ## Before and after -/

/-- The blocks and the zeros as the copies start: every block to be filled has its share of the zeros beside it. -/
theorem zStart : iprop(bigSep Finset.univ (blkAny (F := F) c) ∗ hold c M16 fz)
    ⊢ iprop(bigSep Finset.univ (zBlk c l fz 0) ∗ (M16.view.loc (c : Thread nD τ) ↦[M16.view.set]{Transfers.shareDrop fullShare (28 * nd l 5)} fz)) := by
  have hset : M16.view.set = Finset.univ := View.set_whole _
  have e : bigSep Finset.univ (zBlk c l fz 0) = iprop(bigSep Finset.univ (blkAny (F := F) c) ∗ bigSep (Finset.range (28 * nd l 5)) (ztok c fz)) := by
    rw [← bigSep_dead l (ztok c fz), ← bigSep_ite]
    refine Eq.trans (bigSep_congr fun x _ => ?_) (bigSep_sep _ _ _)
    unfold zBlk
    by_cases hl : l x.1 = true
    · rw [if_pos hl, if_neg (by rw [hl]; decide)]; exact (equiv_iff.mp BI.sep_emp).symm
    · rw [if_neg hl, if_neg (Nat.not_lt_zero _), if_pos (by simpa using hl)]; rfl
  rw [e]
  iintro ⟨HX, HZ⟩
  ihave HZ := (show hold c M16 fz ⊢ iprop((M16.view.loc (c : Thread nD τ) ↦[M16.view.set]{Transfers.shareDrop fullShare (28 * nd l 5)} fz) ∗ bigSep (Finset.range (28 * nd l 5)) (ztok c fz)) from by
    have h := (Transfers.pointsTo_toks_range (Lvl := ℕ) (U := Pipeline.UD sig nD τ) (Ix := Unit) (Name := ℕ) (ℓ := M16.view.loc (c : Thread nD τ)) (S := M16.view.set) (f := fz) fullShare (28 * nd l 5)).1
    unfold hold; rw [hset] at h ⊢; refine h.trans ?_; unfold ztok; rw [hset]) $$ HZ
  icases HZ with ⟨HZ, HT⟩
  isplitl [HX HT]
  · isplitl [HX]; · iexact HX
    iexact HT
  iexact HZ

/-- Every copy issued: the blocks of the experts with tokens are left. -/
theorem zEnd : bigSep Finset.univ (zBlk c l fz (28 * 5)) ⊢ bigSep (Finset.univ.filter fun x : Fin 5 × Fin 28 => l x.1 = true) (blkAny (F := F) c) := by
  rw [← bigSep_ite]
  refine Entails.of_eq (bigSep_congr fun x _ => ?_)
  have h1 := x.1.isLt; have h2 := x.2.isLt
  unfold zBlk
  by_cases hl : l x.1 = true
  · rw [if_pos hl, if_pos hl]
  · rw [if_neg hl, if_neg hl, if_pos (by omega)]

/-- Every copy collected: the filled blocks and the zeros whole. -/
theorem zCollect : iprop(bigSep Finset.univ (zDel c l DW fz) ∗ (M16.view.loc (c : Thread nD τ) ↦[M16.view.set]{Transfers.shareDrop fullShare (28 * nd l 5)} fz))
    ⊢ iprop(bigSep (Finset.univ.filter fun x : Fin 5 × Fin 28 => l x.1 = false) (blkAt c DW) ∗ hold c M16 fz) := by
  have hset : M16.view.set = Finset.univ := View.set_whole _
  have e : bigSep Finset.univ (zDel c l DW fz)
      = iprop(bigSep (Finset.univ.filter fun x : Fin 5 × Fin 28 => l x.1 = false) (blkAt c DW) ∗ bigSep (Finset.range (28 * nd l 5)) (ztok c fz)) := by
    rw [show bigSep Finset.univ (zDel c l DW fz) = bigSep (Finset.range (28 * nd l 5)) (fun j => iprop(blkAt c DW (deadBlk l j) ∗ ztok c fz j)) from
      bigSep_fin_range (28 * nd l 5) (fun j => iprop(blkAt c DW (deadBlk l j) ∗ ztok c fz j))]
    refine Eq.trans (bigSep_sep _ _ _) ?_
    rw [← bigSep_dead l (fun j => blkAt c DW (deadBlk l j))]
    rw [show bigSep (Finset.univ.filter fun x : Fin 5 × Fin 28 => l x.1 = false) (fun x => blkAt c DW (deadBlk l (deadNo l x)))
        = bigSep (Finset.univ.filter fun x : Fin 5 × Fin 28 => l x.1 = false) (blkAt c DW) from
      bigSep_congr fun x hx => by rw [deadBlk_no l x (Finset.mem_filter.mp hx).2]]
    rfl
  rw [e]
  iintro ⟨⟨HX, HT⟩, HZ⟩
  isplitl [HX]; · iexact HX
  iapply (show iprop((M16.view.loc (c : Thread nD τ) ↦[M16.view.set]{Transfers.shareDrop fullShare (28 * nd l 5)} fz) ∗ bigSep (Finset.range (28 * nd l 5)) (ztok c fz)) ⊢ hold c M16 fz from by
    have h := (Transfers.pointsTo_toks_range (Lvl := ℕ) (U := Pipeline.UD sig nD τ) (Ix := Unit) (Name := ℕ) (ℓ := M16.view.loc (c : Thread nD τ)) (S := M16.view.set) (f := fz) fullShare (28 * nd l 5)).2
    unfold hold; rw [hset] at h ⊢; unfold ztok; rw [hset]; exact h)
  isplitl [HZ]; · iexact HZ
  iexact HT

/-! ## The waits -/

/-- One wait for a copy. -/
def zWait (off : Fin 3 → ℕ) (hin : ∀ a, off a + S1x128x9728.size a ≤ S5x3584x9728.size a) : Prog (TpuEff nD τ sig (Elt F) Λ₀ .tc) Unit := do
  let v1 : Memref sig .tc .hbm S1x128x9728 .f32 := M3.slice (Rect.unit (s := S5x3584x9728) off S1x128x9728.size hin) (fun _ => rfl)
  let v2 : Memref sig .tc .hbm S128x9728 .f32 := v1.squeeze S128x9728 squeezes_S1x128x9728_S128x9728
  Prog.lift (.waitDma2 cc0_scratch12.sem M16 v2 (Memref.isWhole_whole _).wordExact ((View.wordExact_bits rfl).reshape _ _))
  pure ⟨⟩

/-- After `k` waits: the batch with `k` copies consumed; after the last one, the semaphore at zero and every delivery. -/
def zDrain (k : ℕ) : sProp 𝕄 :=
  iprop((∃ W : Waits sig Unit, owes (c : Thread nD τ) 0 W) ∗ (if k < 28 * nd l 5 then zBat c l DW fz (28 * nd l 5) (k * NZ)
    else iprop(bigSep Finset.univ (zDel c l DW fz) ∗ semVal ((c : Thread nD τ), SemLoc.dma (3 : DmaSem sig)) 0)))

theorem zWait_wp (k : ℕ) (hk : k < 28 * nd l 5) (off : Fin 3 → ℕ) (hin : ∀ a, off a + S1x128x9728.size a ≤ S5x3584x9728.size a) :
    zDrain c l DW fz k ⊢ wp frame (wpE (defs₀ (F := F)) Variants.none (c : Thread nD τ) none) Set.univ (zWait off hin) (fun _ => zDrain c l DW fz (k + 1)) := by
  have hN : 0 < NZ := by decide
  unfold zDrain
  rw [if_pos hk]
  iintro ⟨⟨%W, HO⟩, HB⟩
  unfold zWait
  rcases Nat.lt_or_ge (k + 1) (28 * nd l 5) with h1 | h1
  · rw [if_pos h1, Nat.succ_mul k NZ]
    unfold zBat
    iapply (Transfers.wp_waitBatch (countersEmb (U := Pipeline.UD sig nD τ)) Variants.none (c : Thread nD τ) none (srcw := M16) (dstw := (M3.slice (Rect.unit (s := S5x3584x9728) off S1x128x9728.size hin) (fun _ => rfl)).squeeze S128x9728 squeezes_S1x128x9728_S128x9728) (N := NZ) () rfl (D := zDel c l DW fz) (u := k * NZ)
      (by rw [Nat.mul_comm NZ, ← Nat.succ_mul]; exact Nat.mul_lt_mul_of_pos_right h1 hN)) $$ [HB HO]
    · isplitl [HB]; · iexact HB
      iexact HO
    iintro ⟨HB, HO⟩
    simp only [ret_bind']
    sl_step
    isplitl [HO]; · iexists _; iexact HO
    iexact HB
  · rw [if_neg (Nat.not_lt.mpr h1)]
    have hk1 : k + 1 = 28 * nd l 5 := by omega
    unfold zBat
    iapply (Transfers.wp_waitBatchLast (countersEmb (U := Pipeline.UD sig nD τ)) Variants.none (c : Thread nD τ) none (srcw := M16) (dstw := (M3.slice (Rect.unit (s := S5x3584x9728) off S1x128x9728.size hin) (fun _ => rfl)).squeeze S128x9728 squeezes_S1x128x9728_S128x9728) (N := NZ) () rfl hN (D := zDel c l DW fz) (u := k * NZ)
      (by rw [Nat.mul_comm NZ, ← Nat.succ_mul, ← hk1])) $$ [HB HO]
    · isplitl [HB]; · iexact HB
      iexact HO
    iintro ⟨HD, Hv, HO⟩
    simp only [ret_bind']
    sl_step
    isplitl [HO]; · iexists _; iexact HO
    isplitl [HD]; · iexact HD
    iexact Hv

/-- The loop of waits collects every copy. -/
theorem zDrain_wp (L : Scf.Loop 32) (ok : L.OK) (hT : L.trips = 28 * nd l 5) (off : Fin L.trips → Fin 3 → ℕ)
    (hin : ∀ t, ∀ a, off t a + S1x128x9728.size a ≤ S5x3584x9728.size a) (W : Waits sig Unit) :
    iprop(owes (c : Thread nD τ) 0 W ∗ zBat c l DW fz (28 * nd l 5) 0)
      ⊢ wp frame (wpE (defs₀ (F := F)) Variants.none (c : Thread nD τ) none) Set.univ (Scf.Loop.for L ok ⟨⟩ (fun t _ => zWait (F := F) (off t) (hin t)))
        (fun _ => iprop((∃ W : Waits sig Unit, owes (c : Thread nD τ) 0 W) ∗ bigSep Finset.univ (zDel c l DW fz)
          ∗ semVal ((c : Thread nD τ), SemLoc.dma (3 : DmaSem sig)) 0)) := by
  have hN : 0 < NZ := by decide
  iintro ⟨HO, HB⟩
  iapply (fupd_wp frame (wpE (defs₀ (F := F)) Variants.none (c : Thread nD τ) none))
  have hstart : zBat c l DW fz (28 * nd l 5) 0 ⊢ iprop(|={Set.univ}[Idealize.ShloMosaic.frame]=> (if 0 < 28 * nd l 5 then zBat c l DW fz (28 * nd l 5) (0 * NZ)
    else iprop(bigSep Finset.univ (zDel c l DW fz) ∗ semVal ((c : Thread nD τ), SemLoc.dma (3 : DmaSem sig)) 0))) := by
    by_cases h0 : 0 < 28 * nd l 5
    · rw [if_pos h0, Nat.zero_mul]; iintro H; imodintro; iexact H
    · rw [if_neg h0]
      have hb := Transfers.batch_collect' (countersEmb (U := Pipeline.UD sig nD τ)) (c : Thread nD τ) hN (ι := ()) (D := zDel c l DW fz) (sm := .dma (3 : DmaSem sig))
      unfold zBat
      have e0 : NZ * (28 * nd l 5) = 0 := by rw [show 28 * nd l 5 = 0 by omega, Nat.mul_zero]
      rw [e0] at hb
      exact hb
  imod hstart $$ HB with HB
  imodintro
  iapply (Scf.wp_for frame (wpE (defs₀ (F := F)) Variants.none (c : Thread nD τ) none) Set.univ L.lb L.ub L.st ok ⟨⟩ (fun t _ => zWait (F := F) (off t) (hin t))
    (fun k _ => zDrain c l DW fz k) ?_)
  · intro k acc
    exact zWait_wp c l DW fz k.val (hT ▸ k.isLt) (off k) (hin k)
  isplitl [HO HB]
  · unfold zDrain; isplitl [HO]; · iexists _; iexact HO
    iexact HB
  iintro %acc H
  unfold zDrain
  rw [if_neg (by rw [show Scf.trips L.lb L.ub L.st = 28 * nd l 5 from hT]; exact Nat.lt_irrefl _)]
  iexact H

end

end Cert.KernelIdeal.Hand

end
-- ==== Proof.Words.lean ====
/- The kernel's words: which experts receive tokens, the number of trips of every loop, and the offsets of every access,
   in closed form. -/
module

public import proofs.«01_k».proof.Proof.Zero

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxRecDepth 100000

/-! ## Signs -/

/-- A size is positive. -/
def sg (v : BitVec 32) : Bool := decide (Scalar.cmpi .sgt v 0#32 = 1#1)

/-- Which experts receive tokens. -/
def lv (v8 v19 v30 v41 v52 : BitVec 32) : Fin 5 → Bool := ![sg v8, sg v19, sg v30, sg v41, sg v52]

theorem cond_sgt (v : BitVec 32) : Scalar.cmpi .ne (Scalar.extui (Scalar.cmpi .sgt v 0#32) : BitVec 32) 0#32 = 1#1 ↔ sg v = true := by
  unfold sg; generalize Scalar.cmpi .sgt v 0#32 = b; revert b; decide +kernel

theorem cmpi_sle (v : BitVec 32) : Scalar.cmpi .sle v 0#32 = ~~~ Scalar.cmpi .sgt v 0#32 := by
  have h : v.sle 0#32 = !(BitVec.slt 0#32 v) := by
    rw [BitVec.sle_eq_not_slt]
  show BitVec.ofBool (v.sle 0#32) = ~~~ BitVec.ofBool (BitVec.slt 0#32 v)
  rw [h]; cases BitVec.slt 0#32 v <;> rfl
theorem cond_sle (v : BitVec 32) : Scalar.cmpi .ne (Scalar.extui (Scalar.cmpi .sle v 0#32) : BitVec 32) 0#32 = 1#1 ↔ sg v = false := by
  rw [cmpi_sle]; unfold sg; generalize Scalar.cmpi .sgt v 0#32 = b; revert b; decide +kernel

theorem trips_const : k0_t1_loop.trips = 28 ∧ k0_t2_loop.trips = 28 ∧ k0_t3_loop.trips = 28 ∧ k0_t4_loop.trips = 28 ∧ k0_t5_loop.trips = 28
    ∧ k0_t6_loop.trips = 14 ∧ k0_t7_loop.trips = 38 := by decide +kernel

section

variable (v8 v19 v30 v41 v52 : BitVec 32)

/-- The trips of the loops whose number depends on the sizes, -/
theorem trips_words :
    (k0_t8_loop v8 v19 v30 v41 v52).trips = 28 * nl (lv v8 v19 v30 v41 v52) 5
    ∧ (k0_t9_loop v8 v19 v30 v41 v52).trips = 0
    ∧ (k0_t10_loop v8 v19 v30 v41 v52).trips = min 4 (nl (lv v8 v19 v30 v41 v52) 5 * 28)
    ∧ (k0_t11_loop v8 v19 v30 v41 v52).trips = 0
    ∧ (k0_t12_loop v8 v19 v30 v41 v52).trips = 28 * nd (lv v8 v19 v30 v41 v52) 5
    ∧ (k0_t13_loop v8 v19 v30 v41 v52).trips = 0 := by
  unfold k0_t8_loop k0_t9_loop k0_t10_loop k0_t11_loop k0_t12_loop k0_t13_loop lv sg
  dsimp only
  generalize Scalar.cmpi .sgt v8 0#32 = b0
  generalize Scalar.cmpi .sgt v19 0#32 = b1
  generalize Scalar.cmpi .sgt v30 0#32 = b2
  generalize Scalar.cmpi .sgt v41 0#32 = b3
  generalize Scalar.cmpi .sgt v52 0#32 = b4
  revert b0 b1 b2 b3 b4
  decide +kernel
/-- and that those loops count as written. -/
theorem ok_words :
    (k0_t8_loop v8 v19 v30 v41 v52).OK
    ∧ (k0_t9_loop v8 v19 v30 v41 v52).OK
    ∧ (k0_t10_loop v8 v19 v30 v41 v52).OK
    ∧ (k0_t11_loop v8 v19 v30 v41 v52).OK
    ∧ (k0_t12_loop v8 v19 v30 v41 v52).OK
    ∧ (k0_t13_loop v8 v19 v30 v41 v52).OK := by
  unfold k0_t8_loop k0_t9_loop k0_t10_loop k0_t11_loop k0_t12_loop k0_t13_loop
  dsimp only
  generalize Scalar.cmpi .sgt v8 0#32 = b0
  generalize Scalar.cmpi .sgt v19 0#32 = b1
  generalize Scalar.cmpi .sgt v30 0#32 = b2
  generalize Scalar.cmpi .sgt v41 0#32 = b3
  generalize Scalar.cmpi .sgt v52 0#32 = b4
  revert b0 b1 b2 b3 b4
  decide +kernel
/-- The rows of the live table an expert writes: its column is its rank among the experts with tokens. -/
theorem rows_words :
    k0_off2 v8 = ![0, nl (lv v8 v19 v30 v41 v52) 1]
    ∧ k0_off3 v8 = ![1, nl (lv v8 v19 v30 v41 v52) 1]
    ∧ k0_off4 v8 = ![2, nl (lv v8 v19 v30 v41 v52) 1]
    ∧ k0_off6 v8 v19 = ![0, nl (lv v8 v19 v30 v41 v52) 2]
    ∧ k0_off7 v8 v19 = ![1, nl (lv v8 v19 v30 v41 v52) 2]
    ∧ k0_off8 v8 v19 = ![2, nl (lv v8 v19 v30 v41 v52) 2]
    ∧ k0_off10 v8 v19 v30 = ![0, nl (lv v8 v19 v30 v41 v52) 3]
    ∧ k0_off11 v8 v19 v30 = ![1, nl (lv v8 v19 v30 v41 v52) 3]
    ∧ k0_off12 v8 v19 v30 = ![2, nl (lv v8 v19 v30 v41 v52) 3]
    ∧ k0_off14 v8 v19 v30 v41 = ![0, nl (lv v8 v19 v30 v41 v52) 4]
    ∧ k0_off15 v8 v19 v30 v41 = ![1, nl (lv v8 v19 v30 v41 v52) 4]
    ∧ k0_off16 v8 v19 v30 v41 = ![2, nl (lv v8 v19 v30 v41 v52) 4] := by
  unfold k0_off2 k0_off3 k0_off4 k0_off6 k0_off7 k0_off8 k0_off10 k0_off11 k0_off12 k0_off14 k0_off15 k0_off16 lv sg
  dsimp only
  generalize Scalar.cmpi .sgt v8 0#32 = b0
  generalize Scalar.cmpi .sgt v19 0#32 = b1
  generalize Scalar.cmpi .sgt v30 0#32 = b2
  generalize Scalar.cmpi .sgt v41 0#32 = b3
  generalize Scalar.cmpi .sgt v52 0#32 = b4
  revert b0 b1 b2 b3 b4
  decide +kernel
/-- The kernel's own count of the experts with tokens. -/
theorem nw_eq : Scalar.addi (Scalar.addi (Scalar.addi (Scalar.addi (Scalar.addi 0#32 (Scalar.extui (Scalar.cmpi .sgt v8 0#32))) (Scalar.extui (Scalar.cmpi .sgt v19 0#32))) (Scalar.extui (Scalar.cmpi .sgt v30 0#32))) (Scalar.extui (Scalar.cmpi .sgt v41 0#32))) (Scalar.extui (Scalar.cmpi .sgt v52 0#32)) = BitVec.ofNat 32 (nl (lv v8 v19 v30 v41 v52) 5) := by
  unfold lv sg
  generalize Scalar.cmpi .sgt v8 0#32 = b0
  generalize Scalar.cmpi .sgt v19 0#32 = b1
  generalize Scalar.cmpi .sgt v30 0#32 = b2
  generalize Scalar.cmpi .sgt v41 0#32 = b3
  generalize Scalar.cmpi .sgt v52 0#32 = b4
  revert b0 b1 b2 b3 b4
  decide +kernel

theorem row_inb (r : Fin 3) (k : ℕ) (h : k < 5) : ∀ a, (![r.val, k] : Fin 2 → ℕ) a + S1x1.size a ≤ S3x5.size a := by
  have := r.isLt; intro a; fin_cases a
  · show r.val + 1 ≤ 3; omega
  · show k + 1 ≤ 5; omega
theorem chk1 : k0_chk1 v8 v19 := by
  obtain ⟨r0, r1, r2, r3, r4, r5, r6, r7, r8, r9, r10, r11⟩ := rows_words v8 v19 0#32 0#32 0#32
  have h : nl (lv v8 v19 0#32 0#32 0#32) 1 ≤ 1 := nl_le _ 1
  unfold k0_chk1; rw [r0, r1, r2]
  exact ⟨fun _ => row_inb 0 _ (by omega), fun _ => row_inb 1 _ (by omega), fun _ => row_inb 2 _ (by omega)⟩
theorem chk2 : k0_chk2 v8 v19 v30 := by
  obtain ⟨r0, r1, r2, r3, r4, r5, r6, r7, r8, r9, r10, r11⟩ := rows_words v8 v19 v30 0#32 0#32
  have h : nl (lv v8 v19 v30 0#32 0#32) 2 ≤ 2 := nl_le _ 2
  unfold k0_chk2; rw [r3, r4, r5]
  exact ⟨fun _ => row_inb 0 _ (by omega), fun _ => row_inb 1 _ (by omega), fun _ => row_inb 2 _ (by omega)⟩
theorem chk3 : k0_chk3 v8 v19 v30 v41 := by
  obtain ⟨r0, r1, r2, r3, r4, r5, r6, r7, r8, r9, r10, r11⟩ := rows_words v8 v19 v30 v41 0#32
  have h : nl (lv v8 v19 v30 v41 0#32) 3 ≤ 3 := nl_le _ 3
  unfold k0_chk3; rw [r6, r7, r8]
  exact ⟨fun _ => row_inb 0 _ (by omega), fun _ => row_inb 1 _ (by omega), fun _ => row_inb 2 _ (by omega)⟩

/-! ## The accesses of a product's step -/

theorem t8_lt (t : Fin (k0_t8_loop v8 v19 v30 v41 v52).trips) : t.val < 140 := by
  have h := lt_of_lt_of_eq t.isLt (trips_words v8 v19 v30 v41 v52).1; have h5 := nl_five_le (lv v8 v19 v30 v41 v52); omega

/-- Step `t` takes rank `t / 28`, row block `t % 28`, slot `t % 4`. -/
theorem t8_words (t : Fin (k0_t8_loop v8 v19 v30 v41 v52).trips) :
    k0_off26 v8 v19 v30 v41 v52 t = ![0, t.val / 28]
    ∧ k0_off27 v8 v19 v30 v41 v52 t = ![t.val % 4]
    ∧ k0_off29 v8 v19 v30 v41 v52 t = ![t.val % 4, 0, 0]
    ∧ k0_off30 v8 v19 v30 v41 v52 t = ![1, t.val / 28]
    ∧ k0_off31 v8 v19 v30 v41 v52 t = ![2, t.val / 28]
    ∧ k0_off32 v8 v19 v30 v41 v52 t = ![128 * (t.val % 28), 0]
    ∧ k0_off33 v8 v19 v30 v41 v52 t = ![t.val % 4, 0, 0]
    ∧ k0_off34 v8 v19 v30 v41 v52 t = ![t.val % 4]
    ∧ k0_off36 v8 v19 v30 v41 v52 t = ![t.val % 4, 0, 0]
    ∧ (k0_cond11 v8 v19 v30 v41 v52 t = 1#1 ↔ 4 ≤ t.val) ∧ 128 ∣ (k0_mult3 v8 v19 v30 v41 v52 t).toNat := by
  have h := t8_lt v8 v19 v30 v41 v52 t
  unfold k0_off26 k0_off27 k0_off29 k0_off30 k0_off31 k0_off32 k0_off33 k0_off34 k0_off36 k0_cond11 k0_mult3
  dsimp only
  generalize t.val = n at h ⊢
  revert n
  decide +kernel

theorem t8_words_blk (t : Fin (k0_t8_loop v8 v19 v30 v41 v52).trips) (w : BitVec 32) :
    k0_off28 v8 v19 v30 v41 v52 t w = ![w.toNat, 128 * (t.val % 28), 0] ∧ k0_off35 v8 v19 v30 v41 v52 t w = ![w.toNat, 128 * (t.val % 28), 0] := by
  have h := t8_lt v8 v19 v30 v41 v52 t
  unfold k0_off28 k0_off35
  dsimp only
  generalize t.val = n at h ⊢
  have e : ∀ n < 140, (Scalar.muli (Scalar.remsi (Scalar.addi 0#32 (Scalar.muli (Scf.iv 0#32 1#32 n) 1#32)) 28#32) 128#32).toNat = 128 * (n % 28) := by
    decide +kernel
  rw [e n h]
  exact ⟨rfl, rfl⟩

theorem t10_words (t : Fin (k0_t10_loop v8 v19 v30 v41 v52).trips) : k0_off48 v8 v19 v30 v41 v52 t = ![t.val] ∧ k0_off49 v8 v19 v30 v41 v52 t = ![t.val, 0, 0] := by
  have h : t.val < 4 := by have h := lt_of_lt_of_eq t.isLt (trips_words v8 v19 v30 v41 v52).2.2.1; omega
  unfold k0_off48 k0_off49
  dsimp only
  generalize t.val = n at h ⊢
  revert n
  decide +kernel

theorem slot_inb (k : ℕ) (h : k < 4) : ∀ a, (![k, 0, 0] : Fin 3 → ℕ) a + S1x128x9728.size a ≤ S4x128x9728.size a := by
  intro a; fin_cases a
  · show k + 1 ≤ 4; omega
  · show 0 + 128 ≤ 128; omega
  · show 0 + 9728 ≤ 9728; omega
theorem sem_inb (k : ℕ) (h : k < 4) : ∀ a, (![k] : Fin 1 → ℕ) a + S1.size a ≤ S4.size a := by
  intro a; fin_cases a
  show k + 1 ≤ 4; omega
theorem panel_inb (k : ℕ) (h : k < 28) : ∀ a, (![128 * k, 0] : Fin 2 → ℕ) a + S128x256.size a ≤ S3584x256.size a := by
  intro a; fin_cases a
  · show 128 * k + 128 ≤ 3584; omega
  · show 0 + 256 ≤ 256; omega

theorem chk4 : k0_chk4 v8 v19 v30 v41 v52 := by
  obtain ⟨r0, r1, r2, r3, r4, r5, r6, r7, r8, r9, r10, r11⟩ := rows_words v8 v19 v30 v41 v52
  have h : nl (lv v8 v19 v30 v41 v52) 4 ≤ 4 := nl_le _ 4
  obtain ⟨o8, o9, o10, o11, o12, o13⟩ := ok_words v8 v19 v30 v41 v52
  have e9 : ∀ t : Fin (k0_t9_loop v8 v19 v30 v41 v52).trips, False := fun t => by have := lt_of_lt_of_eq t.isLt (trips_words v8 v19 v30 v41 v52).2.1; omega
  have e11 : ∀ t : Fin (k0_t11_loop v8 v19 v30 v41 v52).trips, False := fun t => by have := lt_of_lt_of_eq t.isLt (trips_words v8 v19 v30 v41 v52).2.2.2.1; omega
  have l10 : ∀ t : Fin (k0_t10_loop v8 v19 v30 v41 v52).trips, t.val < 4 := fun t => by have h := lt_of_lt_of_eq t.isLt (trips_words v8 v19 v30 v41 v52).2.2.1; omega
  have W := t8_words v8 v19 v30 v41 v52
  refine ⟨⟨fun _ => r9 ▸ row_inb 0 _ (by omega), fun _ => r10 ▸ row_inb 1 _ (by omega), fun _ => r11 ▸ row_inb 2 _ (by omega), o8,
    fun t => (W t).1 ▸ row_inb 0 _ (by have := t8_lt v8 v19 v30 v41 v52 t; omega), fun t _ => (W t).2.1 ▸ sem_inb _ (Nat.mod_lt _ (by decide)),
    fun t _ => (W t).2.2.1 ▸ slot_inb _ (Nat.mod_lt _ (by decide)), fun t => (W t).2.2.2.2.2.2.2.2.2.2,
    fun t => (W t).2.2.2.1 ▸ row_inb 1 _ (by have := t8_lt v8 v19 v30 v41 v52 t; omega),
    fun t => (W t).2.2.2.2.1 ▸ row_inb 2 _ (by have := t8_lt v8 v19 v30 v41 v52 t; omega),
    fun t => (W t).2.2.2.2.2.1 ▸ panel_inb _ (Nat.mod_lt _ (by decide)),
    fun t => (W t).2.2.2.2.2.2.1 ▸ slot_inb _ (Nat.mod_lt _ (by decide)),
    fun t => (W t).2.2.2.2.2.2.2.1 ▸ sem_inb _ (Nat.mod_lt _ (by decide)),
    fun t => (W t).2.2.2.2.2.2.2.2.1 ▸ slot_inb _ (Nat.mod_lt _ (by decide)), o9,
    fun t => (e9 t).elim, fun t => (e9 t).elim, fun t => (e9 t).elim, fun t => (e9 t).elim, fun t => (e9 t).elim, fun t => (e9 t).elim,
    fun t => (e9 t).elim, fun t => (e9 t).elim, fun t => (e9 t).elim, fun t => (e9 t).elim, o10,
    fun t => (t10_words v8 v19 v30 v41 v52 t).1 ▸ sem_inb _ (l10 t), fun t => (t10_words v8 v19 v30 v41 v52 t).2 ▸ slot_inb _ (l10 t), o11,
    fun t => (e11 t).elim, fun t => (e11 t).elim, o12⟩, o13⟩

theorem chk5 (t : Fin (k0_t8_loop v8 v19 v30 v41 v52).trips) (w : BitVec 32) (hw : w.toNat < 5) : k0_chk5 v8 v19 v30 v41 v52 t w := by
  have h28 : t.val % 28 < 28 := Nat.mod_lt _ (by decide)
  have := blk_inb (⟨w.toNat, hw⟩, ⟨t.val % 28, h28⟩)
  exact ⟨fun _ => (t8_words_blk v8 v19 v30 v41 v52 t w).1 ▸ this, (t8_words_blk v8 v19 v30 v41 v52 t w).2 ▸ this⟩

end

/-! ## The accesses of the quantisers' steps -/

theorem t6_words (t : Fin k0_t6_loop.trips) : k0_off18 t = ![0, 0, 256 * t.val] ∧ k0_off19 t = ![0, 0, 256 * t.val] ∧ k0_off20 t = ![1, 0, 256 * t.val]
    ∧ k0_off21 t = ![256 * t.val, 0] := by revert t; decide +kernel
theorem t7_words (t : Fin k0_t7_loop.trips) : k0_off22 t = ![0, 0, 256 * t.val] ∧ k0_off23 t = ![0, 0, 256 * t.val] ∧ k0_off24 t = ![1, 0, 256 * t.val]
    ∧ k0_off25 t = ![0, 256 * t.val] := by revert t; decide +kernel
theorem t1_words (t : Fin k0_t1_loop.trips) : k0_off1 t = ![0, 128 * t.val, 0] := by revert t; decide +kernel
theorem t2_words (t : Fin k0_t2_loop.trips) : k0_off5 t = ![1, 128 * t.val, 0] := by revert t; decide +kernel
theorem t3_words (t : Fin k0_t3_loop.trips) : k0_off9 t = ![2, 128 * t.val, 0] := by revert t; decide +kernel
theorem t4_words (t : Fin k0_t4_loop.trips) : k0_off13 t = ![3, 128 * t.val, 0] := by revert t; decide +kernel
theorem t5_words (t : Fin k0_t5_loop.trips) : k0_off17 t = ![4, 128 * t.val, 0] := by revert t; decide +kernel

end Cert.KernelIdeal.Hand

end
-- ==== Proof.Table.lean ====
/- The live table: one column for every expert with tokens, in order, holding the expert's number and the first and last
   row of the token array that are its own. -/
module

public import proofs.«01_k».proof.Proof.Words
public import proofs.«01_k».proof.Proof.Zero

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## Cells of the table -/

/-- The table's contents. -/
abbrev TabBuf (c : Dev nD) : Type := Buf (Elt F) (M18.view.loc (c : Thread nD τ))

/-- The table's cell in row `r`, column `k`. -/
def ix (r k : ℕ) (hr : r < 3) (hk : k < 5) : S3x5.Idx := fun a => match a with
  | ⟨0, _⟩ => ⟨r, hr⟩
  | ⟨1, _⟩ => ⟨k, hk⟩

/-- The rectangle of one cell. -/
abbrev cell (off : Fin 2 → ℕ) (h : ∀ a, off a + S1x1.size a ≤ S3x5.size a) : Rect S3x5 := Rect.unit (s := S3x5) off S1x1.size h

theorem cell_emb (r k : ℕ) (hr : r < 3) (hk : k < 5) (h : ∀ a, (![r, k] : Fin 2 → ℕ) a + S1x1.size a ≤ S3x5.size a) (y : S1x1.Idx) :
    (M18.access (cell ![r, k] h)).emb y = ix r k hr hk := by
  have h0 : (y 0).val < 1 := (y 0).isLt
  have h1 : (y 1).val < 1 := (y 1).isLt
  funext a; apply Fin.ext
  fin_cases a
  · show r + 1 * (y 0).val = r; omega
  · show k + 1 * (y 1).val = k; omega

/-- Reading a cell. -/
theorem cell_read (c : Dev nD) (f : TabBuf (F := F) c) (r k : ℕ) (hr : r < 3) (hk : k < 5) (h : ∀ a, (![r, k] : Fin 2 → ℕ) a + S1x1.size a ≤ S3x5.size a) (y : S1x1.Idx) :
    (M18.access (cell ![r, k] h)).read (Elt F) f y = f (ix r k hr hk) := by
  rw [View.read_apply, cell_emb r k hr hk h y]; rfl

/-- Writing a cell. -/
theorem cell_write (c : Dev nD) (f : TabBuf (F := F) c) (w : BitVec 32) (r k : ℕ) (hr : r < 3) (hk : k < 5) (h : ∀ a, (![r, k] : Fin 2 → ℕ) a + S1x1.size a ≤ S3x5.size a)
    (r' k' : ℕ) (hr' : r' < 3) (hk' : k' < 5) :
    (M18.access (cell ![r, k] h)).write (Elt F) f (fun _ => w) Finset.univ (ix r' k' hr' hk') = if r' = r ∧ k' = k then w else f (ix r' k' hr' hk') := by
  by_cases hc : r' = r ∧ k' = k
  · obtain ⟨rfl, rfl⟩ := hc
    rw [if_pos ⟨rfl, rfl⟩, ← cell_emb r' k' hr hk h (fun a => match a with | ⟨0, _⟩ => ⟨0, Nat.one_pos⟩ | ⟨1, _⟩ => ⟨0, Nat.one_pos⟩)]
    rw [View.write_emb_of_mem _ _ (Finset.mem_univ _)]; rfl
  · rw [if_neg hc]
    refine View.write_of_not_mem _ _ _ fun hm => hc ?_
    obtain ⟨y, hy⟩ : ∃ y, (M18.access (cell ![r, k] h)).emb y = ix r' k' hr' hk' := by
      simpa [View.setOn] using hm
    rw [cell_emb r k hr hk h y] at hy
    exact ⟨(congrArg Fin.val (congrFun hy 0)).symm, (congrArg Fin.val (congrFun hy 1)).symm⟩

section

variable (c : Dev nD)

/-- One expert's column written, then the rest. -/
def recE {R : Type} (o0 o1 o2 : Fin 2 → ℕ) (h0 : ∀ a, o0 a + S1x1.size a ≤ S3x5.size a) (h1 : ∀ a, o1 a + S1x1.size a ≤ S3x5.size a) (h2 : ∀ a, o2 a + S1x1.size a ≤ S3x5.size a)
    (w0 w1 w2 : BitVec 32) (k : Prog (TpuEff nD τ sig (Elt F) Λ₀ .tc) R) : Prog (TpuEff nD τ sig (Elt F) Λ₀ .tc) R := do
  let v117 : Elt F .i32 ← smemLoad M18 (Rect.unit (s := S3x5) o0 S1x1.size h0) numel1_S1x1 rfl
  Prog.lift (.store M18 (Rect.unit (s := S3x5) o0 S1x1.size h0) (fun _ => w0) Finset.univ (View.stores_smem_one rfl numel1_S1x1) (.inl rfl))
  let v119 : Elt F .i32 ← smemLoad M18 (Rect.unit (s := S3x5) o1 S1x1.size h1) numel1_S1x1 rfl
  Prog.lift (.store M18 (Rect.unit (s := S3x5) o1 S1x1.size h1) (fun _ => w1) Finset.univ (View.stores_smem_one rfl numel1_S1x1) (.inl rfl))
  let v121 : Elt F .i32 ← smemLoad M18 (Rect.unit (s := S3x5) o2 S1x1.size h2) numel1_S1x1 rfl
  Prog.lift (.store M18 (Rect.unit (s := S3x5) o2 S1x1.size h2) (fun _ => w2) Finset.univ (View.stores_smem_one rfl numel1_S1x1) (.inl rfl))
  k

theorem recE_wp {R : Type} (K : Prog (TpuEff nD τ sig (Elt F) Λ₀ .tc) R) (Q : R → sProp 𝕄) (f : TabBuf (F := F) c) (k : ℕ) (hk : k < 5) (o0 o1 o2 : Fin 2 → ℕ) (h0 h1 h2) (w0 w1 w2 : BitVec 32)
    (e0 : o0 = ![0, k]) (e1 : o1 = ![1, k]) (e2 : o2 = ![2, k]) :
    iprop(hold c M18 f ∗ ((∃ f' : TabBuf (F := F) c, hold c M18 f' ∗
      ⌜∀ r' k' hr' hk', f' (ix r' k' hr' hk') = if k' = k then (![w0, w1, w2] : Fin 3 → BitVec 32) ⟨r', hr'⟩ else f (ix r' k' hr' hk')⌝) -∗ wp frame (wpE (defs₀ (F := F)) Variants.none (c : Thread nD τ) none) Set.univ K Q))
    ⊢ wp frame (wpE (defs₀ (F := F)) Variants.none (c : Thread nD τ) none) Set.univ (recE (F := F) o0 o1 o2 h0 h1 h2 w0 w1 w2 K) Q := by
  subst e0; subst e1; subst e2
  iintro ⟨H, HK⟩
  unfold recE hold
  sl_exec
  iapply HK
  iexists _
  isplitl [H]; · iexact H
  ipureintro
  intro r' k' hr' hk'
  refine (cell_write c _ w2 2 k (by omega) hk h2 r' k' hr' hk').trans ?_
  refine (congrArg (fun z => if r' = 2 ∧ k' = k then w2 else z) ((cell_write c _ w1 1 k (by omega) hk h1 r' k' hr' hk').trans
    (congrArg (fun z => if r' = 1 ∧ k' = k then w1 else z) (cell_write c f w0 0 k (by omega) hk h0 r' k' hr' hk')))).trans ?_
  show (if r' = 2 ∧ k' = k then w2 else if r' = 1 ∧ k' = k then w1 else if r' = 0 ∧ k' = k then w0 else f (ix r' k' hr' hk')) = _
  by_cases hc : k' = k
  · subst hc
    have : r' = 0 ∨ r' = 1 ∨ r' = 2 := by omega
    rcases this with rfl | rfl | rfl <;> simp
  · simp [hc]

/-! ## One expert's turn -/

variable (v8 v19 v30 v41 v52 : BitVec 32) (l : Fin 5 → Bool)

/-- The first token of each expert, as the kernel adds it up. -/
def Wd (v8 v19 v30 v41 v52 : BitVec 32) (e : ℕ) : BitVec 32 := match e with
  | 0 => 0#32
  | 1 => Scalar.addi 0#32 v8
  | 2 => Scalar.addi (Scalar.addi 0#32 v8) v19
  | 3 => Scalar.addi (Scalar.addi (Scalar.addi 0#32 v8) v19) v30
  | 4 => Scalar.addi (Scalar.addi (Scalar.addi (Scalar.addi 0#32 v8) v19) v30) v41
  | _ => Scalar.addi (Scalar.addi (Scalar.addi (Scalar.addi (Scalar.addi 0#32 v8) v19) v30) v41) v52

/-- The table holds the live experts below `e`. -/
def LiveOK (W : ℕ → BitVec 32) (f : TabBuf (F := F) c) (e : ℕ) : Prop := ∀ r (hr : r < 5), r < nl l e →
  f (ix 0 r (by omega) hr) = BitVec.ofNat 32 (liveExp l r) ∧ f (ix 1 r (by omega) hr) = W (liveExp l r) ∧ f (ix 2 r (by omega) hr) = W (liveExp l r + 1)

theorem liveOK_skip {W : ℕ → BitVec 32} {f : TabBuf (F := F) c} {e : Fin 5} (he : l e = false) (h : LiveOK c l W f e.val) : LiveOK c l W f (e.val + 1) := by
  intro r hr hn; rw [nl_dead l e he] at hn; exact h r hr hn

theorem liveOK_step {W : ℕ → BitVec 32} {f f' : TabBuf (F := F) c} {e : Fin 5} (he : l e = true) (h : LiveOK c l W f e.val)
    (hf : ∀ r' k' hr' hk', f' (ix r' k' hr' hk') = if k' = nl l e.val then (![BitVec.ofNat 32 e.val, W e.val, W (e.val + 1)] : Fin 3 → BitVec 32) ⟨r', hr'⟩ else f (ix r' k' hr' hk')) :
    LiveOK c l W f' (e.val + 1) := by
  intro r hr hn
  rw [nl_live l e he] at hn
  rw [hf, hf, hf]
  by_cases hc : r = nl l e.val
  · subst hc
    rw [if_pos rfl, if_pos rfl, if_pos rfl, liveExp_nl l e he]
    exact ⟨rfl, rfl, rfl⟩
  · rw [if_neg hc, if_neg hc, if_neg hc]; exact h r hr (by omega)

/-- What stands before expert `e`: the table with the live experts below it, and the zero copies of the dead ones. -/
def segSt (W : ℕ → BitVec 32) (DW : DWBuf (F := F) c) (fz : Buf (Elt F) (M16.view.loc (c : Thread nD τ))) (e : ℕ) : sProp 𝕄 :=
  iprop((∃ f : TabBuf (F := F) c, hold c M18 f ∗ ⌜LiveOK c l W f e⌝) ∗ bigSep Finset.univ (zBlk c l fz (28 * e)) ∗ zBat c l DW fz (28 * nd l e) 0)

/-- An expert's turn: its column of the table if it has tokens, its zero copies if it has none. -/
def expSeg {R : Type} (p q : Prop) [Decidable p] [Decidable q] (A : p → Prog (TpuEff nD τ sig (Elt F) Λ₀ .tc) R → Prog (TpuEff nD τ sig (Elt F) Λ₀ .tc) R)
    (B : Prog (TpuEff nD τ sig (Elt F) Λ₀ .tc) Unit) (k : Prog (TpuEff nD τ sig (Elt F) Λ₀ .tc) R) : Prog (TpuEff nD τ sig (Elt F) Λ₀ .tc) R :=
  let jp1 : PUnit.{1} → Prog (TpuEff nD τ sig (Elt F) Λ₀ .tc) R := fun _ =>
    let jp2 : PUnit.{1} → Prog (TpuEff nD τ sig (Elt F) Λ₀ .tc) R := fun _ => k
    if q then B >>= fun _ => jp2 ⟨⟩ else jp2 ⟨⟩
  if h : p then A h (jp1 ⟨⟩) else jp1 ⟨⟩

theorem expSeg_wp (W : ℕ → BitVec 32) (DW : DWBuf (F := F) c) (fz : Buf (Elt F) (M16.view.loc (c : Thread nD τ))) (e : Fin 5)
    {R : Type} (p q : Prop) [Decidable p] [Decidable q] (A : p → Prog (TpuEff nD τ sig (Elt F) Λ₀ .tc) R → Prog (TpuEff nD τ sig (Elt F) Λ₀ .tc) R) (B : Prog (TpuEff nD τ sig (Elt F) Λ₀ .tc) Unit)
    (k : Prog (TpuEff nD τ sig (Elt F) Λ₀ .tc) R) (Q : R → sProp 𝕄)
    (hp : p ↔ l e = true) (hq : q ↔ l e = false)
    (hA : ∀ h (f : TabBuf (F := F) c) K, iprop(hold c M18 f ∗ ((∃ f' : TabBuf (F := F) c, hold c M18 f' ∗
      ⌜∀ r' k' hr' hk', f' (ix r' k' hr' hk') = if k' = nl l e.val then (![BitVec.ofNat 32 e.val, W e.val, W (e.val + 1)] : Fin 3 → BitVec 32) ⟨r', hr'⟩ else f (ix r' k' hr' hk')⌝) -∗ wp frame (wpE (defs₀ (F := F)) Variants.none (c : Thread nD τ) none) Set.univ K Q))
      ⊢ wp frame (wpE (defs₀ (F := F)) Variants.none (c : Thread nD τ) none) Set.univ (A h K) Q)
    (hB : l e = false → iprop(bigSep Finset.univ (zBlk c l fz (28 * e.val)) ∗ zBat c l DW fz (28 * nd l e.val) 0)
      ⊢ wp frame (wpE (defs₀ (F := F)) Variants.none (c : Thread nD τ) none) Set.univ B (fun _ => iprop(bigSep Finset.univ (zBlk c l fz (28 * (e.val + 1))) ∗ zBat c l DW fz (28 * nd l (e.val + 1)) 0))) :
    iprop(segSt c l W DW fz e.val ∗ (segSt c l W DW fz (e.val + 1) -∗ wp frame (wpE (defs₀ (F := F)) Variants.none (c : Thread nD τ) none) Set.univ k Q)) ⊢ wp frame (wpE (defs₀ (F := F)) Variants.none (c : Thread nD τ) none) Set.univ (expSeg p q A B k) Q := by
  unfold expSeg segSt
  dsimp only
  by_cases he : l e = true
  · rw [dif_pos (hp.mpr he), if_neg (fun h => by rw [hq.mp h] at he; exact absurd he (by decide))]
    iintro ⟨⟨⟨%f, H18, %hf⟩, HZ⟩, Hk⟩
    ihave HZ := (zSkip c l DW fz e he) $$ HZ
    iapply (hA (hp.mpr he) f k)
    isplitl [H18]; · iexact H18
    iintro ⟨%f', H18, %hf'⟩
    iapply Hk
    isplitl [H18]
    · iexists f'
      isplitl [H18]; · iexact H18
      ipureintro; exact liveOK_step c l he hf hf'
    · iexact HZ
  · have he' : l e = false := by simpa using he
    rw [dif_neg (fun h => he (hp.mp h)), if_pos (hq.mpr he'), wp_bind]
    iintro ⟨⟨⟨%f, H18, %hf⟩, HZ⟩, Hk⟩
    ihave HB := (hB he') $$ HZ
    iapply (wp_wand_r frame (wpE (defs₀ (F := F)) Variants.none (c : Thread nD τ) none) Set.univ)
    isplitl [HB]; · iexact HB
    iintro %_ HZ
    iapply Hk
    isplitl [H18]
    · iexists f
      isplitl [H18]; · iexact H18
      ipureintro; exact liveOK_skip c l he' hf
    · iexact HZ

end

end Cert.KernelIdeal.Hand

end
-- ==== Proof.Parts.lean ====
/- The kernel's first half, expert by expert: the fetches begin, the zeros are laid out, and every expert either takes its
   column of the table or has its zero copies begun. -/
module

public import proofs.«01_k».proof.Proof.Table

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ
section
variable (c : Dev nD) (a0 : Memref sig .tc .smem S5 .i32) (h0 : a0.IsWhole)

/-- The size of expert `e`, as the kernel reads it. -/
abbrev sz (f0 : Buf (Elt F) (a0.view.loc (c : Thread nD τ))) (e : ℕ) (h : ∀ a, (![e] : Fin 1 → ℕ) a + S1.size a ≤ S5.size a) : Elt F .i32 :=
  View.readAt (Elt F) a0.view (Rect.unit (s := S5) ![e] S1.size h).toLoadRect f0 (Shape.Idx.first (numel1_S1 ▸ Nat.one_pos))

/-- The two fetches, the zeros, and the first expert's size. -/
def pre7 : Prog (TpuEff nD τ sig (Elt F) Λ₀ .tc) (Elt F .i32) := do
  let v0 : DmaSems sig S1 := cc0_scratch11.slice (Rect.unit (s := S2) ![0] S1.size inb_S2_S1_0)
  let v1 : DmaSems sig S_ := v0.squeeze S_ squeezes_S1_S_
  Prog.lift (.enqueueDma M1 (.here M8) (.dma v1.sem) (Memref.isWhole_whole _).wordExact (Memref.isWhole_whole _).wordExact ⟨Or.inl rfl, trivial⟩)
  let v2 : DmaSems sig S1 := cc0_scratch11.slice (Rect.unit (s := S2) ![1] S1.size inb_S2_S1_1)
  let v3 : DmaSems sig S_ := v2.squeeze S_ squeezes_S1_S_
  Prog.lift (.enqueueDma M2 (.here M9) (.dma v3.sem) (Memref.isWhole_whole _).wordExact (Memref.isWhole_whole _).wordExact ⟨Or.inl rfl, trivial⟩)
  let v5 : Vec F S128x9728 .f32 ← Prog.lift (.load M16 (Rect.unit (s := S128x9728) ![0, 0] S128x9728.size inb_S128x9728_S128x9728_0_0).toLoadRect (View.loadsAt_vmem h_S128x9728))
  Prog.lift (.store M16 (Rect.unit (s := S128x9728) ![0, 0] S128x9728.size inb_S128x9728_S128x9728_0_0) (k0_pay17 (F := F)) Finset.univ (View.stores_vmem_bits_univ h_S128x9728 rfl) (.inl rfl))
  let v8 : Elt F .i32 ← smemLoad a0 (Rect.unit (s := S5) ![0] S1.size inb_S5_S1_0) numel1_S1 rfl
  pure v8

/-- The first two experts. -/
def post7 (v8 : Elt F .i32) : Prog (TpuEff nD τ sig (Elt F) Λ₀ .tc) (Σ' (v8 : Elt F .i32) (v19 : Elt F .i32) (v20 : BitVec 32), BitVec 32) :=
  expSeg (Scalar.cmpi .ne (Scalar.extui (Scalar.cmpi .sgt v8 0#32) : BitVec 32) 0#32 = 1#1) (Scalar.cmpi .ne (Scalar.extui (Scalar.cmpi .sle v8 0#32) : BitVec 32) 0#32 = 1#1)
    (fun _ => recE (F := F) ![0, 0] ![1, 0] ![2, 0] inb_S3x5_S1x1_0_0 inb_S3x5_S1x1_1_0 inb_S3x5_S1x1_2_0 0#32 0#32 (Scalar.addi 0#32 v8))
    (Scf.Loop.for k0_t1_loop k0_t1_ok ⟨⟩ (fun t _ => zIssue (F := F) (k0_off1 t) (k0_off1_inb t))) do
  let v19 : Elt F .i32 ← smemLoad a0 (Rect.unit (s := S5) ![1] S1.size inb_S5_S1_1) numel1_S1 rfl
  have k0_hw1 : k0_chk1 v8 v19 := (← Prog.lift (TpuEff.assume (k0_chk1 v8 v19) (k0_chk1.dec v8 v19))).down
  expSeg (k0_cond3 v19 = 1#1) (Scalar.cmpi .ne (Scalar.extui (Scalar.cmpi .sle v19 0#32) : BitVec 32) 0#32 = 1#1)
    (fun k0_h3 => recE (F := F) (k0_off2 v8) (k0_off3 v8) (k0_off4 v8) (k0_off2_inb v8 v19 k0_hw1 k0_h3) (k0_off3_inb v8 v19 k0_hw1 k0_h3) (k0_off4_inb v8 v19 k0_hw1 k0_h3)
      1#32 (Scalar.addi 0#32 v8) (Scalar.addi (Scalar.addi 0#32 v8) v19))
    (Scf.Loop.for k0_t2_loop k0_t2_ok ⟨⟩ (fun t _ => zIssue (F := F) (k0_off5 t) (k0_off5_inb t)))
    (pure ⟨v8, v19, Scalar.addi (Scalar.addi 0#32 v8) v19, Scalar.addi (Scalar.addi 0#32 (Scalar.extui (Scalar.cmpi .sgt v8 0#32))) (Scalar.extui (Scalar.cmpi .sgt v19 0#32))⟩)

/-- The last three experts. -/
def part8' (v8 v19 : Elt F .i32) (v20 v29 : BitVec 32) : Prog (TpuEff nD τ sig (Elt F) Λ₀ .tc) (Σ' (v30 : Elt F .i32) (v41 : Elt F .i32) (v52 : Elt F .i32) (k0_hw4 : k0_chk4 v8 v19 v30 v41 v52), BitVec 32) := do
  let v30 : Elt F .i32 ← smemLoad a0 (Rect.unit (s := S5) ![2] S1.size inb_S5_S1_2) numel1_S1 rfl
  have k0_hw2 : k0_chk2 v8 v19 v30 := (← Prog.lift (TpuEff.assume (k0_chk2 v8 v19 v30) (k0_chk2.dec v8 v19 v30))).down
  expSeg (k0_cond5 v30 = 1#1) (Scalar.cmpi .ne (Scalar.extui (Scalar.cmpi .sle v30 0#32) : BitVec 32) 0#32 = 1#1)
    (fun k0_h5 => recE (F := F) (k0_off6 v8 v19) (k0_off7 v8 v19) (k0_off8 v8 v19) (k0_off6_inb v8 v19 v30 k0_hw2 k0_h5) (k0_off7_inb v8 v19 v30 k0_hw2 k0_h5) (k0_off8_inb v8 v19 v30 k0_hw2 k0_h5)
      2#32 v20 (Scalar.addi v20 v30))
    (Scf.Loop.for k0_t3_loop k0_t3_ok ⟨⟩ (fun t _ => zIssue (F := F) (k0_off9 t) (k0_off9_inb t))) do
  let v41 : Elt F .i32 ← smemLoad a0 (Rect.unit (s := S5) ![3] S1.size inb_S5_S1_3) numel1_S1 rfl
  have k0_hw3 : k0_chk3 v8 v19 v30 v41 := (← Prog.lift (TpuEff.assume (k0_chk3 v8 v19 v30 v41) (k0_chk3.dec v8 v19 v30 v41))).down
  expSeg (k0_cond7 v41 = 1#1) (Scalar.cmpi .ne (Scalar.extui (Scalar.cmpi .sle v41 0#32) : BitVec 32) 0#32 = 1#1)
    (fun k0_h7 => recE (F := F) (k0_off10 v8 v19 v30) (k0_off11 v8 v19 v30) (k0_off12 v8 v19 v30) (k0_off10_inb v8 v19 v30 v41 k0_hw3 k0_h7) (k0_off11_inb v8 v19 v30 v41 k0_hw3 k0_h7) (k0_off12_inb v8 v19 v30 v41 k0_hw3 k0_h7)
      3#32 (Scalar.addi v20 v30) (Scalar.addi (Scalar.addi v20 v30) v41))
    (Scf.Loop.for k0_t4_loop k0_t4_ok ⟨⟩ (fun t _ => zIssue (F := F) (k0_off13 t) (k0_off13_inb t))) do
  let v52 : Elt F .i32 ← smemLoad a0 (Rect.unit (s := S5) ![4] S1.size inb_S5_S1_4) numel1_S1 rfl
  have k0_hw4 : k0_chk4 v8 v19 v30 v41 v52 := (← Prog.lift (TpuEff.assume (k0_chk4 v8 v19 v30 v41 v52) (k0_chk4.dec v8 v19 v30 v41 v52))).down
  expSeg (k0_cond9 v52 = 1#1) (Scalar.cmpi .ne (Scalar.extui (Scalar.cmpi .sle v52 0#32) : BitVec 32) 0#32 = 1#1)
    (fun k0_h9 => recE (F := F) (k0_off14 v8 v19 v30 v41) (k0_off15 v8 v19 v30 v41) (k0_off16 v8 v19 v30 v41) (k0_off14_inb v8 v19 v30 v41 v52 k0_hw4 k0_h9) (k0_off15_inb v8 v19 v30 v41 v52 k0_hw4 k0_h9) (k0_off16_inb v8 v19 v30 v41 v52 k0_hw4 k0_h9)
      4#32 (Scalar.addi (Scalar.addi v20 v30) v41) (Scalar.addi (Scalar.addi (Scalar.addi v20 v30) v41) v52))
    (Scf.Loop.for k0_t5_loop k0_t5_ok ⟨⟩ (fun t _ => zIssue (F := F) (k0_off17 t) (k0_off17_inb t)))
    (pure ⟨v30, v41, v52, k0_hw4, Scalar.addi (Scalar.addi (Scalar.addi v29 (Scalar.extui (Scalar.cmpi .sgt v30 0#32))) (Scalar.extui (Scalar.cmpi .sgt v41 0#32))) (Scalar.extui (Scalar.cmpi .sgt v52 0#32))⟩)

set_option maxRecDepth 65536 in
set_option maxHeartbeats 4000000 in
theorem part7_eq : k0_part7 (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 = (pre7 (F := F) a0 >>= fun v8 => post7 a0 v8) := by
  rw [k0_part7_eq_skeleton]; rfl

set_option maxRecDepth 65536 in
set_option maxHeartbeats 4000000 in
theorem part8_eq (v8 v19 : Elt F .i32) (v20 v29 : BitVec 32) : k0_part8 (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 v8 v19 v20 v29 = part8' a0 v8 v19 v20 v29 := by
  rw [k0_part8_eq_skeleton]; rfl

/-! ## The experts' turns run -/

/-- The rectangle of one size. -/
theorem sz_inb (e : Fin 5) : ∀ a, (![e.val] : Fin 1 → ℕ) a + S1.size a ≤ S5.size a := by
  have := e.isLt; intro a; fin_cases a; show e.val + 1 ≤ 5; omega

/-- The five sizes. -/
abbrev szs (f0 : Buf (Elt F) (a0.view.loc (c : Thread nD τ))) (e : Fin 5) : BitVec 32 := sz (F := F) c a0 f0 e.val (sz_inb e)

/-- Which experts have tokens, by the sizes in the buffer. -/
abbrev lvs (f0 : Buf (Elt F) (a0.view.loc (c : Thread nD τ))) : Fin 5 → Bool :=
  lv (szs c a0 f0 0) (szs c a0 f0 1) (szs c a0 f0 2) (szs c a0 f0 3) (szs c a0 f0 4)

/-- The first token of each expert, by the sizes in the buffer. -/
abbrev Wds (f0 : Buf (Elt F) (a0.view.loc (c : Thread nD τ))) : ℕ → BitVec 32 :=
  Wd (szs c a0 f0 0) (szs c a0 f0 1) (szs c a0 f0 2) (szs c a0 f0 3) (szs c a0 f0 4)

variable (f0 : Buf (Elt F) (a0.view.loc (c : Thread nD τ))) (DW : DWBuf (F := F) c) (fz : Buf (Elt F) (M16.view.loc (c : Thread nD τ)))
variable (hz : ∀ x : Fin 5 × Fin 28, lvs c a0 f0 x.1 = false → (blk x).view.read (Elt F) DW = M16.view.read (Elt F) fz)

theorem sz_wp {R : Type} (e : Fin 5) (K : Elt F .i32 → Prog (TpuEff nD τ sig (Elt F) Λ₀ .tc) R) (Q : R → sProp 𝕄) :
    iprop(hold c a0 f0 ∗ (hold c a0 f0 -∗ wp frame (wpE (defs₀ (F := F)) Variants.none (c : Thread nD τ) none) Set.univ (K (szs c a0 f0 e)) Q))
      ⊢ wp frame (wpE (defs₀ (F := F)) Variants.none (c : Thread nD τ) none) Set.univ (smemLoad a0 (Rect.unit (s := S5) ![e.val] S1.size (sz_inb e)) numel1_S1 rfl >>= K) Q := by
  rw [wp_bind]
  iintro ⟨H0, HK⟩
  unfold hold
  sl_exec
  iapply HK
  iexact H0

theorem assume_wp {R : Type} (p : Prop) (d : Decidable p) (h : p) (K : PLift p → Prog (TpuEff nD τ sig (Elt F) Λ₀ .tc) R) (Q : R → sProp 𝕄) :
    wp frame (wpE (defs₀ (F := F)) Variants.none (c : Thread nD τ) none) Set.univ (K ⟨h⟩) Q ⊢ wp frame (wpE (defs₀ (F := F)) Variants.none (c : Thread nD τ) none) Set.univ (Prog.lift (TpuEff.assume p d) >>= K) Q := by
  rw [wp_bind]
  iintro H
  iapply (wp_assume _ _ _ _ h)
  iapply (le_wp_ret frame (wpE (defs₀ (F := F)) Variants.none (c : Thread nD τ) none) Set.univ)
  iexact H

/-- The state before expert `e`. -/
abbrev segs (e : ℕ) : sProp 𝕄 := segSt c (lvs c a0 f0) (Wds c a0 f0) DW fz e

include hz in
set_option maxHeartbeats 4000000 in
theorem post7_wp (Q : (Σ' (v8 : Elt F .i32) (v19 : Elt F .i32) (v20 : BitVec 32), BitVec 32) → sProp 𝕄) :
    iprop(hold c a0 f0 ∗ segs c a0 f0 DW fz 0 ∗ (hold c a0 f0 -∗ segs c a0 f0 DW fz 2 -∗
      Q ⟨szs c a0 f0 0, szs c a0 f0 1, Scalar.addi (Scalar.addi 0#32 (szs c a0 f0 0)) (szs c a0 f0 1), Scalar.addi (Scalar.addi 0#32 (Scalar.extui (Scalar.cmpi .sgt (szs c a0 f0 0) 0#32))) (Scalar.extui (Scalar.cmpi .sgt (szs c a0 f0 1) 0#32))⟩))
    ⊢ wp frame (wpE (defs₀ (F := F)) Variants.none (c : Thread nD τ) none) Set.univ (post7 (F := F) a0 (szs c a0 f0 0)) Q := by
  obtain ⟨r0, r1, r2, r3, r4, r5, r6, r7, r8, r9, r10, r11⟩ := rows_words (szs c a0 f0 0) (szs c a0 f0 1) (szs c a0 f0 2) (szs c a0 f0 3) (szs c a0 f0 4)
  have n0 : nl (lvs c a0 f0) 0 = 0 := nl_zero _
  iintro ⟨H0, HS, HQ⟩
  unfold post7
  iapply (expSeg_wp c (lvs c a0 f0) (Wds c a0 f0) DW fz 0 _ _ _ _ _ _ (cond_sgt _) (cond_sle _)
    (fun h f K => recE_wp c K Q f (nl (lvs c a0 f0) 0) (by omega) _ _ _ _ _ _ _ _ _ (by rw [n0]) (by rw [n0]) (by rw [n0]))
    (fun he => zLoop_wp c (lvs c a0 f0) DW fz hz _ _ trips_const.1 0 he _ _ fun t => t1_words t))
  isplitl [HS]; · iexact HS
  iintro HS
  iapply (sz_wp c a0 f0 1 _ Q)
  isplitl [H0]; · iexact H0
  iintro H0
  iapply (assume_wp c _ _ (chk1 _ _) _ Q)
  iapply (expSeg_wp c (lvs c a0 f0) (Wds c a0 f0) DW fz 1 _ _ _ _ _ _ (cond_sgt _) (cond_sle _)
    (fun h f K => recE_wp c K Q f (nl (lvs c a0 f0) 1) (lt_of_le_of_lt (nl_le _ 1) (by decide)) _ _ _ _ _ _ _ _ _ r0 r1 r2)
    (fun he => zLoop_wp c (lvs c a0 f0) DW fz hz _ _ trips_const.2.1 1 he _ _ fun t => t2_words t))
  isplitl [HS]; · iexact HS
  iintro HS
  iapply (le_wp_ret frame (wpE (defs₀ (F := F)) Variants.none (c : Thread nD τ) none) Set.univ _ Q)
  ispecialize HQ $$ H0
  iapply HQ
  iexact HS

include hz in
set_option maxHeartbeats 8000000 in
theorem part8_wp (hw4 : k0_chk4 (szs c a0 f0 0) (szs c a0 f0 1) (szs c a0 f0 2) (szs c a0 f0 3) (szs c a0 f0 4)) (Q : (Σ' (v30 : Elt F .i32) (v41 : Elt F .i32) (v52 : Elt F .i32) (k0_hw4 : k0_chk4 (szs c a0 f0 0) (szs c a0 f0 1) v30 v41 v52), BitVec 32) → sProp 𝕄) :
    iprop(hold c a0 f0 ∗ segs c a0 f0 DW fz 2 ∗ (hold c a0 f0 -∗ segs c a0 f0 DW fz 5 -∗
      Q ⟨szs c a0 f0 2, szs c a0 f0 3, szs c a0 f0 4, hw4, Scalar.addi (Scalar.addi (Scalar.addi (Scalar.addi (Scalar.addi 0#32 (Scalar.extui (Scalar.cmpi .sgt (szs c a0 f0 0) 0#32))) (Scalar.extui (Scalar.cmpi .sgt (szs c a0 f0 1) 0#32))) (Scalar.extui (Scalar.cmpi .sgt (szs c a0 f0 2) 0#32))) (Scalar.extui (Scalar.cmpi .sgt (szs c a0 f0 3) 0#32))) (Scalar.extui (Scalar.cmpi .sgt (szs c a0 f0 4) 0#32))⟩))
    ⊢ wp frame (wpE (defs₀ (F := F)) Variants.none (c : Thread nD τ) none) Set.univ (part8' (F := F) a0 (szs c a0 f0 0) (szs c a0 f0 1) (Scalar.addi (Scalar.addi 0#32 (szs c a0 f0 0)) (szs c a0 f0 1)) (Scalar.addi (Scalar.addi 0#32 (Scalar.extui (Scalar.cmpi .sgt (szs c a0 f0 0) 0#32))) (Scalar.extui (Scalar.cmpi .sgt (szs c a0 f0 1) 0#32)))) Q := by
  obtain ⟨r0, r1, r2, r3, r4, r5, r6, r7, r8, r9, r10, r11⟩ := rows_words (szs c a0 f0 0) (szs c a0 f0 1) (szs c a0 f0 2) (szs c a0 f0 3) (szs c a0 f0 4)
  iintro ⟨H0, HS, HQ⟩
  unfold part8'
  iapply (sz_wp c a0 f0 2 _ Q)
  isplitl [H0]; · iexact H0
  iintro H0
  iapply (assume_wp c _ _ (chk2 _ _ _) _ Q)
  iapply (expSeg_wp c (lvs c a0 f0) (Wds c a0 f0) DW fz 2 _ _ _ _ _ _ (cond_sgt _) (cond_sle _)
    (fun h f K => recE_wp c K Q f (nl (lvs c a0 f0) 2) (lt_of_le_of_lt (nl_le _ 2) (by decide)) _ _ _ _ _ _ _ _ _ r3 r4 r5)
    (fun he => zLoop_wp c (lvs c a0 f0) DW fz hz _ _ trips_const.2.2.1 2 he _ _ fun t => t3_words t))
  isplitl [HS]; · iexact HS
  iintro HS
  iapply (sz_wp c a0 f0 3 _ Q)
  isplitl [H0]; · iexact H0
  iintro H0
  iapply (assume_wp c _ _ (chk3 _ _ _ _) _ Q)
  iapply (expSeg_wp c (lvs c a0 f0) (Wds c a0 f0) DW fz 3 _ _ _ _ _ _ (cond_sgt _) (cond_sle _)
    (fun h f K => recE_wp c K Q f (nl (lvs c a0 f0) 3) (lt_of_le_of_lt (nl_le _ 3) (by decide)) _ _ _ _ _ _ _ _ _ r6 r7 r8)
    (fun he => zLoop_wp c (lvs c a0 f0) DW fz hz _ _ trips_const.2.2.2.1 3 he _ _ fun t => t4_words t))
  isplitl [HS]; · iexact HS
  iintro HS
  iapply (sz_wp c a0 f0 4 _ Q)
  isplitl [H0]; · iexact H0
  iintro H0
  iapply (assume_wp c _ _ (hw4) _ Q)
  iapply (expSeg_wp c (lvs c a0 f0) (Wds c a0 f0) DW fz 4 _ _ _ _ _ _ (cond_sgt _) (cond_sle _)
    (fun h f K => recE_wp c K Q f (nl (lvs c a0 f0) 4) (lt_of_le_of_lt (nl_le _ 4) (by decide)) _ _ _ _ _ _ _ _ _ r9 r10 r11)
    (fun he => zLoop_wp c (lvs c a0 f0) DW fz hz _ _ trips_const.2.2.2.2.1 4 he _ _ fun t => t5_words t))
  isplitl [HS]; · iexact HS
  iintro HS
  iapply (le_wp_ret frame (wpE (defs₀ (F := F)) Variants.none (c : Thread nD τ) none) Set.univ _ Q)
  ispecialize HQ $$ H0
  iapply HQ
  iexact HS

end

end Cert.KernelIdeal.Hand

end
-- ==== Proof.Copies.lean ====
/- The copies of whole buffers: the two that fetch the inputs and the four that send the codes and their scales off,
   each issued and later waited for, with what the destination then holds. -/
module

public import proofs.«01_k».proof.Proof.Parts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ
section
variable (c : Dev nD) (a0 : Memref sig .tc .smem S5 .i32) (f0 : Buf (Elt F) (a0.view.loc (c : Thread nD τ)))

/-- A copy of a whole buffer under way: it will give back the destination filled and the source. -/
abbrev underWay {sp sp' : Space} {s : Shape} {e : EltTy} (k : DmaSem sig) (n : ℕ) (Ms : Memref sig .tc sp s e) (Md : Memref sig .tc sp' s e)
    (fs : Buf (Elt F) (Ms.view.loc (c : Thread nD τ))) (fd : Buf (Elt F) (Md.view.loc (c : Thread nD τ))) : sProp 𝕄 :=
  iprop(Transfers.Flight (countersEmb (U := Pipeline.UD sig nD τ)) (c : Thread nD τ) (SemLoc.dma k) default n
      iprop((Md.view.loc (c : Thread nD τ) ↦{fullShare} View.write (Elt F) Md.view fd (Ms.view.read (Elt F) fs) Finset.univ)
        ∗ Ms.view.loc (c : Thread nD τ) ↦[Ms.view.set]{fullShare} fs)
    ∗ Ms.view.loc (c : Thread nD τ) ↦[Finset.univ \ Ms.view.set]{fullShare} fs)

/-- The semaphore of copy `k` at zero. -/
abbrev zeroSem (k : DmaSem sig) : sProp 𝕄 := semVal ((c : Thread nD τ), SemLoc.dma k) 0

/-- The buffer of zeros. -/
def zeros : Buf (Elt F) (M16.view.loc (c : Thread nD τ)) := fun i => (k0_pay17 (F := F)) i

/-- What buffer 8 holds after the copy from buffer 1. -/
def cp1 (f : Buf (Elt F) (M1.view.loc (c : Thread nD τ))) : Buf (Elt F) (M8.view.loc (c : Thread nD τ)) := fun i => f i

/-- What buffer 9 holds after the copy from buffer 2. -/
def cp2 (f : Buf (Elt F) (M2.view.loc (c : Thread nD τ))) : Buf (Elt F) (M9.view.loc (c : Thread nD τ)) := fun i => f i

/-- What buffer 4 holds after the copy from buffer 10. -/
def cp10 (f : Buf (Elt F) (M10.view.loc (c : Thread nD τ))) : Buf (Elt F) (M4.view.loc (c : Thread nD τ)) := fun i => f i

/-- What buffer 5 holds after the copy from buffer 11. -/
def cp11 (f : Buf (Elt F) (M11.view.loc (c : Thread nD τ))) : Buf (Elt F) (M5.view.loc (c : Thread nD τ)) := fun i => f i

/-- What buffer 6 holds after the copy from buffer 12. -/
def cp12 (f : Buf (Elt F) (M12.view.loc (c : Thread nD τ))) : Buf (Elt F) (M6.view.loc (c : Thread nD τ)) := fun i => f i

/-- What buffer 7 holds after the copy from buffer 13. -/
def cp13 (f : Buf (Elt F) (M13.view.loc (c : Thread nD τ))) : Buf (Elt F) (M7.view.loc (c : Thread nD τ)) := fun i => f i

/-- A store of the whole buffer leaves what was stored. -/
theorem writes_gen {b : Ref sig .tc} (M : Memref sig .tc .vmem S128x9728 .f32) (f : M.view.ty.Contents (Elt F)) (r : Rect S128x9728) (w : r.shape.Idx → Elt F .f32)
    (ι : S128x9728.Idx → r.shape.Idx) (hι : ∀ i a, (i a).val = r.off a + r.stride a * (ι i a).val) (i : S128x9728.Idx) :
    M.view.read (Elt F) (M.view.writes (Elt F) f [⟨r, w⟩]) i = w (ι i) :=
  View.read_writes_cons_hit_of_coords M.view f r w [] (ι i) i (hι i)

set_option maxRecDepth 65536 in
theorem writes_all (f16 : Buf (Elt F) (M16.view.loc (c : Thread nD τ))) :
    M16.view.writes (Elt F) f16 [⟨Rect.unit (s := S128x9728) ![0, 0] S128x9728.size inb_S128x9728_S128x9728_0_0, k0_pay17 (F := F)⟩] = zeros c :=
  by
  generalize hw : k0_pay17 (F := F) = w
  have h0 : ∀ a : Fin 2, (![0, 0] : Fin 2 → ℕ) a = 0 := by decide
  have hι : ∀ (i : S128x9728.Idx) (a : Fin 2), (i a).val = (![0, 0] : Fin 2 → ℕ) a + 1 * (i a).val := fun i a => by rw [h0, Nat.zero_add, Nat.one_mul]
  have key := writes_gen (b := cc0_scratch8) M16 f16 (Rect.unit (s := S128x9728) ![0, 0] S128x9728.size inb_S128x9728_S128x9728_0_0) w (fun i => i) hι
  unfold zeros
  rw [hw]
  have e := View.read_whole (Val := Elt F) cc0_scratch8 (M16.view.writes (Elt F) f16 [⟨Rect.unit (s := S128x9728) ![0, 0] S128x9728.size inb_S128x9728_S128x9728_0_0, w⟩])
  refine e.symm.trans (Eq.trans ?_ (show (w : S128x9728.Idx → Elt F .f32) = _ from rfl))
  exact funext key

theorem pre7_wp {R : Type} (f1 : Buf (Elt F) (M1.view.loc (c : Thread nD τ))) (f2 : Buf (Elt F) (M2.view.loc (c : Thread nD τ))) (f8 : Buf (Elt F) (M8.view.loc (c : Thread nD τ))) (f9 : Buf (Elt F) (M9.view.loc (c : Thread nD τ))) (f16 : Buf (Elt F) (M16.view.loc (c : Thread nD τ))) (K : Elt F .i32 → Prog (TpuEff nD τ sig (Elt F) Λ₀ .tc) R) (Q : R → sProp 𝕄) :
   iprop(hold c a0 f0 ∗ hold c M1 f1 ∗ hold c M2 f2 ∗ hold c M8 f8 ∗ hold c M9 f9 ∗ hold c M16 f16 ∗ zeroSem c (1 : DmaSem sig) ∗ zeroSem c (2 : DmaSem sig)
      ∗ (hold c a0 f0 -∗ underWay c (1 : DmaSem sig) 57344 M1 M8 f1 f8 -∗ underWay c (2 : DmaSem sig) 155648 M2 M9 f2 f9 -∗ hold c M16 (zeros c) -∗ wp frame (wpE (defs₀ (F := F)) Variants.none (c : Thread nD τ) none) Set.univ (K (szs c a0 f0 0)) Q))
    ⊢ wp frame (wpE (defs₀ (F := F)) Variants.none (c : Thread nD τ) none) Set.univ (pre7 (F := F) a0 >>= K) Q := by
  rw [wp_bind]
  iintro ⟨H0, H1, H2, H8, H9, H16, Hs1, Hs2, HK⟩
  unfold pre7 hold
  sl_exec
  ispecialize HK $$ H0
  ispecialize HK $$ [Hs1 H1]
  · isplitl [Hs1]; · iexact Hs1
    iexact H1
  ispecialize HK $$ [Hs2 H2]
  · isplitl [Hs2]; · iexact Hs2
    iexact H2
  have e : M16.view.writes (Elt F) f16 [⟨Rect.unit (s := S128x9728) ![0, 0] S128x9728.size inb_S128x9728_S128x9728_0_0, k0_pay17 (F := F)⟩] = zeros c := by
    exact writes_all c f16
  rw [e]
  ispecialize HK $$ H16
  iexact HK

theorem wait1_wp {R : Type} (fs : Buf (Elt F) (M1.view.loc (c : Thread nD τ))) (fd : Buf (Elt F) (M8.view.loc (c : Thread nD τ))) (K : PUnit → Prog (TpuEff nD τ sig (Elt F) Λ₀ .tc) R) (Q : R → sProp 𝕄) :
   iprop((∃ W : Waits sig Unit, owes (c : Thread nD τ) 0 W) ∗ underWay c (1 : DmaSem sig) 57344 M1 M8 fs fd
      ∗ ((∃ W : Waits sig Unit, owes (c : Thread nD τ) 0 W) -∗ zeroSem c (1 : DmaSem sig) -∗ hold c M1 fs -∗ hold c M8 (cp1 c fs) -∗ wp frame (wpE (defs₀ (F := F)) Variants.none (c : Thread nD τ) none) Set.univ (K ⟨⟩) Q))
    ⊢ wp frame (wpE (defs₀ (F := F)) Variants.none (c : Thread nD τ) none) Set.univ (Prog.lift (.waitDma2 ((cc0_scratch11.slice (Rect.unit (s := S2) ![0] S1.size inb_S2_S1_0)).squeeze S_ squeezes_S1_S_).sem M1 M8 (Memref.isWhole_whole _).wordExact (Memref.isWhole_whole _).wordExact) >>= K) Q := by
  rw [wp_bind]
  iintro ⟨⟨%W, HO⟩, ⟨H1, H2⟩, HK⟩
  sl_exec
  ispecialize HK $$ [HO]
  · iexists _; iexact HO
  ispecialize HK $$ [H1]; · iexact H1
  ispecialize HK $$ [H2]; · iexact H2
  ispecialize HK $$ [H1_dst]
  · have e : View.write (Elt F) M8.view fd (M1.view.read (Elt F) fs) Finset.univ = cp1 c fs := View.write_whole_univ _ _ _
    rw [← e]; iexact H1_dst
  iexact HK

theorem wait2_wp {R : Type} (fs : Buf (Elt F) (M2.view.loc (c : Thread nD τ))) (fd : Buf (Elt F) (M9.view.loc (c : Thread nD τ))) (K : PUnit → Prog (TpuEff nD τ sig (Elt F) Λ₀ .tc) R) (Q : R → sProp 𝕄) :
   iprop((∃ W : Waits sig Unit, owes (c : Thread nD τ) 0 W) ∗ underWay c (2 : DmaSem sig) 155648 M2 M9 fs fd
      ∗ ((∃ W : Waits sig Unit, owes (c : Thread nD τ) 0 W) -∗ zeroSem c (2 : DmaSem sig) -∗ hold c M2 fs -∗ hold c M9 (cp2 c fs) -∗ wp frame (wpE (defs₀ (F := F)) Variants.none (c : Thread nD τ) none) Set.univ (K ⟨⟩) Q))
    ⊢ wp frame (wpE (defs₀ (F := F)) Variants.none (c : Thread nD τ) none) Set.univ (Prog.lift (.waitDma2 ((cc0_scratch11.slice (Rect.unit (s := S2) ![1] S1.size inb_S2_S1_1)).squeeze S_ squeezes_S1_S_).sem M2 M9 (Memref.isWhole_whole _).wordExact (Memref.isWhole_whole _).wordExact) >>= K) Q := by
  rw [wp_bind]
  iintro ⟨⟨%W, HO⟩, ⟨H1, H2⟩, HK⟩
  sl_exec
  ispecialize HK $$ [HO]
  · iexists _; iexact HO
  ispecialize HK $$ [H1]; · iexact H1
  ispecialize HK $$ [H2]; · iexact H2
  ispecialize HK $$ [H1_dst]
  · have e : View.write (Elt F) M9.view fd (M2.view.read (Elt F) fs) Finset.univ = cp2 c fs := View.write_whole_univ _ _ _
    rw [← e]; iexact H1_dst
  iexact HK

theorem wait10_wp {R : Type} (fs : Buf (Elt F) (M10.view.loc (c : Thread nD τ))) (fd : Buf (Elt F) (M4.view.loc (c : Thread nD τ))) (K : PUnit → Prog (TpuEff nD τ sig (Elt F) Λ₀ .tc) R) (Q : R → sProp 𝕄) :
   iprop((∃ W : Waits sig Unit, owes (c : Thread nD τ) 0 W) ∗ underWay c (4 : DmaSem sig) 28672 M10 M4 fs fd
      ∗ ((∃ W : Waits sig Unit, owes (c : Thread nD τ) 0 W) -∗ zeroSem c (4 : DmaSem sig) -∗ hold c M10 fs -∗ hold c M4 (cp10 c fs) -∗ wp frame (wpE (defs₀ (F := F)) Variants.none (c : Thread nD τ) none) Set.univ (K ⟨⟩) Q))
    ⊢ wp frame (wpE (defs₀ (F := F)) Variants.none (c : Thread nD τ) none) Set.univ (Prog.lift (.waitDma2 ((cc0_scratch13.slice (Rect.unit (s := S4) ![0] S1.size inb_S4_S1_0)).squeeze S_ squeezes_S1_S_).sem M10 M4 (Memref.isWhole_whole _).wordExact (Memref.isWhole_whole _).wordExact) >>= K) Q := by
  rw [wp_bind]
  iintro ⟨⟨%W, HO⟩, ⟨H1, H2⟩, HK⟩
  sl_exec
  ispecialize HK $$ [HO]
  · iexists _; iexact HO
  ispecialize HK $$ [H1]; · iexact H1
  ispecialize HK $$ [H2]; · iexact H2
  ispecialize HK $$ [H1_dst]
  · have e : View.write (Elt F) M4.view fd (M10.view.read (Elt F) fs) Finset.univ = cp10 c fs := View.write_whole_univ _ _ _
    rw [← e]; iexact H1_dst
  iexact HK

theorem wait11_wp {R : Type} (fs : Buf (Elt F) (M11.view.loc (c : Thread nD τ))) (fd : Buf (Elt F) (M5.view.loc (c : Thread nD τ))) (K : PUnit → Prog (TpuEff nD τ sig (Elt F) Λ₀ .tc) R) (Q : R → sProp 𝕄) :
   iprop((∃ W : Waits sig Unit, owes (c : Thread nD τ) 0 W) ∗ underWay c (5 : DmaSem sig) 3584 M11 M5 fs fd
      ∗ ((∃ W : Waits sig Unit, owes (c : Thread nD τ) 0 W) -∗ zeroSem c (5 : DmaSem sig) -∗ hold c M11 fs -∗ hold c M5 (cp11 c fs) -∗ wp frame (wpE (defs₀ (F := F)) Variants.none (c : Thread nD τ) none) Set.univ (K ⟨⟩) Q))
    ⊢ wp frame (wpE (defs₀ (F := F)) Variants.none (c : Thread nD τ) none) Set.univ (Prog.lift (.waitDma2 ((cc0_scratch13.slice (Rect.unit (s := S4) ![1] S1.size inb_S4_S1_1)).squeeze S_ squeezes_S1_S_).sem M11 M5 (Memref.isWhole_whole _).wordExact (Memref.isWhole_whole _).wordExact) >>= K) Q := by
  rw [wp_bind]
  iintro ⟨⟨%W, HO⟩, ⟨H1, H2⟩, HK⟩
  sl_exec
  ispecialize HK $$ [HO]
  · iexists _; iexact HO
  ispecialize HK $$ [H1]; · iexact H1
  ispecialize HK $$ [H2]; · iexact H2
  ispecialize HK $$ [H1_dst]
  · have e : View.write (Elt F) M5.view fd (M11.view.read (Elt F) fs) Finset.univ = cp11 c fs := View.write_whole_univ _ _ _
    rw [← e]; iexact H1_dst
  iexact HK

theorem wait12_wp {R : Type} (fs : Buf (Elt F) (M12.view.loc (c : Thread nD τ))) (fd : Buf (Elt F) (M6.view.loc (c : Thread nD τ))) (K : PUnit → Prog (TpuEff nD τ sig (Elt F) Λ₀ .tc) R) (Q : R → sProp 𝕄) :
   iprop((∃ W : Waits sig Unit, owes (c : Thread nD τ) 0 W) ∗ underWay c (6 : DmaSem sig) 77824 M12 M6 fs fd
      ∗ ((∃ W : Waits sig Unit, owes (c : Thread nD τ) 0 W) -∗ zeroSem c (6 : DmaSem sig) -∗ hold c M12 fs -∗ hold c M6 (cp12 c fs) -∗ wp frame (wpE (defs₀ (F := F)) Variants.none (c : Thread nD τ) none) Set.univ (K ⟨⟩) Q))
    ⊢ wp frame (wpE (defs₀ (F := F)) Variants.none (c : Thread nD τ) none) Set.univ (Prog.lift (.waitDma2 ((cc0_scratch13.slice (Rect.unit (s := S4) ![2] S1.size inb_S4_S1_2)).squeeze S_ squeezes_S1_S_).sem M12 M6 (Memref.isWhole_whole _).wordExact (Memref.isWhole_whole _).wordExact) >>= K) Q := by
  rw [wp_bind]
  iintro ⟨⟨%W, HO⟩, ⟨H1, H2⟩, HK⟩
  sl_exec
  ispecialize HK $$ [HO]
  · iexists _; iexact HO
  ispecialize HK $$ [H1]; · iexact H1
  ispecialize HK $$ [H2]; · iexact H2
  ispecialize HK $$ [H1_dst]
  · have e : View.write (Elt F) M6.view fd (M12.view.read (Elt F) fs) Finset.univ = cp12 c fs := View.write_whole_univ _ _ _
    rw [← e]; iexact H1_dst
  iexact HK

theorem wait13_wp {R : Type} (fs : Buf (Elt F) (M13.view.loc (c : Thread nD τ))) (fd : Buf (Elt F) (M7.view.loc (c : Thread nD τ))) (K : PUnit → Prog (TpuEff nD τ sig (Elt F) Λ₀ .tc) R) (Q : R → sProp 𝕄) :
   iprop((∃ W : Waits sig Unit, owes (c : Thread nD τ) 0 W) ∗ underWay c (7 : DmaSem sig) 9728 M13 M7 fs fd
      ∗ ((∃ W : Waits sig Unit, owes (c : Thread nD τ) 0 W) -∗ zeroSem c (7 : DmaSem sig) -∗ hold c M13 fs -∗ hold c M7 (cp13 c fs) -∗ wp frame (wpE (defs₀ (F := F)) Variants.none (c : Thread nD τ) none) Set.univ (K ⟨⟩) Q))
    ⊢ wp frame (wpE (defs₀ (F := F)) Variants.none (c : Thread nD τ) none) Set.univ (Prog.lift (.waitDma2 ((cc0_scratch13.slice (Rect.unit (s := S4) ![3] S1.size inb_S4_S1_3)).squeeze S_ squeezes_S1_S_).sem M13 M7 (Memref.isWhole_whole _).wordExact (Memref.isWhole_whole _).wordExact) >>= K) Q := by
  rw [wp_bind]
  iintro ⟨⟨%W, HO⟩, ⟨H1, H2⟩, HK⟩
  sl_exec
  ispecialize HK $$ [HO]
  · iexists _; iexact HO
  ispecialize HK $$ [H1]; · iexact H1
  ispecialize HK $$ [H2]; · iexact H2
  ispecialize HK $$ [H1_dst]
  · have e : View.write (Elt F) M7.view fd (M13.view.read (Elt F) fs) Finset.univ = cp13 c fs := View.write_whole_univ _ _ _
    rw [← e]; iexact H1_dst
  iexact HK

theorem send10_wp {R : Type} (fs : Buf (Elt F) (M10.view.loc (c : Thread nD τ))) (fd : Buf (Elt F) (M4.view.loc (c : Thread nD τ))) (K : PUnit → Prog (TpuEff nD τ sig (Elt F) Λ₀ .tc) R) (Q : R → sProp 𝕄) :
   iprop(hold c M10 fs ∗ hold c M4 fd ∗ zeroSem c (4 : DmaSem sig) ∗ (underWay c (4 : DmaSem sig) 28672 M10 M4 fs fd -∗ wp frame (wpE (defs₀ (F := F)) Variants.none (c : Thread nD τ) none) Set.univ (K ⟨⟩) Q))
    ⊢ wp frame (wpE (defs₀ (F := F)) Variants.none (c : Thread nD τ) none) Set.univ (Prog.lift (.enqueueDma M10 (.here M4) (.dma ((cc0_scratch13.slice (Rect.unit (s := S4) ![0] S1.size inb_S4_S1_0)).squeeze S_ squeezes_S1_S_).sem) (Memref.isWhole_whole _).wordExact (Memref.isWhole_whole _).wordExact ⟨Or.inl rfl, trivial⟩) >>= K) Q := by
  rw [wp_bind]
  iintro ⟨Hs, Hd, Hq, HK⟩
  unfold hold
  sl_exec
  ispecialize HK $$ [Hq Hs]
  · isplitl [Hq]; · iexact Hq
    iexact Hs
  iexact HK

theorem send11_wp {R : Type} (fs : Buf (Elt F) (M11.view.loc (c : Thread nD τ))) (fd : Buf (Elt F) (M5.view.loc (c : Thread nD τ))) (K : PUnit → Prog (TpuEff nD τ sig (Elt F) Λ₀ .tc) R) (Q : R → sProp 𝕄) :
   iprop(hold c M11 fs ∗ hold c M5 fd ∗ zeroSem c (5 : DmaSem sig) ∗ (underWay c (5 : DmaSem sig) 3584 M11 M5 fs fd -∗ wp frame (wpE (defs₀ (F := F)) Variants.none (c : Thread nD τ) none) Set.univ (K ⟨⟩) Q))
    ⊢ wp frame (wpE (defs₀ (F := F)) Variants.none (c : Thread nD τ) none) Set.univ (Prog.lift (.enqueueDma M11 (.here M5) (.dma ((cc0_scratch13.slice (Rect.unit (s := S4) ![1] S1.size inb_S4_S1_1)).squeeze S_ squeezes_S1_S_).sem) (Memref.isWhole_whole _).wordExact (Memref.isWhole_whole _).wordExact ⟨Or.inl rfl, trivial⟩) >>= K) Q := by
  rw [wp_bind]
  iintro ⟨Hs, Hd, Hq, HK⟩
  unfold hold
  sl_exec
  ispecialize HK $$ [Hq Hs]
  · isplitl [Hq]; · iexact Hq
    iexact Hs
  iexact HK

theorem send12_wp {R : Type} (fs : Buf (Elt F) (M12.view.loc (c : Thread nD τ))) (fd : Buf (Elt F) (M6.view.loc (c : Thread nD τ))) (K : PUnit → Prog (TpuEff nD τ sig (Elt F) Λ₀ .tc) R) (Q : R → sProp 𝕄) :
   iprop(hold c M12 fs ∗ hold c M6 fd ∗ zeroSem c (6 : DmaSem sig) ∗ (underWay c (6 : DmaSem sig) 77824 M12 M6 fs fd -∗ wp frame (wpE (defs₀ (F := F)) Variants.none (c : Thread nD τ) none) Set.univ (K ⟨⟩) Q))
    ⊢ wp frame (wpE (defs₀ (F := F)) Variants.none (c : Thread nD τ) none) Set.univ (Prog.lift (.enqueueDma M12 (.here M6) (.dma ((cc0_scratch13.slice (Rect.unit (s := S4) ![2] S1.size inb_S4_S1_2)).squeeze S_ squeezes_S1_S_).sem) (Memref.isWhole_whole _).wordExact (Memref.isWhole_whole _).wordExact ⟨Or.inl rfl, trivial⟩) >>= K) Q := by
  rw [wp_bind]
  iintro ⟨Hs, Hd, Hq, HK⟩
  unfold hold
  sl_exec
  ispecialize HK $$ [Hq Hs]
  · isplitl [Hq]; · iexact Hq
    iexact Hs
  iexact HK

theorem send13_wp {R : Type} (fs : Buf (Elt F) (M13.view.loc (c : Thread nD τ))) (fd : Buf (Elt F) (M7.view.loc (c : Thread nD τ))) (K : PUnit → Prog (TpuEff nD τ sig (Elt F) Λ₀ .tc) R) (Q : R → sProp 𝕄) :
   iprop(hold c M13 fs ∗ hold c M7 fd ∗ zeroSem c (7 : DmaSem sig) ∗ (underWay c (7 : DmaSem sig) 9728 M13 M7 fs fd -∗ wp frame (wpE (defs₀ (F := F)) Variants.none (c : Thread nD τ) none) Set.univ (K ⟨⟩) Q))
    ⊢ wp frame (wpE (defs₀ (F := F)) Variants.none (c : Thread nD τ) none) Set.univ (Prog.lift (.enqueueDma M13 (.here M7) (.dma ((cc0_scratch13.slice (Rect.unit (s := S4) ![3] S1.size inb_S4_S1_3)).squeeze S_ squeezes_S1_S_).sem) (Memref.isWhole_whole _).wordExact (Memref.isWhole_whole _).wordExact ⟨Or.inl rfl, trivial⟩) >>= K) Q := by
  rw [wp_bind]
  iintro ⟨Hs, Hd, Hq, HK⟩
  unfold hold
  sl_exec
  ispecialize HK $$ [Hq Hs]
  · isplitl [Hq]; · iexact Hq
    iexact Hs
  iexact HK
end

end Cert.KernelIdeal.Hand

end
-- ==== Proof.Quant.lean ====
/- The two quantiser loops: what they leave in the codes, the scales and the values the codes stand for. -/
module

public import proofs.«01_k».proof.Proof.Words

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section

variable (c : Dev nD)

/-! ## Places inside a block -/

/-- A token, and a column's place in its block. -/
def at3 (a : Fin 2) (b : Fin 128) (n : ℕ) : S2x128x256.Idx := fun d => match d with
  | ⟨0, _⟩ => a
  | ⟨1, _⟩ => b
  | ⟨2, _⟩ => ⟨n % 256, Nat.mod_lt _ (by decide)⟩
/-- A group of tokens, and a column's place in its block. -/
def at1 (b : Fin 4) (n : ℕ) : S1x4x256.Idx := fun d => match d with
  | ⟨0, _⟩ => ⟨0, Nat.one_pos⟩
  | ⟨1, _⟩ => b
  | ⟨2, _⟩ => ⟨n % 256, Nat.mod_lt _ (by decide)⟩
/-- A place in a square block. -/
def at2 (a : ℕ) (ha : a < 256) (b : ℕ) (hb : b < 256) : S256x256.Idx := fun d => match d with
  | ⟨0, _⟩ => ⟨a, ha⟩
  | ⟨1, _⟩ => ⟨b, hb⟩

/-- Writing a rectangle's final contents extends where a buffer agrees with its final contents. -/
theorem write_agree {sp : Space} {s : Shape} {e : EltTy} (M : Memref sig .tc sp s e) (f : Buf (Elt F) (M.view.loc (c : Thread nD τ))) (r : Rect s) (w : r.shape.Idx → Elt F e)
    (X : Buf (Elt F) (M.view.loc (c : Thread nD τ))) (D D' : _ → Prop) (hD : ∀ i, D i → f i = X i)
    (hr : ∀ i, D' i → D i ∨ ∃ x, (M.access r).emb x = i) (hX : ∀ x, (M.access r).read (Elt F) X x = w x) :
    ∀ i, D' i → (M.access r).write (Elt F) f w Finset.univ i = X i := by
  intro i hi
  by_cases hm : ∃ x, (M.access r).emb x = i
  · obtain ⟨x, rfl⟩ := hm
    rw [View.write_emb_of_mem _ _ (Finset.mem_univ _), ← hX x, View.read_apply]
    simp
  · rw [View.write_of_not_mem _ _ _ (fun h => hm (by simpa [View.setOn] using h))]
    exact hD i ((hr i hi).resolve_right hm)

section
variable (f8 : Buf (Elt F) (M8.view.loc (c : Thread nD τ)))

/-! ## The tokens -/

/-- The block of token columns fetched at trip `t`, -/
abbrev xin (t : Fin k0_t6_loop.trips) : Vec F S2x128x256 .bf16 :=
  View.readAt (Elt F) M8.view (Rect.unit (s := S2x128x3584) (k0_off18 t) S2x128x256.size (k0_off18_inb t)).toLoadRect f8
/-- its scales, -/
abbrev xscale (v : Vec F S2x128x256 .bf16) : FVec F S8x256 .f32 := k0_pay5 (k0_pay2 v) (k0_pay3 v) 8#32
/-- the inverses' exponents, -/
abbrev xinv (v : Vec F S2x128x256 .bf16) : IVec S8x256 32 := k0_pay6 (k0_pay2 v) (k0_pay3 v) 8#32
/-- its codes, -/
abbrev xcode (v : Vec F S2x128x256 .bf16) : FVec F S2x128x256 .fp8e4m3 := k0_pay19 (k0_pay1 v) (xinv v) k0_pay7
/-- and the values the codes stand for. -/
abbrev xhat (v : Vec F S2x128x256 .bf16) : FVec F S256x256 .bf16 := k0_pay22 (k0_pay1 v) (xscale v) (xinv v) k0_pay7

/-- The trip of a column. -/
abbrev xtrip (n : ℕ) (h : n < 3584) : Fin k0_t6_loop.trips := ⟨n / 256, by have := trips_const.2.2.2.2.2.1; omega⟩

/-- All codes. -/
def xC : Buf (Elt F) (M10.view.loc (c : Thread nD τ)) := fun i =>
  xcode (xin c f8 (xtrip (i 2).val (i 2).isLt)) (at3 (i 0) (i 1) (i 2).val)
/-- All scales. -/
def xS : Buf (Elt F) (M11.view.loc (c : Thread nD τ)) := fun i =>
  if (i 0).val = 0 then k0_pay20 (xscale (xin c f8 (xtrip (i 2).val (i 2).isLt))) (at1 (i 1) (i 2).val)
  else k0_pay21 (xscale (xin c f8 (xtrip (i 2).val (i 2).isLt))) (at1 (i 1) (i 2).val)
/-- All values the codes stand for. -/
def xH : Buf (Elt F) (M14.view.loc (c : Thread nD τ)) := fun i =>
  xhat (xin c f8 (xtrip (i 0).val (i 0).isLt)) (at2 ((i 0).val % 256) (Nat.mod_lt _ (by decide)) (i 1).val (i 1).isLt)

/-- One trip. -/
def xB (t : Fin k0_t6_loop.trips) : Prog (TpuEff nD τ sig (Elt F) Λ₀ .tc) Unit := do
  let v121 : Vec F S2x128x256 .bf16 ← Prog.lift (.load M8 (Rect.unit (s := S2x128x3584) (k0_off18 t) S2x128x256.size (k0_off18_inb t)).toLoadRect (View.loadsAt_vmem h_S2x128x256))
  let v216 : Vec F S2x128x256 .fp8e4m3 ← Prog.lift (.load M10 (Rect.unit (s := S2x128x3584) (k0_off18 t) S2x128x256.size (k0_off18_inb t)).toLoadRect (View.loadsAt_vmem h_S2x128x256))
  Prog.lift (.store M10 (Rect.unit (s := S2x128x3584) (k0_off18 t) S2x128x256.size (k0_off18_inb t)) (xcode v121) Finset.univ (View.stores_vmem h_S2x128x256 ((Memref.isWhole_whole _).storeExact_slice rfl _ (k0_off18_packedfp8e4m3 t)) (fun _ => rfl)) (.inl rfl))
  let v221 : Vec F S1x4x256 .f32 ← Prog.lift (.load M11 (Rect.unit (s := S2x4x3584) (k0_off19 t) S1x4x256.size (k0_off19_inb t)).toLoadRect (View.loadsAt_vmem h_S1x4x256))
  Prog.lift (.store M11 (Rect.unit (s := S2x4x3584) (k0_off19 t) S1x4x256.size (k0_off19_inb t)) (k0_pay20 (xscale v121)) Finset.univ (View.stores_vmem_bits_univ h_S1x4x256 rfl) (.inl rfl))
  let v226 : Vec F S1x4x256 .f32 ← Prog.lift (.load M11 (Rect.unit (s := S2x4x3584) (k0_off20 t) S1x4x256.size (k0_off20_inb t)).toLoadRect (View.loadsAt_vmem h_S1x4x256))
  Prog.lift (.store M11 (Rect.unit (s := S2x4x3584) (k0_off20 t) S1x4x256.size (k0_off20_inb t)) (k0_pay21 (xscale v121)) Finset.univ (View.stores_vmem_bits_univ h_S1x4x256 rfl) (.inl rfl))
  let v238 : Vec F S256x256 .bf16 ← Prog.lift (.load M14 (Rect.unit (s := S3584x256) (k0_off21 t) S256x256.size (k0_off21_inb t)).toLoadRect (View.loadsAt_vmem h_S256x256))
  Prog.lift (.store M14 (Rect.unit (s := S3584x256) (k0_off21 t) S256x256.size (k0_off21_inb t)) (xhat v121) Finset.univ (View.stores_vmem h_S256x256 ((Memref.isWhole_whole _).storeExact_slice rfl _ (k0_off21_packedbf16 t)) (fun _ => rfl)) (.inl rfl))
  pure ⟨⟩

set_option maxRecDepth 65536 in
set_option maxHeartbeats 4000000 in
theorem xB_eq (a0 : Memref sig .tc .smem S5 .i32) (h0 : a0.IsWhole) (v8 v19 v30 v41 v52 : BitVec 32) (h : k0_chk4 v8 v19 v30 v41 v52) (v62 : BitVec 32) (t : Fin k0_t6_loop.trips) :
    k0_t6_body (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 v8 v19 v30 v41 v52 h v62 t ⟨⟩ = xB t := by
  unfold k0_t6_body; rw [k0_part1_eq_skeleton, k0_part2_eq_skeleton]; rfl

/-- Before trip `k`: the columns below are done. -/
def xInv (k : ℕ) : sProp 𝕄 :=
  iprop(hold c M8 f8
    ∗ (∃ fc : Buf (Elt F) (M10.view.loc (c : Thread nD τ)), hold c M10 fc ∗ ⌜∀ i, (i 2).val < 256 * k → fc i = xC c f8 i⌝)
    ∗ (∃ fs : Buf (Elt F) (M11.view.loc (c : Thread nD τ)), hold c M11 fs ∗ ⌜∀ i, (i 2).val < 256 * k → fs i = xS c f8 i⌝)
    ∗ (∃ fh : Buf (Elt F) (M14.view.loc (c : Thread nD τ)), hold c M14 fh ∗ ⌜∀ i, (i 0).val < 256 * k → fh i = xH c f8 i⌝))

/-- The codes after one more trip, -/
theorem xC_step (G : Fin k0_t6_loop.trips → S2x128x256.Idx → Elt F .fp8e4m3) (t : Fin k0_t6_loop.trips) (fc : Buf (Elt F) (M10.view.loc (c : Thread nD τ)))
    (hc : ∀ i, (i 2).val < 256 * t.val → fc i = G (xtrip (i 2).val (i 2).isLt) (at3 (i 0) (i 1) (i 2).val)) :
    ∀ i, (i 2).val < 256 * (t.val + 1) → (M10.access (Rect.unit (s := S2x128x3584) (k0_off18 t) S2x128x256.size (k0_off18_inb t))).write (Elt F) fc (G t) Finset.univ i
      = G (xtrip (i 2).val (i 2).isLt) (at3 (i 0) (i 1) (i 2).val) := by
  obtain ⟨e1, e2, e3, e4⟩ := t6_words t
  have ht : t.val < 14 := lt_of_lt_of_eq t.isLt trips_const.2.2.2.2.2.1
  refine write_agree c M10 fc (Rect.unit (s := S2x128x3584) (k0_off18 t) S2x128x256.size (k0_off18_inb t)) (G t) (fun i => G (xtrip (i 2).val (i 2).isLt) (at3 (i 0) (i 1) (i 2).val)) _ _ hc ?_ ?_
  · intro i hi
    by_cases hlt : (i 2).val < 256 * t.val
    · exact Or.inl hlt
    · refine Or.inr ⟨at3 (i 0) (i 1) (i 2).val, ?_⟩
      funext a; apply Fin.ext
      have b2 := (i 2).isLt
      fin_cases a
      · show (k0_off18 t) 0 + 1 * (i 0).val = (i 0).val; rw [e1]; simp
      · show (k0_off18 t) 1 + 1 * (i 1).val = (i 1).val; rw [e1]; simp
      · show (k0_off18 t) 2 + 1 * ((i 2).val % 256) = (i 2).val; rw [e1]; show 256 * t.val + 1 * ((i 2).val % 256) = (i 2).val; omega
  · intro x
    have b2 : (x 2).val < 256 := (x 2).isLt
    have h0 : (k0_off18 t) 0 = 0 := by rw [e1]; rfl
    have h1 : (k0_off18 t) 1 = 0 := by rw [e1]; rfl
    have h2 : (k0_off18 t) 2 = 256 * t.val := by rw [e1]; rfl
    have k2 : ((M10.access (Rect.unit (s := S2x128x3584) (k0_off18 t) S2x128x256.size (k0_off18_inb t))).emb x 2).val = 256 * t.val + (x 2).val := by
      show (k0_off18 t) 2 + 1 * (x 2).val = _; omega
    show G _ _ = G _ _
    congr 1
    · congr 1; apply Fin.ext; show _ / 256 = t.val; rw [k2]; omega
    · funext a; apply Fin.ext
      fin_cases a
      · show (k0_off18 t) 0 + 1 * (x 0).val = (x 0).val; omega
      · show (k0_off18 t) 1 + 1 * (x 1).val = (x 1).val; omega
      · show _ % 256 = (x 2).val; rw [k2]; omega

/-- the scales, -/
theorem xS_step (G0 G1 : Fin k0_t6_loop.trips → S1x4x256.Idx → Elt F .f32) (t : Fin k0_t6_loop.trips) (fs : Buf (Elt F) (M11.view.loc (c : Thread nD τ)))
    (hs : ∀ i, (i 2).val < 256 * t.val → fs i = if (i 0).val = 0 then G0 (xtrip (i 2).val (i 2).isLt) (at1 (i 1) (i 2).val) else G1 (xtrip (i 2).val (i 2).isLt) (at1 (i 1) (i 2).val)) :
    ∀ i, (i 2).val < 256 * (t.val + 1) → (M11.access (Rect.unit (s := S2x4x3584) (k0_off20 t) S1x4x256.size (k0_off20_inb t))).write (Elt F)
      ((M11.access (Rect.unit (s := S2x4x3584) (k0_off19 t) S1x4x256.size (k0_off19_inb t))).write (Elt F) fs (G0 t) Finset.univ) (G1 t) Finset.univ i
      = if (i 0).val = 0 then G0 (xtrip (i 2).val (i 2).isLt) (at1 (i 1) (i 2).val) else G1 (xtrip (i 2).val (i 2).isLt) (at1 (i 1) (i 2).val) := by
  obtain ⟨e1, e2, e3, e4⟩ := t6_words t
  have ht : t.val < 14 := lt_of_lt_of_eq t.isLt trips_const.2.2.2.2.2.1
  refine write_agree c M11 _ (Rect.unit (s := S2x4x3584) (k0_off20 t) S1x4x256.size (k0_off20_inb t)) (G1 t) (fun i => if (i 0).val = 0 then G0 (xtrip (i 2).val (i 2).isLt) (at1 (i 1) (i 2).val) else G1 (xtrip (i 2).val (i 2).isLt) (at1 (i 1) (i 2).val))
    (fun i => (i 2).val < 256 * t.val ∨ ((i 2).val < 256 * (t.val + 1) ∧ (i 0).val = 0)) _
    (write_agree c M11 fs (Rect.unit (s := S2x4x3584) (k0_off19 t) S1x4x256.size (k0_off19_inb t)) (G0 t) _ _ _ hs ?_ ?_) ?_ ?_
  · intro i hi
    rcases hi with hlt | ⟨hlt, hz⟩
    · exact Or.inl hlt
    by_cases hlt' : (i 2).val < 256 * t.val
    · exact Or.inl hlt'
    refine Or.inr ⟨at1 (i 1) (i 2).val, ?_⟩
    funext a; apply Fin.ext
    fin_cases a
    · show (k0_off19 t) 0 + 1 * 0 = (i 0).val; rw [e2, hz]; rfl
    · show (k0_off19 t) 1 + 1 * (i 1).val = (i 1).val; rw [e2]; simp
    · show (k0_off19 t) 2 + 1 * ((i 2).val % 256) = (i 2).val; rw [e2]; show 256 * t.val + 1 * ((i 2).val % 256) = (i 2).val; omega
  · intro x
    have b0 : (x 0).val < 1 := (x 0).isLt
    have b2 : (x 2).val < 256 := (x 2).isLt
    have h0 : (k0_off19 t) 0 = 0 := by rw [e2]; rfl
    have h1 : (k0_off19 t) 1 = 0 := by rw [e2]; rfl
    have h2 : (k0_off19 t) 2 = 256 * t.val := by rw [e2]; rfl
    have k0 : ((M11.access (Rect.unit (s := S2x4x3584) (k0_off19 t) S1x4x256.size (k0_off19_inb t))).emb x 0).val = 0 := by
      show (k0_off19 t) 0 + 1 * (x 0).val = _; omega
    have k2 : ((M11.access (Rect.unit (s := S2x4x3584) (k0_off19 t) S1x4x256.size (k0_off19_inb t))).emb x 2).val = 256 * t.val + (x 2).val := by
      show (k0_off19 t) 2 + 1 * (x 2).val = _; omega
    refine (if_pos k0).trans ?_
    show G0 _ _ = G0 _ _
    congr 1
    · congr 1; apply Fin.ext; show _ / 256 = t.val; rw [k2]; omega
    · funext a; apply Fin.ext
      fin_cases a
      · show 0 = (x 0).val; omega
      · show (k0_off19 t) 1 + 1 * (x 1).val = (x 1).val; omega
      · show _ % 256 = (x 2).val; rw [k2]; omega
  · intro i hi
    by_cases hlt : (i 2).val < 256 * t.val
    · exact Or.inl (Or.inl hlt)
    by_cases hz : (i 0).val = 0
    · exact Or.inl (Or.inr ⟨hi, hz⟩)
    have b0 : (i 0).val < 2 := (i 0).isLt
    refine Or.inr ⟨at1 (i 1) (i 2).val, ?_⟩
    funext a; apply Fin.ext
    fin_cases a
    · show (k0_off20 t) 0 + 1 * 0 = (i 0).val; rw [e3]; show 1 + 1 * 0 = (i 0).val; omega
    · show (k0_off20 t) 1 + 1 * (i 1).val = (i 1).val; rw [e3]; simp
    · show (k0_off20 t) 2 + 1 * ((i 2).val % 256) = (i 2).val; rw [e3]; show 256 * t.val + 1 * ((i 2).val % 256) = (i 2).val; omega
  · intro x
    have b0 : (x 0).val < 1 := (x 0).isLt
    have b2 : (x 2).val < 256 := (x 2).isLt
    have h0 : (k0_off20 t) 0 = 1 := by rw [e3]; rfl
    have h1 : (k0_off20 t) 1 = 0 := by rw [e3]; rfl
    have h2 : (k0_off20 t) 2 = 256 * t.val := by rw [e3]; rfl
    have k0 : ((M11.access (Rect.unit (s := S2x4x3584) (k0_off20 t) S1x4x256.size (k0_off20_inb t))).emb x 0).val ≠ 0 := by
      show (k0_off20 t) 0 + 1 * (x 0).val ≠ 0; omega
    have k2 : ((M11.access (Rect.unit (s := S2x4x3584) (k0_off20 t) S1x4x256.size (k0_off20_inb t))).emb x 2).val = 256 * t.val + (x 2).val := by
      show (k0_off20 t) 2 + 1 * (x 2).val = _; omega
    refine (if_neg k0).trans ?_
    show G1 _ _ = G1 _ _
    congr 1
    · congr 1; apply Fin.ext; show _ / 256 = t.val; rw [k2]; omega
    · funext a; apply Fin.ext
      fin_cases a
      · show 0 = (x 0).val; omega
      · show (k0_off20 t) 1 + 1 * (x 1).val = (x 1).val; omega
      · show _ % 256 = (x 2).val; rw [k2]; omega

/-- and the values. -/
theorem xH_step (G : Fin k0_t6_loop.trips → S256x256.Idx → Elt F .bf16) (t : Fin k0_t6_loop.trips) (fh : Buf (Elt F) (M14.view.loc (c : Thread nD τ)))
    (hh : ∀ i, (i 0).val < 256 * t.val → fh i = G (xtrip (i 0).val (i 0).isLt) (at2 ((i 0).val % 256) (Nat.mod_lt _ (by decide)) (i 1).val (i 1).isLt)) :
    ∀ i, (i 0).val < 256 * (t.val + 1) → (M14.access (Rect.unit (s := S3584x256) (k0_off21 t) S256x256.size (k0_off21_inb t))).write (Elt F) fh (G t) Finset.univ i
      = G (xtrip (i 0).val (i 0).isLt) (at2 ((i 0).val % 256) (Nat.mod_lt _ (by decide)) (i 1).val (i 1).isLt) := by
  obtain ⟨e1, e2, e3, e4⟩ := t6_words t
  have ht : t.val < 14 := lt_of_lt_of_eq t.isLt trips_const.2.2.2.2.2.1
  refine write_agree c M14 fh (Rect.unit (s := S3584x256) (k0_off21 t) S256x256.size (k0_off21_inb t)) (G t) (fun i => G (xtrip (i 0).val (i 0).isLt) (at2 ((i 0).val % 256) (Nat.mod_lt _ (by decide)) (i 1).val (i 1).isLt)) _ _ hh ?_ ?_
  · intro i hi
    by_cases hlt : (i 0).val < 256 * t.val
    · exact Or.inl hlt
    · refine Or.inr ⟨(at2 ((i 0).val % 256) (Nat.mod_lt _ (by decide)) (i 1).val (i 1).isLt), ?_⟩
      funext a; apply Fin.ext
      have ha : (k0_off21 t) 0 = 256 * t.val := by rw [e4]; rfl
      have hb : (k0_off21 t) 1 = 0 := by rw [e4]; rfl
      fin_cases a
      · show (k0_off21 t) 0 + 1 * ((i 0).val % 256) = (i 0).val; omega
      · show (k0_off21 t) 1 + 1 * (i 1).val = (i 1).val; omega
  · intro x
    have b2 : (x 0).val < 256 := (x 0).isLt
    have ha : (k0_off21 t) 0 = 256 * t.val := by rw [e4]; rfl
    have hb : (k0_off21 t) 1 = 0 := by rw [e4]; rfl
    have k2 : ((M14.access (Rect.unit (s := S3584x256) (k0_off21 t) S256x256.size (k0_off21_inb t))).emb x 0).val = 256 * t.val + (x 0).val := by
      show (k0_off21 t) 0 + 1 * (x 0).val = _; omega
    have k1 : ((M14.access (Rect.unit (s := S3584x256) (k0_off21 t) S256x256.size (k0_off21_inb t))).emb x 1).val = (x 1).val := by
      show (k0_off21 t) 1 + 1 * (x 1).val = _; omega
    show G _ _ = G _ _
    congr 1
    · congr 1; apply Fin.ext; show _ / 256 = t.val; rw [k2]; omega
    · funext a; apply Fin.ext
      fin_cases a
      · show _ % 256 = (x 0).val; rw [k2]; omega
      · show _ = (x 1).val; exact k1

theorem xB_wp (t : Fin k0_t6_loop.trips) : xInv c f8 t.val ⊢ wp frame (wpE (defs₀ (F := F)) Variants.none (c : Thread nD τ) none) Set.univ (xB (F := F) t) (fun _ => xInv c f8 (t.val + 1)) := by
  unfold xInv xB hold
  iintro ⟨H8, ⟨%fc, Hc, %hc⟩, ⟨%fs, Hs, %hs⟩, ⟨%fh, Hh, %hh⟩⟩
  sl_exec
  sl_step
  isplitl [H8]; · iexact H8
  isplitl [Hc]
  · iexists _
    isplitl [Hc]; · iexact Hc
    ipureintro
    exact xC_step c (fun t => xcode (xin c f8 t)) t fc hc
  isplitl [Hs]
  · iexists _
    isplitl [Hs]; · iexact Hs
    ipureintro
    exact xS_step c (fun t => k0_pay20 (xscale (xin c f8 t))) (fun t => k0_pay21 (xscale (xin c f8 t))) t fs hs
  · iexists _
    isplitl [Hh]; · iexact Hh
    ipureintro
    exact xH_step c (fun t => xhat (xin c f8 t)) t fh hh

theorem x_wp (a0 : Memref sig .tc .smem S5 .i32) (h0 : a0.IsWhole) (v8 v19 v30 v41 v52 : BitVec 32) (h : k0_chk4 v8 v19 v30 v41 v52) (v62 : BitVec 32) :
    iprop(hold c M8 f8 ∗ (∃ fc, hold c M10 fc) ∗ (∃ fs, hold c M11 fs) ∗ (∃ fh, hold c M14 fh))
      ⊢ wp frame (wpE (defs₀ (F := F)) Variants.none (c : Thread nD τ) none) Set.univ (Scf.Loop.for k0_t6_loop k0_t6_ok ⟨⟩ (k0_t6_body (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 v8 v19 v30 v41 v52 h v62))
        (fun _ => iprop(hold c M8 f8 ∗ hold c M10 (xC c f8) ∗ hold c M11 (xS c f8) ∗ hold c M14 (xH c f8))) := by
  iintro ⟨H8, ⟨%fc, Hc⟩, ⟨%fs, Hs⟩, ⟨%fh, Hh⟩⟩
  iapply (Scf.wp_for frame (wpE (defs₀ (F := F)) Variants.none (c : Thread nD τ) none) Set.univ k0_t6_loop.lb k0_t6_loop.ub k0_t6_loop.st k0_t6_ok ⟨⟩ (k0_t6_body (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 v8 v19 v30 v41 v52 h v62)
    (fun k _ => xInv c f8 k) ?_)
  · intro k acc
    have e := xB_eq (F := F) a0 h0 v8 v19 v30 v41 v52 h v62 k
    exact (by rw [show acc = ⟨⟩ from rfl, e]; exact xB_wp c f8 k)
  isplitl [H8 Hc Hs Hh]
  · unfold xInv
    isplitl [H8]; · iexact H8
    isplitl [Hc]
    · iexists fc
      isplitl [Hc]; · iexact Hc
      ipureintro; exact fun i hi => absurd hi (by omega)
    isplitl [Hs]
    · iexists fs
      isplitl [Hs]; · iexact Hs
      ipureintro; exact fun i hi => absurd hi (by omega)
    · iexists fh
      isplitl [Hh]; · iexact Hh
      ipureintro; exact fun i hi => absurd hi (by omega)
  · iintro %acc H
    have e : k0_t6_loop.trips = 14 := trips_const.2.2.2.2.2.1
    ihave H := (Entails.of_eq (show xInv (F := F) c f8 k0_t6_loop.trips = xInv c f8 14 by rw [e])) $$ H
    unfold xInv
    icases H with ⟨H8, ⟨%gc, Hc, %hc⟩, ⟨%gs, Hs, %hs⟩, ⟨%gh, Hh, %hh⟩⟩
    have hc' : gc = xC c f8 := funext fun i => hc i (i 2).isLt
    have hs' : gs = xS c f8 := funext fun i => hs i (i 2).isLt
    have hh' : gh = xH c f8 := funext fun i => hh i (i 0).isLt
    subst hc'; subst hs'; subst hh'
    isplitl [H8]; · iexact H8
    isplitl [Hc]; · iexact Hc
    isplitl [Hs]; · iexact Hs
    iexact Hh

end

section
variable (f9 : Buf (Elt F) (M9.view.loc (c : Thread nD τ)))

/-! ## The gradients -/

/-- The block of gradient columns fetched at trip `t`, -/
abbrev yin (t : Fin k0_t7_loop.trips) : Vec F S2x128x256 .bf16 :=
  View.readAt (Elt F) M9.view (Rect.unit (s := S2x128x9728) (k0_off22 t) S2x128x256.size (k0_off22_inb t)).toLoadRect f9
/-- its scales, -/
abbrev yscale (v : Vec F S2x128x256 .bf16) : FVec F S8x256 .f32 := k0_pay12 (k0_pay9 v) (k0_pay10 v) 8#32
/-- the inverses' exponents, -/
abbrev yinv (v : Vec F S2x128x256 .bf16) : IVec S8x256 32 := k0_pay13 (k0_pay9 v) (k0_pay10 v) 8#32
/-- its codes, -/
abbrev ycode (v : Vec F S2x128x256 .bf16) : FVec F S2x128x256 .fp8e5m2 := k0_pay24 (k0_pay8 v) (yinv v) k0_pay14
/-- and the values the codes stand for. -/
abbrev yhat (v : Vec F S2x128x256 .bf16) : FVec F S256x256 .bf16 := k0_pay27 (k0_pay8 v) (yscale v) (yinv v) k0_pay14

/-- The trip of a column. -/
abbrev ytrip (n : ℕ) (h : n < 9728) : Fin k0_t7_loop.trips := ⟨n / 256, by have := trips_const.2.2.2.2.2.2; omega⟩

/-- All codes. -/
def yC : Buf (Elt F) (M12.view.loc (c : Thread nD τ)) := fun i =>
  ycode (yin c f9 (ytrip (i 2).val (i 2).isLt)) (at3 (i 0) (i 1) (i 2).val)
/-- All scales. -/
def yS : Buf (Elt F) (M13.view.loc (c : Thread nD τ)) := fun i =>
  if (i 0).val = 0 then k0_pay25 (yscale (yin c f9 (ytrip (i 2).val (i 2).isLt))) (at1 (i 1) (i 2).val)
  else k0_pay26 (yscale (yin c f9 (ytrip (i 2).val (i 2).isLt))) (at1 (i 1) (i 2).val)
/-- All values the codes stand for. -/
def yH : Buf (Elt F) (M15.view.loc (c : Thread nD τ)) := fun i =>
  yhat (yin c f9 (ytrip (i 1).val (i 1).isLt)) (at2 (i 0).val (i 0).isLt ((i 1).val % 256) (Nat.mod_lt _ (by decide)))

/-- One trip. -/
def yB (t : Fin k0_t7_loop.trips) : Prog (TpuEff nD τ sig (Elt F) Λ₀ .tc) Unit := do
  let v121 : Vec F S2x128x256 .bf16 ← Prog.lift (.load M9 (Rect.unit (s := S2x128x9728) (k0_off22 t) S2x128x256.size (k0_off22_inb t)).toLoadRect (View.loadsAt_vmem h_S2x128x256))
  let v216 : Vec F S2x128x256 .fp8e5m2 ← Prog.lift (.load M12 (Rect.unit (s := S2x128x9728) (k0_off22 t) S2x128x256.size (k0_off22_inb t)).toLoadRect (View.loadsAt_vmem h_S2x128x256))
  Prog.lift (.store M12 (Rect.unit (s := S2x128x9728) (k0_off22 t) S2x128x256.size (k0_off22_inb t)) (ycode v121) Finset.univ (View.stores_vmem h_S2x128x256 ((Memref.isWhole_whole _).storeExact_slice rfl _ (k0_off22_packedfp8e5m2 t)) (fun _ => rfl)) (.inl rfl))
  let v221 : Vec F S1x4x256 .f32 ← Prog.lift (.load M13 (Rect.unit (s := S2x4x9728) (k0_off23 t) S1x4x256.size (k0_off23_inb t)).toLoadRect (View.loadsAt_vmem h_S1x4x256))
  Prog.lift (.store M13 (Rect.unit (s := S2x4x9728) (k0_off23 t) S1x4x256.size (k0_off23_inb t)) (k0_pay25 (yscale v121)) Finset.univ (View.stores_vmem_bits_univ h_S1x4x256 rfl) (.inl rfl))
  let v226 : Vec F S1x4x256 .f32 ← Prog.lift (.load M13 (Rect.unit (s := S2x4x9728) (k0_off24 t) S1x4x256.size (k0_off24_inb t)).toLoadRect (View.loadsAt_vmem h_S1x4x256))
  Prog.lift (.store M13 (Rect.unit (s := S2x4x9728) (k0_off24 t) S1x4x256.size (k0_off24_inb t)) (k0_pay26 (yscale v121)) Finset.univ (View.stores_vmem_bits_univ h_S1x4x256 rfl) (.inl rfl))
  let v238 : Vec F S256x256 .bf16 ← Prog.lift (.load M15 (Rect.unit (s := S256x9728) (k0_off25 t) S256x256.size (k0_off25_inb t)).toLoadRect (View.loadsAt_vmem h_S256x256))
  Prog.lift (.store M15 (Rect.unit (s := S256x9728) (k0_off25 t) S256x256.size (k0_off25_inb t)) (yhat v121) Finset.univ (View.stores_vmem h_S256x256 ((Memref.isWhole_whole _).storeExact_slice rfl _ (k0_off25_packedbf16 t)) (fun _ => rfl)) (.inl rfl))
  pure ⟨⟩

set_option maxRecDepth 65536 in
set_option maxHeartbeats 4000000 in
theorem yB_eq (a0 : Memref sig .tc .smem S5 .i32) (h0 : a0.IsWhole) (v8 v19 v30 v41 v52 : BitVec 32) (h : k0_chk4 v8 v19 v30 v41 v52) (v62 : BitVec 32) (t : Fin k0_t7_loop.trips) :
    k0_t7_body (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 v8 v19 v30 v41 v52 h v62 t ⟨⟩ = yB t := by
  unfold k0_t7_body; rw [k0_part3_eq_skeleton, k0_part4_eq_skeleton]; rfl

/-- Before trip `k`: the columns below are done. -/
def yInv (k : ℕ) : sProp 𝕄 :=
  iprop(hold c M9 f9
    ∗ (∃ fc : Buf (Elt F) (M12.view.loc (c : Thread nD τ)), hold c M12 fc ∗ ⌜∀ i, (i 2).val < 256 * k → fc i = yC c f9 i⌝)
    ∗ (∃ fs : Buf (Elt F) (M13.view.loc (c : Thread nD τ)), hold c M13 fs ∗ ⌜∀ i, (i 2).val < 256 * k → fs i = yS c f9 i⌝)
    ∗ (∃ fh : Buf (Elt F) (M15.view.loc (c : Thread nD τ)), hold c M15 fh ∗ ⌜∀ i, (i 1).val < 256 * k → fh i = yH c f9 i⌝))

/-- The codes after one more trip, -/
theorem yC_step (G : Fin k0_t7_loop.trips → S2x128x256.Idx → Elt F .fp8e5m2) (t : Fin k0_t7_loop.trips) (fc : Buf (Elt F) (M12.view.loc (c : Thread nD τ)))
    (hc : ∀ i, (i 2).val < 256 * t.val → fc i = G (ytrip (i 2).val (i 2).isLt) (at3 (i 0) (i 1) (i 2).val)) :
    ∀ i, (i 2).val < 256 * (t.val + 1) → (M12.access (Rect.unit (s := S2x128x9728) (k0_off22 t) S2x128x256.size (k0_off22_inb t))).write (Elt F) fc (G t) Finset.univ i
      = G (ytrip (i 2).val (i 2).isLt) (at3 (i 0) (i 1) (i 2).val) := by
  obtain ⟨e1, e2, e3, e4⟩ := t7_words t
  have ht : t.val < 38 := lt_of_lt_of_eq t.isLt trips_const.2.2.2.2.2.2
  refine write_agree c M12 fc (Rect.unit (s := S2x128x9728) (k0_off22 t) S2x128x256.size (k0_off22_inb t)) (G t) (fun i => G (ytrip (i 2).val (i 2).isLt) (at3 (i 0) (i 1) (i 2).val)) _ _ hc ?_ ?_
  · intro i hi
    by_cases hlt : (i 2).val < 256 * t.val
    · exact Or.inl hlt
    · refine Or.inr ⟨at3 (i 0) (i 1) (i 2).val, ?_⟩
      funext a; apply Fin.ext
      have b2 := (i 2).isLt
      fin_cases a
      · show (k0_off22 t) 0 + 1 * (i 0).val = (i 0).val; rw [e1]; simp
      · show (k0_off22 t) 1 + 1 * (i 1).val = (i 1).val; rw [e1]; simp
      · show (k0_off22 t) 2 + 1 * ((i 2).val % 256) = (i 2).val; rw [e1]; show 256 * t.val + 1 * ((i 2).val % 256) = (i 2).val; omega
  · intro x
    have b2 : (x 2).val < 256 := (x 2).isLt
    have h0 : (k0_off22 t) 0 = 0 := by rw [e1]; rfl
    have h1 : (k0_off22 t) 1 = 0 := by rw [e1]; rfl
    have h2 : (k0_off22 t) 2 = 256 * t.val := by rw [e1]; rfl
    have k2 : ((M12.access (Rect.unit (s := S2x128x9728) (k0_off22 t) S2x128x256.size (k0_off22_inb t))).emb x 2).val = 256 * t.val + (x 2).val := by
      show (k0_off22 t) 2 + 1 * (x 2).val = _; omega
    show G _ _ = G _ _
    congr 1
    · congr 1; apply Fin.ext; show _ / 256 = t.val; rw [k2]; omega
    · funext a; apply Fin.ext
      fin_cases a
      · show (k0_off22 t) 0 + 1 * (x 0).val = (x 0).val; omega
      · show (k0_off22 t) 1 + 1 * (x 1).val = (x 1).val; omega
      · show _ % 256 = (x 2).val; rw [k2]; omega

/-- the scales, -/
theorem yS_step (G0 G1 : Fin k0_t7_loop.trips → S1x4x256.Idx → Elt F .f32) (t : Fin k0_t7_loop.trips) (fs : Buf (Elt F) (M13.view.loc (c : Thread nD τ)))
    (hs : ∀ i, (i 2).val < 256 * t.val → fs i = if (i 0).val = 0 then G0 (ytrip (i 2).val (i 2).isLt) (at1 (i 1) (i 2).val) else G1 (ytrip (i 2).val (i 2).isLt) (at1 (i 1) (i 2).val)) :
    ∀ i, (i 2).val < 256 * (t.val + 1) → (M13.access (Rect.unit (s := S2x4x9728) (k0_off24 t) S1x4x256.size (k0_off24_inb t))).write (Elt F)
      ((M13.access (Rect.unit (s := S2x4x9728) (k0_off23 t) S1x4x256.size (k0_off23_inb t))).write (Elt F) fs (G0 t) Finset.univ) (G1 t) Finset.univ i
      = if (i 0).val = 0 then G0 (ytrip (i 2).val (i 2).isLt) (at1 (i 1) (i 2).val) else G1 (ytrip (i 2).val (i 2).isLt) (at1 (i 1) (i 2).val) := by
  obtain ⟨e1, e2, e3, e4⟩ := t7_words t
  have ht : t.val < 38 := lt_of_lt_of_eq t.isLt trips_const.2.2.2.2.2.2
  refine write_agree c M13 _ (Rect.unit (s := S2x4x9728) (k0_off24 t) S1x4x256.size (k0_off24_inb t)) (G1 t) (fun i => if (i 0).val = 0 then G0 (ytrip (i 2).val (i 2).isLt) (at1 (i 1) (i 2).val) else G1 (ytrip (i 2).val (i 2).isLt) (at1 (i 1) (i 2).val))
    (fun i => (i 2).val < 256 * t.val ∨ ((i 2).val < 256 * (t.val + 1) ∧ (i 0).val = 0)) _
    (write_agree c M13 fs (Rect.unit (s := S2x4x9728) (k0_off23 t) S1x4x256.size (k0_off23_inb t)) (G0 t) _ _ _ hs ?_ ?_) ?_ ?_
  · intro i hi
    rcases hi with hlt | ⟨hlt, hz⟩
    · exact Or.inl hlt
    by_cases hlt' : (i 2).val < 256 * t.val
    · exact Or.inl hlt'
    refine Or.inr ⟨at1 (i 1) (i 2).val, ?_⟩
    funext a; apply Fin.ext
    fin_cases a
    · show (k0_off23 t) 0 + 1 * 0 = (i 0).val; rw [e2, hz]; rfl
    · show (k0_off23 t) 1 + 1 * (i 1).val = (i 1).val; rw [e2]; simp
    · show (k0_off23 t) 2 + 1 * ((i 2).val % 256) = (i 2).val; rw [e2]; show 256 * t.val + 1 * ((i 2).val % 256) = (i 2).val; omega
  · intro x
    have b0 : (x 0).val < 1 := (x 0).isLt
    have b2 : (x 2).val < 256 := (x 2).isLt
    have h0 : (k0_off23 t) 0 = 0 := by rw [e2]; rfl
    have h1 : (k0_off23 t) 1 = 0 := by rw [e2]; rfl
    have h2 : (k0_off23 t) 2 = 256 * t.val := by rw [e2]; rfl
    have k0 : ((M13.access (Rect.unit (s := S2x4x9728) (k0_off23 t) S1x4x256.size (k0_off23_inb t))).emb x 0).val = 0 := by
      show (k0_off23 t) 0 + 1 * (x 0).val = _; omega
    have k2 : ((M13.access (Rect.unit (s := S2x4x9728) (k0_off23 t) S1x4x256.size (k0_off23_inb t))).emb x 2).val = 256 * t.val + (x 2).val := by
      show (k0_off23 t) 2 + 1 * (x 2).val = _; omega
    refine (if_pos k0).trans ?_
    show G0 _ _ = G0 _ _
    congr 1
    · congr 1; apply Fin.ext; show _ / 256 = t.val; rw [k2]; omega
    · funext a; apply Fin.ext
      fin_cases a
      · show 0 = (x 0).val; omega
      · show (k0_off23 t) 1 + 1 * (x 1).val = (x 1).val; omega
      · show _ % 256 = (x 2).val; rw [k2]; omega
  · intro i hi
    by_cases hlt : (i 2).val < 256 * t.val
    · exact Or.inl (Or.inl hlt)
    by_cases hz : (i 0).val = 0
    · exact Or.inl (Or.inr ⟨hi, hz⟩)
    have b0 : (i 0).val < 2 := (i 0).isLt
    refine Or.inr ⟨at1 (i 1) (i 2).val, ?_⟩
    funext a; apply Fin.ext
    fin_cases a
    · show (k0_off24 t) 0 + 1 * 0 = (i 0).val; rw [e3]; show 1 + 1 * 0 = (i 0).val; omega
    · show (k0_off24 t) 1 + 1 * (i 1).val = (i 1).val; rw [e3]; simp
    · show (k0_off24 t) 2 + 1 * ((i 2).val % 256) = (i 2).val; rw [e3]; show 256 * t.val + 1 * ((i 2).val % 256) = (i 2).val; omega
  · intro x
    have b0 : (x 0).val < 1 := (x 0).isLt
    have b2 : (x 2).val < 256 := (x 2).isLt
    have h0 : (k0_off24 t) 0 = 1 := by rw [e3]; rfl
    have h1 : (k0_off24 t) 1 = 0 := by rw [e3]; rfl
    have h2 : (k0_off24 t) 2 = 256 * t.val := by rw [e3]; rfl
    have k0 : ((M13.access (Rect.unit (s := S2x4x9728) (k0_off24 t) S1x4x256.size (k0_off24_inb t))).emb x 0).val ≠ 0 := by
      show (k0_off24 t) 0 + 1 * (x 0).val ≠ 0; omega
    have k2 : ((M13.access (Rect.unit (s := S2x4x9728) (k0_off24 t) S1x4x256.size (k0_off24_inb t))).emb x 2).val = 256 * t.val + (x 2).val := by
      show (k0_off24 t) 2 + 1 * (x 2).val = _; omega
    refine (if_neg k0).trans ?_
    show G1 _ _ = G1 _ _
    congr 1
    · congr 1; apply Fin.ext; show _ / 256 = t.val; rw [k2]; omega
    · funext a; apply Fin.ext
      fin_cases a
      · show 0 = (x 0).val; omega
      · show (k0_off24 t) 1 + 1 * (x 1).val = (x 1).val; omega
      · show _ % 256 = (x 2).val; rw [k2]; omega

/-- and the values. -/
theorem yH_step (G : Fin k0_t7_loop.trips → S256x256.Idx → Elt F .bf16) (t : Fin k0_t7_loop.trips) (fh : Buf (Elt F) (M15.view.loc (c : Thread nD τ)))
    (hh : ∀ i, (i 1).val < 256 * t.val → fh i = G (ytrip (i 1).val (i 1).isLt) (at2 (i 0).val (i 0).isLt ((i 1).val % 256) (Nat.mod_lt _ (by decide)))) :
    ∀ i, (i 1).val < 256 * (t.val + 1) → (M15.access (Rect.unit (s := S256x9728) (k0_off25 t) S256x256.size (k0_off25_inb t))).write (Elt F) fh (G t) Finset.univ i
      = G (ytrip (i 1).val (i 1).isLt) (at2 (i 0).val (i 0).isLt ((i 1).val % 256) (Nat.mod_lt _ (by decide))) := by
  obtain ⟨e1, e2, e3, e4⟩ := t7_words t
  have ht : t.val < 38 := lt_of_lt_of_eq t.isLt trips_const.2.2.2.2.2.2
  refine write_agree c M15 fh (Rect.unit (s := S256x9728) (k0_off25 t) S256x256.size (k0_off25_inb t)) (G t) (fun i => G (ytrip (i 1).val (i 1).isLt) (at2 (i 0).val (i 0).isLt ((i 1).val % 256) (Nat.mod_lt _ (by decide)))) _ _ hh ?_ ?_
  · intro i hi
    by_cases hlt : (i 1).val < 256 * t.val
    · exact Or.inl hlt
    · refine Or.inr ⟨(at2 (i 0).val (i 0).isLt ((i 1).val % 256) (Nat.mod_lt _ (by decide))), ?_⟩
      funext a; apply Fin.ext
      have ha : (k0_off25 t) 1 = 256 * t.val := by rw [e4]; rfl
      have hb : (k0_off25 t) 0 = 0 := by rw [e4]; rfl
      fin_cases a
      · show (k0_off25 t) 0 + 1 * (i 0).val = (i 0).val; omega
      · show (k0_off25 t) 1 + 1 * ((i 1).val % 256) = (i 1).val; omega
  · intro x
    have b2 : (x 1).val < 256 := (x 1).isLt
    have ha : (k0_off25 t) 1 = 256 * t.val := by rw [e4]; rfl
    have hb : (k0_off25 t) 0 = 0 := by rw [e4]; rfl
    have k2 : ((M15.access (Rect.unit (s := S256x9728) (k0_off25 t) S256x256.size (k0_off25_inb t))).emb x 1).val = 256 * t.val + (x 1).val := by
      show (k0_off25 t) 1 + 1 * (x 1).val = _; omega
    have k1 : ((M15.access (Rect.unit (s := S256x9728) (k0_off25 t) S256x256.size (k0_off25_inb t))).emb x 0).val = (x 0).val := by
      show (k0_off25 t) 0 + 1 * (x 0).val = _; omega
    show G _ _ = G _ _
    congr 1
    · congr 1; apply Fin.ext; show _ / 256 = t.val; rw [k2]; omega
    · funext a; apply Fin.ext
      fin_cases a
      · show _ = (x 0).val; exact k1
      · show _ % 256 = (x 1).val; rw [k2]; omega

theorem yB_wp (t : Fin k0_t7_loop.trips) : yInv c f9 t.val ⊢ wp frame (wpE (defs₀ (F := F)) Variants.none (c : Thread nD τ) none) Set.univ (yB (F := F) t) (fun _ => yInv c f9 (t.val + 1)) := by
  unfold yInv yB hold
  iintro ⟨H8, ⟨%fc, Hc, %hc⟩, ⟨%fs, Hs, %hs⟩, ⟨%fh, Hh, %hh⟩⟩
  sl_exec
  sl_step
  isplitl [H8]; · iexact H8
  isplitl [Hc]
  · iexists _
    isplitl [Hc]; · iexact Hc
    ipureintro
    exact yC_step c (fun t => ycode (yin c f9 t)) t fc hc
  isplitl [Hs]
  · iexists _
    isplitl [Hs]; · iexact Hs
    ipureintro
    exact yS_step c (fun t => k0_pay25 (yscale (yin c f9 t))) (fun t => k0_pay26 (yscale (yin c f9 t))) t fs hs
  · iexists _
    isplitl [Hh]; · iexact Hh
    ipureintro
    exact yH_step c (fun t => yhat (yin c f9 t)) t fh hh

theorem y_wp (a0 : Memref sig .tc .smem S5 .i32) (h0 : a0.IsWhole) (v8 v19 v30 v41 v52 : BitVec 32) (h : k0_chk4 v8 v19 v30 v41 v52) (v62 : BitVec 32) :
    iprop(hold c M9 f9 ∗ (∃ fc, hold c M12 fc) ∗ (∃ fs, hold c M13 fs) ∗ (∃ fh, hold c M15 fh))
      ⊢ wp frame (wpE (defs₀ (F := F)) Variants.none (c : Thread nD τ) none) Set.univ (Scf.Loop.for k0_t7_loop k0_t7_ok ⟨⟩ (k0_t7_body (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 v8 v19 v30 v41 v52 h v62))
        (fun _ => iprop(hold c M9 f9 ∗ hold c M12 (yC c f9) ∗ hold c M13 (yS c f9) ∗ hold c M15 (yH c f9))) := by
  iintro ⟨H8, ⟨%fc, Hc⟩, ⟨%fs, Hs⟩, ⟨%fh, Hh⟩⟩
  iapply (Scf.wp_for frame (wpE (defs₀ (F := F)) Variants.none (c : Thread nD τ) none) Set.univ k0_t7_loop.lb k0_t7_loop.ub k0_t7_loop.st k0_t7_ok ⟨⟩ (k0_t7_body (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 v8 v19 v30 v41 v52 h v62)
    (fun k _ => yInv c f9 k) ?_)
  · intro k acc
    have e := yB_eq (F := F) a0 h0 v8 v19 v30 v41 v52 h v62 k
    exact (by rw [show acc = ⟨⟩ from rfl, e]; exact yB_wp c f9 k)
  isplitl [H8 Hc Hs Hh]
  · unfold yInv
    isplitl [H8]; · iexact H8
    isplitl [Hc]
    · iexists fc
      isplitl [Hc]; · iexact Hc
      ipureintro; exact fun i hi => absurd hi (by omega)
    isplitl [Hs]
    · iexists fs
      isplitl [Hs]; · iexact Hs
      ipureintro; exact fun i hi => absurd hi (by omega)
    · iexists fh
      isplitl [Hh]; · iexact Hh
      ipureintro; exact fun i hi => absurd hi (by omega)
  · iintro %acc H
    have e : k0_t7_loop.trips = 38 := trips_const.2.2.2.2.2.2
    ihave H := (Entails.of_eq (show yInv (F := F) c f9 k0_t7_loop.trips = yInv c f9 38 by rw [e])) $$ H
    unfold yInv
    icases H with ⟨H8, ⟨%gc, Hc, %hc⟩, ⟨%gs, Hs, %hs⟩, ⟨%gh, Hh, %hh⟩⟩
    have hc' : gc = yC c f9 := funext fun i => hc i (i 2).isLt
    have hs' : gs = yS c f9 := funext fun i => hs i (i 2).isLt
    have hh' : gh = yH c f9 := funext fun i => hh i (i 1).isLt
    subst hc'; subst hs'; subst hh'
    isplitl [H8]; · iexact H8
    isplitl [Hc]; · iexact Hc
    isplitl [Hs]; · iexact Hs
    iexact Hh

end

end

end Cert.KernelIdeal.Hand

end
-- ==== Proof.Ring.lean ====
/- The products and the ring of buffers they leave through. Product `T` is computed into buffer `T mod 4` and copied out
   to its block of the gradient; a buffer is used again once the copy out of it has been waited for, and the copies still
   under way at the end are waited for then. -/
module

public import proofs.«01_k».proof.Proof.Table

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section

variable (c : Dev nD)

/-! ## The ring's buffers and semaphores -/

/-- The contents of the ring. -/
abbrev RingBuf : Type := Buf (Elt F) (M17.view.loc (c : Thread nD τ))

/-- The rectangle of buffer `s`. -/
abbrev slotR (s : Fin 4) : Rect S4x128x9728 := Rect.unit (s := S4x128x9728) ![s.val, 0, 0] S1x128x9728.size (slot_inb s.val s.isLt)
/-- Buffer `s`, as the copies name it. -/
def slotM (s : Fin 4) : Memref sig .tc .vmem S128x9728 .f32 :=
  (M17.slice (slotR s) (fun _ => rfl)).squeeze S128x9728 squeezes_S1x128x9728_S128x9728
/-- The semaphore of buffer `s`. -/
def rsem (s : Fin 4) : DmaSem sig :=
  ((cc0_scratch14.slice (Rect.unit (s := S4) ![s.val] S1.size (sem_inb s.val s.isLt))).squeeze S_ squeezes_S1_S_).sem

theorem slot_set (s : Fin 4) : (slotM s).view.set = (slotR s).set := by
  unfold slotM; exact (View.set_reshape _ _).trans (View.set_slice_whole _ _)

/-- Buffer `s` held at the ring's contents `f`; -/
def slotAt (s : Fin 4) (f : RingBuf (F := F) c) : sProp 𝕄 := M17.view.loc (c : Thread nD τ) ↦[(slotM s).view.set]{fullShare} f
/-- at some contents. -/
def slotAny (s : Fin 4) : sProp 𝕄 := iprop(∃ f : RingBuf (F := F) c, slotAt c s f)

theorem mem_slot (s : Fin 4) (y : S4x128x9728.Idx) : y ∈ (slotR s).set ↔ (y 0).val = s.val := by
  rw [Rect.mem_set_unit]
  have h1 : (y 1).val < 128 := (y 1).isLt
  have h2 : (y 2).val < 9728 := (y 2).isLt
  constructor
  · intro H
    have a0 : s.val ≤ (y 0).val ∧ (y 0).val < s.val + 1 := H 0
    omega
  · rintro h a; fin_cases a
    · show s.val ≤ (y 0).val ∧ (y 0).val < s.val + 1; omega
    · show 0 ≤ (y 1).val ∧ (y 1).val < 0 + 128; omega
    · show 0 ≤ (y 2).val ∧ (y 2).val < 0 + 9728; omega

theorem slot_disjoint : ∀ b b' : Fin 4, b ≠ b' → Disjoint (slotR b).set (slotR b').set := fun b b' hne => by
  rw [Finset.disjoint_left]; intro y hy hy'
  rw [mem_slot] at hy hy'
  exact hne (Fin.ext (by omega))

theorem slot_cover : Finset.univ.biUnion (fun s : Fin 4 => (slotR s).set) = Finset.univ := by
  ext y
  simp only [Finset.mem_biUnion, Finset.mem_univ, true_and, iff_true]
  have h1 : (y 0).val < 4 := (y 0).isLt
  exact ⟨⟨(y 0).val, h1⟩, (mem_slot _ _).mpr rfl⟩

/-- The ring held whole is its buffers held; -/
theorem slots_of (f : RingBuf (F := F) c) : hold c M17 f ⊢ (bigSep Finset.univ (slotAny c) : sProp 𝕄) := by
  refine (Entails.of_eq (Ring.pointsTo_blocks (ℓ := M17.view.loc (c : Thread nD τ)) (q := fullShare) (fun s : Fin 4 => (slotR s).set) slot_disjoint slot_cover f)).trans
    (BI.bigSep_mono fun b _ => ?_)
  show (M17.view.loc (c : Thread nD τ) ↦[(slotR b).set]{fullShare} f : sProp 𝕄) ⊢ slotAny c b
  unfold slotAny slotAt; rw [slot_set]; iintro H; iexists f; iexact H

/-- and back. -/
theorem slots_join (f₀ : RingBuf (F := F) c) : (bigSep Finset.univ (slotAny c) : sProp 𝕄) ⊢ iprop(∃ f : RingBuf (F := F) c, hold c M17 f) := by
  haveI : Nonempty (RingBuf (F := F) c) := ⟨f₀⟩
  have e : (bigSep Finset.univ (slotAny c) : sProp 𝕄) = bigSep Finset.univ (fun s => iprop(∃ f : RingBuf (F := F) c, M17.view.loc (c : Thread nD τ) ↦[(slotR s).set]{fullShare} f)) :=
    bigSep_congr fun s _ => by unfold slotAny slotAt; rw [slot_set]
  rw [e]
  refine (BI.bigSep_exists_pi Finset.univ _).trans ?_
  iintro ⟨%fs, H⟩
  ihave H := (pointsTo_biUnion_join (ℓ := M17.view.loc (c : Thread nD τ)) (q := fullShare) (Val := Elt F) Finset.univ (fun s : Fin 4 => (slotR s).set) fs f₀ (fun a _ b _ h => slot_disjoint a b h)) $$ H
  icases H with ⟨%g, -, H⟩
  iexists g
  rw [slot_cover]
  iexact H

/-! ## The state of the ring -/

variable (l : Fin 5 → Bool) (DW : DWBuf (F := F) c)

/-- What the copy of product `j` delivers: its block of the gradient, and its buffer back. -/
def rDel (s : Fin 4) (f : RingBuf (F := F) c) (j : ℕ) (_ : Fin 1) : sProp 𝕄 := iprop(blkAt c DW (liveBlk l j) ∗ slotAt c s f)

set_option backward.isDefEq.respectTransparency.types false in
instance rDel_storable (s : Fin 4) (f : RingBuf (F := F) c) (j : ℕ) (i : Fin 1) : BI.Storable (upEmb : UEmb _ 𝕄) (rDel c l DW s f j i) := by
  unfold rDel slotAt; infer_instance

/-- The copy of product `j` under way. -/
def rBat (s : Fin 4) (f : RingBuf (F := F) c) (j : ℕ) (i : ℕ) : sProp 𝕄 :=
  Transfers.Batch (countersEmb (U := Pipeline.UD sig nD τ)) (c : Thread nD τ) (.dma (rsem s)) () NZ (rDel c l DW s f j) i 0

/-- Buffer `s` before product `T`: never used, or the copy of the last product computed into it under way. -/
def slotSt (T : ℕ) (s : Fin 4) : sProp 𝕄 :=
  if s.val < T then iprop(∃ f : RingBuf (F := F) c, rBat c l DW s f (T - 1 - ((T - 1 - s.val) % 4)) 1)
  else iprop(slotAny c s ∗ semVal ((c : Thread nD τ), SemLoc.dma (rsem s)) 0)

/-- Block `x` of an expert with tokens when `T` products are computed and the copies of `D` collected. -/
def rBlk (T D : ℕ) (x : Fin 5 × Fin 28) : sProp 𝕄 :=
  if l x.1 = true then (if liveNo l x < D then blkAt c DW x else if liveNo l x < T then iprop(emp) else blkAny c x) else iprop(emp)

/-- Product `T`'s buffer. -/
abbrev slotOf (T : ℕ) : Fin 4 := ⟨T % 4, Nat.mod_lt _ (by decide)⟩

theorem slotSt_ne (T : ℕ) (s : Fin 4) (h : s ≠ slotOf T) : slotSt c l DW T s = slotSt c l DW (T + 1) s := by
  have h4 := s.isLt
  have hne : s.val ≠ T % 4 := fun e => h (Fin.ext e)
  unfold slotSt
  by_cases hl : s.val < T
  · rw [if_pos hl, if_pos (by omega), show T - 1 - (T - 1 - s.val) % 4 = T + 1 - 1 - (T + 1 - 1 - s.val) % 4 by omega]
  · rw [if_neg hl, if_neg (by omega)]

theorem slotSt_use (T : ℕ) (h : 4 ≤ T) : slotSt c l DW T (slotOf T) = iprop(∃ f : RingBuf (F := F) c, rBat c l DW (slotOf T) f (T - 4) 1) := by
  have h4 : T % 4 < 4 := Nat.mod_lt _ (by decide)
  unfold slotSt
  rw [if_pos (show T % 4 < T by omega), show T - 1 - (T - 1 - (slotOf T).val) % 4 = T - 4 by show T - 1 - (T - 1 - T % 4) % 4 = _; omega]
theorem slotSt_new (T : ℕ) (h : T < 4) : slotSt c l DW T (slotOf T) = iprop(slotAny c (slotOf T) ∗ semVal ((c : Thread nD τ), SemLoc.dma (rsem (slotOf T))) 0) := by
  unfold slotSt; rw [if_neg (show ¬ T % 4 < T by omega)]
theorem slotSt_done (T : ℕ) : slotSt c l DW (T + 1) (slotOf T) = iprop(∃ f : RingBuf (F := F) c, rBat c l DW (slotOf T) f T 1) := by
  unfold slotSt
  rw [if_pos (show T % 4 < T + 1 by omega), show T + 1 - 1 - (T + 1 - 1 - (slotOf T).val) % 4 = T by show T + 1 - 1 - (T + 1 - 1 - T % 4) % 4 = _; omega]

/-- A block whose number is another's is another. -/
theorem rBlk_collect (T D : ℕ) (h : D < 28 * nl l 5) : bigSep Finset.univ (rBlk c l DW T D)
    ⊢ iprop(rBlk c l DW T D (liveBlk l D) ∗ (rBlk c l DW T (D + 1) (liveBlk l D) -∗ bigSep Finset.univ (rBlk c l DW T (D + 1)))) := by
  refine bigSep_swap _ fun y hy => ?_
  unfold rBlk
  by_cases hl : l y.1 = true
  · have hne : liveNo l y ≠ D := fun e => hy (by rw [← e, liveBlk_no l y hl])
    rw [if_pos hl, if_pos hl]
    by_cases hd : liveNo l y < D
    · rw [if_pos hd, if_pos (show liveNo l y < D + 1 by omega)]
    · rw [if_neg hd, if_neg (show ¬ liveNo l y < D + 1 by omega)]
  · rw [if_neg hl, if_neg hl]

theorem rBlk_issue (T D : ℕ) (hD : D ≤ T) (h : T < 28 * nl l 5) : bigSep Finset.univ (rBlk c l DW T D)
    ⊢ iprop(blkAny c (liveBlk l T) ∗ bigSep Finset.univ (rBlk c l DW (T + 1) D)) := by
  obtain ⟨h1, h2⟩ := liveNo_blk l T h
  refine (bigSep_swap (Ψ := rBlk c l DW (T + 1) D) (liveBlk l T) fun y hy => ?_).trans ?_
  · unfold rBlk
    by_cases hl : l y.1 = true
    · have hne : liveNo l y ≠ T := fun e => hy (by rw [← e, liveBlk_no l y hl])
      rw [if_pos hl, if_pos hl]
      by_cases hd : liveNo l y < D
      · rw [if_pos hd, if_pos hd]
      · rw [if_neg hd, if_neg hd]
        by_cases ht : liveNo l y < T
        · rw [if_pos ht, if_pos (by omega)]
        · rw [if_neg ht, if_neg (by omega)]
    · rw [if_neg hl, if_neg hl]
  · have e1 : rBlk c l DW T D (liveBlk l T) = blkAny c (liveBlk l T) := by
      unfold rBlk; rw [if_pos h1, h2, if_neg (by omega), if_neg (by omega)]
    have e2 : rBlk c l DW (T + 1) D (liveBlk l T) = iprop(emp) := by
      unfold rBlk; rw [if_pos h1, h2, if_neg (by omega), if_pos (by omega)]
    rw [e1, e2]
    iintro ⟨H, HR⟩
    isplitl [H]; · iexact H
    iapply HR
    iempintro

theorem rBlk_done (T D : ℕ) (hD : D < T) (h : D < 28 * nl l 5) : iprop(blkAt c DW (liveBlk l D) ∗ bigSep Finset.univ (rBlk c l DW T D))
    ⊢ bigSep Finset.univ (rBlk c l DW T (D + 1)) := by
  obtain ⟨h1, h2⟩ := liveNo_blk l D h
  have e2 : rBlk c l DW T (D + 1) (liveBlk l D) = blkAt c DW (liveBlk l D) := by
    unfold rBlk; rw [if_pos h1, h2, if_pos (by omega)]
  iintro ⟨H, HB⟩
  ihave HB := (rBlk_collect c l DW T D h) $$ HB
  icases HB with ⟨-, HB⟩
  iapply HB
  iapply (Entails.of_eq e2.symm)
  iexact H

/-! ## Collecting a copy -/

/-- A wait for a buffer's copy, at the head of a program. -/
theorem rWait_wp {R : Type} (s : Fin 4) (f : RingBuf (F := F) c) (j : ℕ) (oS : Fin 1 → ℕ) (oM oB : Fin 3 → ℕ) (hS : ∀ a, oS a + S1.size a ≤ S4.size a)
    (hM : ∀ a, oM a + S1x128x9728.size a ≤ S4x128x9728.size a) (hB : ∀ a, oB a + S1x128x9728.size a ≤ S5x3584x9728.size a) (eS : oS = ![s.val])
    (h1 h2) (K : PUnit → Prog (TpuEff nD τ sig (Elt F) Λ₀ .tc) R) (Q : R → sProp 𝕄) (W : Waits sig Unit) :
    iprop(owes (c : Thread nD τ) 0 W ∗ rBat c l DW s f j 1 ∗ ((∃ W : Waits sig Unit, owes (c : Thread nD τ) 0 W) -∗ blkAt c DW (liveBlk l j) -∗ slotAt c s f -∗
        semVal ((c : Thread nD τ), SemLoc.dma (rsem s)) 0 -∗ wp frame (wpE (defs₀ (F := F)) Variants.none (c : Thread nD τ) none) Set.univ (K ⟨⟩) Q))
      ⊢ wp frame (wpE (defs₀ (F := F)) Variants.none (c : Thread nD τ) none) Set.univ (Prog.lift (.waitDma2 ((cc0_scratch14.slice (Rect.unit (s := S4) oS S1.size hS)).squeeze S_ squeezes_S1_S_).sem
          ((M17.slice (Rect.unit (s := S4x128x9728) oM S1x128x9728.size hM) (fun _ => rfl)).squeeze S128x9728 squeezes_S1x128x9728_S128x9728)
          ((M3.slice (Rect.unit (s := S5x3584x9728) oB S1x128x9728.size hB) (fun _ => rfl)).squeeze S128x9728 squeezes_S1x128x9728_S128x9728) h1 h2) >>= K) Q := by
  subst eS
  have hN : 0 < NZ := by decide
  iintro ⟨HO, HB, HK⟩
  unfold rBat
  iapply (Transfers.wp_waitBatchLast (countersEmb (U := Pipeline.UD sig nD τ)) Variants.none (c : Thread nD τ) none
    (srcw := (M17.slice (Rect.unit (s := S4x128x9728) oM S1x128x9728.size hM) (fun _ => rfl)).squeeze S128x9728 squeezes_S1x128x9728_S128x9728)
    (dstw := (M3.slice (Rect.unit (s := S5x3584x9728) oB S1x128x9728.size hB) (fun _ => rfl)).squeeze S128x9728 squeezes_S1x128x9728_S128x9728) (N := NZ) () rfl hN
    (D := rDel c l DW s f j) (u := 0) (by rw [Nat.zero_add, Nat.mul_one])) $$ [HB HO]
  · isplitl [HB]; · iexact HB
    iexact HO
  iintro ⟨HD, Hv, HO⟩
  simp only [ret_bind']
  have eD : bigSep Finset.univ (rDel c l DW s f j) = rDel c l DW s f j 0 := by
    rw [show (Finset.univ : Finset (Fin 1)) = {0} from rfl]; exact bigSep_singleton
  ihave HD := (Entails.of_eq eD) $$ HD
  unfold rDel
  icases HD with ⟨H1, H2⟩
  ihave HO2 := (show owes (c : Thread nD τ) 0 _ ⊢ iprop(∃ W : Waits sig Unit, owes (c : Thread nD τ) 0 W) from by iintro H; iexists _; iexact H) $$ HO
  ispecialize HK $$ HO2
  ispecialize HK $$ H1
  ispecialize HK $$ H2
  iapply HK
  iexact Hv

/-- Collecting, for what the later steps see: the buffer free again, its block filled. -/
theorem rCollect_wp {R : Type} (T D : ℕ) (hD : D < T) (hn : D < 28 * nl l 5) (s : Fin 4) (f : RingBuf (F := F) c) (oS : Fin 1 → ℕ) (oM oB : Fin 3 → ℕ) (hS : ∀ a, oS a + S1.size a ≤ S4.size a)
    (hM : ∀ a, oM a + S1x128x9728.size a ≤ S4x128x9728.size a) (hB : ∀ a, oB a + S1x128x9728.size a ≤ S5x3584x9728.size a) (eS : oS = ![s.val])
    (h1 h2) (K : PUnit → Prog (TpuEff nD τ sig (Elt F) Λ₀ .tc) R) (Q : R → sProp 𝕄) :
    iprop((∃ W : Waits sig Unit, owes (c : Thread nD τ) 0 W) ∗ rBat c l DW s f D 1 ∗ bigSep Finset.univ (rBlk c l DW T D) ∗
      ((∃ W : Waits sig Unit, owes (c : Thread nD τ) 0 W) -∗ bigSep Finset.univ (rBlk c l DW T (D + 1)) -∗ (slotAny c s ∗ semVal ((c : Thread nD τ), SemLoc.dma (rsem s)) 0) -∗ wp frame (wpE (defs₀ (F := F)) Variants.none (c : Thread nD τ) none) Set.univ (K ⟨⟩) Q))
      ⊢ wp frame (wpE (defs₀ (F := F)) Variants.none (c : Thread nD τ) none) Set.univ (Prog.lift (.waitDma2 ((cc0_scratch14.slice (Rect.unit (s := S4) oS S1.size hS)).squeeze S_ squeezes_S1_S_).sem
          ((M17.slice (Rect.unit (s := S4x128x9728) oM S1x128x9728.size hM) (fun _ => rfl)).squeeze S128x9728 squeezes_S1x128x9728_S128x9728)
          ((M3.slice (Rect.unit (s := S5x3584x9728) oB S1x128x9728.size hB) (fun _ => rfl)).squeeze S128x9728 squeezes_S1x128x9728_S128x9728) h1 h2) >>= K) Q := by
  iintro ⟨⟨%W, HO⟩, HB, HR, HK⟩
  iapply (rWait_wp c l DW s f D oS oM oB hS hM hB eS h1 h2 K Q W)
  isplitl [HO]; · iexact HO
  isplitl [HB]; · iexact HB
  iintro HO Hb Hs Hv
  ispecialize HK $$ HO
  ihave HR := (rBlk_done c l DW T D hD hn) $$ [Hb HR]
  · isplitl [Hb]; · iexact Hb
    iexact HR
  ispecialize HK $$ HR
  iapply HK
  isplitl [Hs]
  · unfold slotAny; iexists f; iexact Hs
  iexact Hv

/-! ## One product -/

/-- Reading a cell of the table, at the head of a program. -/
theorem cellLoad_wp {R : Type} (f : TabBuf (F := F) c) (r k : ℕ) (hr : r < 3) (hk : k < 5) (off : Fin 2 → ℕ) (h) (e : off = ![r, k])
    (K : Elt F .i32 → Prog (TpuEff nD τ sig (Elt F) Λ₀ .tc) R) (Q : R → sProp 𝕄) :
    iprop(hold c M18 f ∗ (hold c M18 f -∗ wp frame (wpE (defs₀ (F := F)) Variants.none (c : Thread nD τ) none) Set.univ (K (f (ix r k hr hk))) Q))
      ⊢ wp frame (wpE (defs₀ (F := F)) Variants.none (c : Thread nD τ) none) Set.univ (smemLoad M18 (Rect.unit (s := S3x5) off S1x1.size h) numel1_S1x1 rfl >>= K) Q := by
  subst e
  rw [wp_bind, ← cell_read c f r k hr hk h (Shape.Idx.first (by rw [numel1_S1x1]; exact Nat.one_pos))]
  iintro ⟨H0, HK⟩
  unfold hold
  sl_exec
  iapply HK
  iexact H0

/-- A load of a buffer held whole, at the head of a program. -/
theorem load_wp {R : Type} {cs : CoreSpace} {s : Shape} {e : EltTy} (M : Memref sig .tc cs s e) (f : Buf (Elt F) (M.view.loc (c : Thread nD τ))) (r : LoadRect s) (h : M.view.LoadsAt r)
    (K : (r.shape.Idx → Elt F e) → Prog (TpuEff nD τ sig (Elt F) Λ₀ .tc) R) (Q : R → sProp 𝕄) :
    iprop(hold c M f ∗ (hold c M f -∗ wp frame (wpE (defs₀ (F := F)) Variants.none (c : Thread nD τ) none) Set.univ (K (M.view.readAt (Elt F) r f)) Q)) ⊢ wp frame (wpE (defs₀ (F := F)) Variants.none (c : Thread nD τ) none) Set.univ (Prog.lift (.load M r h) >>= K) Q := by
  iintro ⟨H, HK⟩
  unfold hold
  iapply (wp_load Variants.none (c : Thread nD τ) none Set.univ (m := M) (r := r) (S := Finset.univ) (q := fullShare) (f := f) (Finset.subset_univ _)) $$ H
  iintro H
  simp only [ret_bind']
  iapply HK
  iexact H

/-- The rows of panel `p`. -/
abbrev panel (g14 : Buf (Elt F) (M14.view.loc (c : Thread nD τ))) (p : Fin 28) : Vec F S128x256 .bf16 :=
  M14.view.readAt (Elt F) (Rect.unit (s := S3584x256) ![128 * p.val, 0] S128x256.size (panel_inb p.val p.isLt)).toLoadRect g14
/-- The gradients whole. -/
abbrev wholeY (g15 : Buf (Elt F) (M15.view.loc (c : Thread nD τ))) : Vec F S256x9728 .bf16 :=
  M15.view.readAt (Elt F) (Rect.unit (s := S256x9728) ![0, 0] S256x9728.size inb_S256x9728_S256x9728_0_0).toLoadRect g15

/-- Block `x` of the gradient: panel `x.2`'s product over the tokens of expert `x.1`. -/
def PX (W : ℕ → BitVec 32) (g14 : Buf (Elt F) (M14.view.loc (c : Thread nD τ))) (g15 : Buf (Elt F) (M15.view.loc (c : Thread nD τ))) (x : Fin 5 × Fin 28) : S128x9728.Idx → Elt F .f32 :=
  fun y => k0_pay15 (W x.1.val) (W (x.1.val + 1)) (panel c g14 x.2) (wholeY c g15) (Shape.reshapeEquiv squeezes_S1x128x9728_S128x9728.numel_eq y)

theorem slot_read (s : Fin 4) (f : RingBuf (F := F) c) (w : S1x128x9728.Idx → Elt F .f32) :
    (slotM s).view.read (Elt F) ((M17.access (slotR s)).write (Elt F) f w Finset.univ) = fun y => w (Shape.reshapeEquiv squeezes_S1x128x9728_S128x9728.numel_eq y) := by
  funext y
  exact View.read_write_of_mem (v := M17.access (slotR s)) f w (Finset.mem_univ _)

/-- Computing product `T` into its buffer: the panel and the gradients are read, the product is stored. -/
theorem rFill_wp {R : Type} (W : ℕ → BitVec 32) (f18 : TabBuf (F := F) c) (g14 : Buf (Elt F) (M14.view.loc (c : Thread nD τ))) (g15 : Buf (Elt F) (M15.view.loc (c : Thread nD τ)))
    (T : ℕ) (hn : T < 28 * nl l 5) (hf : LiveOK c l W f18 5) (s : Fin 4)
    (o30 o31 o32 : Fin 2 → ℕ) (o33 : Fin 3 → ℕ) (h30 h31 h32) (h33 : ∀ a, o33 a + S1x128x9728.size a ≤ S4x128x9728.size a)
    (e30 : o30 = ![1, T / 28]) (e31 : o31 = ![2, T / 28]) (e32 : o32 = ![128 * (T % 28), 0]) (e33 : o33 = ![s.val, 0, 0]) (k1 k2 k3 k4 k5) (r : R) (Q : R → sProp 𝕄) :
    iprop(hold c M18 f18 ∗ hold c M14 g14 ∗ hold c M15 g15 ∗ slotAny c s ∗ (hold c M18 f18 -∗ hold c M14 g14 -∗ hold c M15 g15 -∗
        (∃ f : RingBuf (F := F) c, slotAt c s f ∗ ⌜(slotM s).view.read (Elt F) f = PX c W g14 g15 (liveBlk l T)⌝) -∗ Q r))
      ⊢ wp frame (wpE (defs₀ (F := F)) Variants.none (c : Thread nD τ) none) Set.univ (do
          let v130 : Elt F .i32 ← smemLoad M18 (Rect.unit (s := S3x5) o30 S1x1.size h30) numel1_S1x1 rfl
          let v134 : Elt F .i32 ← smemLoad M18 (Rect.unit (s := S3x5) o31 S1x1.size h31) numel1_S1x1 rfl
          let v139 : Vec F S128x256 .bf16 ← Prog.lift (.load M14 (Rect.unit (s := S3584x256) o32 S128x256.size h32).toLoadRect k1)
          let v144 : Vec F S256x9728 .bf16 ← Prog.lift (.load M15 (Rect.unit (s := S256x9728) ![0, 0] S256x9728.size inb_S256x9728_S256x9728_0_0).toLoadRect k2)
          let v147 : Vec F S1x128x9728 .f32 ← Prog.lift (.load M17 (Rect.unit (s := S4x128x9728) o33 S1x128x9728.size h33).toLoadRect k3)
          Prog.lift (.store M17 (Rect.unit (s := S4x128x9728) o33 S1x128x9728.size h33) (k0_pay15 v130 v134 v139 v144) Finset.univ k4 k5)
          pure r : Prog (TpuEff nD τ sig (Elt F) Λ₀ .tc) R) Q := by
  have h5 := nl_five_le l
  have hT : T / 28 < 5 := by omega
  obtain ⟨hf0, hf1, hf2⟩ := hf (T / 28) hT (by omega)
  subst e32; subst e33
  iintro ⟨H18, H14, H15, Hs, HQ⟩
  iapply (cellLoad_wp c f18 1 (T / 28) (by omega) hT o30 h30 e30)
  isplitl [H18]; · iexact H18
  iintro H18
  iapply (cellLoad_wp c f18 2 (T / 28) (by omega) hT o31 h31 e31)
  isplitl [H18]; · iexact H18
  iintro H18
  iapply (load_wp c M14 g14 _ k1)
  isplitl [H14]; · iexact H14
  iintro H14
  iapply (load_wp c M15 g15 _ k2)
  isplitl [H15]; · iexact H15
  iintro H15
  unfold slotAny
  icases Hs with ⟨%f, Hs⟩
  have eS : (M17.access (slotR s)).set = (slotM s).view.set := ((slot_set s).trans (View.set_slice_whole _ _).symm).symm
  ihave Hs := (show slotAt c s f ⊢ (((M17.access (slotR s)).loc (c : Thread nD τ)) ↦[(M17.access (slotR s)).set]{fullShare} f : sProp 𝕄) from by unfold slotAt; rw [eS]) $$ Hs
  iapply (wp_load_rect Variants.none (c : Thread nD τ) none Set.univ (m := M17) (r := slotR s) (S := (M17.access (slotR s)).set) (q := fullShare) (f := f) (Finset.Subset.refl _)) $$ Hs
  iintro Hs
  simp only [ret_bind']
  iapply (wp_store Variants.none (c : Thread nD τ) none Set.univ (m := M17) (r := slotR s) (S := (M17.access (slotR s)).set) (f := f) (Finset.Subset.refl _)) $$ Hs
  iintro Hs
  simp only [ret_bind']
  iapply (le_wp_ret frame (wpE (defs₀ (F := F)) Variants.none (c : Thread nD τ) none) Set.univ _ Q)
  ispecialize HQ $$ H18
  ispecialize HQ $$ H14
  ispecialize HQ $$ H15
  iapply HQ
  iexists _
  isplitl [Hs]
  · unfold slotAt; rw [← eS]; iexact Hs
  ipureintro
  refine (slot_read c s f _).trans ?_
  unfold PX
  rw [hf1, hf2]
  rfl

/-- Sending product `T` out. -/
theorem rIssue_wp {R : Type} (W : ℕ → BitVec 32) (g14 : Buf (Elt F) (M14.view.loc (c : Thread nD τ))) (g15 : Buf (Elt F) (M15.view.loc (c : Thread nD τ)))
    (hP : ∀ x : Fin 5 × Fin 28, l x.1 = true → (blk x).view.read (Elt F) DW = PX c W g14 g15 x)
    (T D : ℕ) (hD : D ≤ T) (hn : T < 28 * nl l 5) (s : Fin 4) (oS : Fin 1 → ℕ) (oM oB : Fin 3 → ℕ) (hS : ∀ a, oS a + S1.size a ≤ S4.size a)
    (hM : ∀ a, oM a + S1x128x9728.size a ≤ S4x128x9728.size a) (hB : ∀ a, oB a + S1x128x9728.size a ≤ S5x3584x9728.size a) (eS : oS = ![s.val]) (eM : oM = ![s.val, 0, 0])
    (eB : oB = ![(liveBlk l T).1.val, 128 * (liveBlk l T).2.val, 0]) (h1 h2 h3) (r : R) (Q : R → sProp 𝕄) :
    iprop((∃ f : RingBuf (F := F) c, slotAt c s f ∗ ⌜(slotM s).view.read (Elt F) f = PX c W g14 g15 (liveBlk l T)⌝) ∗ semVal ((c : Thread nD τ), SemLoc.dma (rsem s)) 0
        ∗ bigSep Finset.univ (rBlk c l DW T D) ∗ ((∃ f : RingBuf (F := F) c, rBat c l DW s f T 1) -∗ bigSep Finset.univ (rBlk c l DW (T + 1) D) -∗ Q r))
      ⊢ wp frame (wpE (defs₀ (F := F)) Variants.none (c : Thread nD τ) none) Set.univ (Prog.lift (.enqueueDma ((M17.slice (Rect.unit (s := S4x128x9728) oM S1x128x9728.size hM) (fun _ => rfl)).squeeze S128x9728 squeezes_S1x128x9728_S128x9728)
          (.here ((M3.slice (Rect.unit (s := S5x3584x9728) oB S1x128x9728.size hB) (fun _ => rfl)).squeeze S128x9728 squeezes_S1x128x9728_S128x9728))
          (.dma ((cc0_scratch14.slice (Rect.unit (s := S4) oS S1.size hS)).squeeze S_ squeezes_S1_S_).sem) h1 h2 h3) >>= fun _ => (pure r : Prog (TpuEff nD τ sig (Elt F) Λ₀ .tc) R)) Q := by
  obtain ⟨hl, hno⟩ := liveNo_blk l T hn
  subst eS; subst eM; subst eB
  iintro ⟨⟨%f, Hs, %hf⟩, Hv, HR, HQ⟩
  ihave HR := (rBlk_issue c l DW T D hD hn) $$ HR
  icases HR with ⟨Hb, HR⟩
  unfold blkAny
  icases Hb with ⟨%g, Hb⟩
  iapply (fupd_wp frame (wpE (defs₀ (F := F)) Variants.none (c : Thread nD τ) none))
  imod (Transfers.batch_alloc' (Lvl := ℕ) (countersEmb (U := Pipeline.UD sig nD τ)) (c : Thread nD τ) () NZ (rDel c l DW s f T) (sm := SemLoc.dma (rsem s)) (E := Set.univ)) $$ Hv with HB
  imodintro
  have hDel : iprop(((blk (liveBlk l T)).view.loc (c : Thread nD τ) ↦[(blk (liveBlk l T)).view.set]{fullShare} (blk (liveBlk l T)).view.write (Elt F) g ((slotM s).view.read (Elt F) f) Finset.univ)
      ∗ ((slotM s).view.loc (c : Thread nD τ) ↦[(slotM s).view.set]{fullShare} f)) ⊢ rDel c l DW s f T ⟨0, Nat.one_pos⟩ := by
    unfold rDel
    iintro ⟨H1, H2⟩
    isplitl [H1]
    · unfold blkAt; iapply (Entails.of_eq (landed_eq c (blk (liveBlk l T)).view g DW _ ((hP _ hl).trans hf.symm))) $$ H1
    · unfold slotAt; iexact H2
  iapply (Transfers.wp_dmaBatch (countersEmb (U := Pipeline.UD sig nD τ)) Variants.none (c : Thread nD τ) none (src := slotM s) (dst := blk (liveBlk l T)) (via := .same) (fs := f) (fd := g) () NZ rfl subset_rfl
    (D := rDel c l DW s f T) (j := 0) (u := 0) Nat.one_pos (Nat.zero_le _) hDel) $$ [Hb Hs HB]
  · isplitl [Hs]; · unfold slotAt; iexact Hs
    isplitl [Hb]; · iexact Hb
    iexact HB
  iintro HB
  simp only [ret_bind']
  iapply (le_wp_ret frame (wpE (defs₀ (F := F)) Variants.none (c : Thread nD τ) none) Set.univ _ Q)
  ihave HB := (show Transfers.Batch (countersEmb (U := Pipeline.UD sig nD τ)) (c : Thread nD τ) (.dma ((cc0_scratch14.slice (Rect.unit (s := S4) ![s.val] S1.size hS)).squeeze S_ squeezes_S1_S_).sem) () NZ (rDel c l DW s f T) (0 + 1) 0 ⊢ iprop(∃ f : RingBuf (F := F) c, rBat c l DW s f T 1) from by iintro H; iexists f; unfold rBat; iexact H) $$ HB
  ispecialize HQ $$ HB
  iapply HQ
  iexact HR

end

end Cert.KernelIdeal.Hand

end
-- ==== Proof.Products.lean ====
/- The loop over the products and the loop that waits for the last copies. -/
module

public import proofs.«01_k».proof.Proof.Ring
public import proofs.«01_k».proof.Proof.Parts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section

variable (c : Dev nD)

theorem dite_pos_wp {R : Type} {p : Prop} [Decidable p] (h : p) (A : p → Prog (TpuEff nD τ sig (Elt F) Λ₀ .tc) R) (B : ¬ p → Prog (TpuEff nD τ sig (Elt F) Λ₀ .tc) R) (Q : R → sProp 𝕄) :
    wp frame (wpE (defs₀ (F := F)) Variants.none (c : Thread nD τ) none) Set.univ (A h) Q ⊢ wp frame (wpE (defs₀ (F := F)) Variants.none (c : Thread nD τ) none) Set.univ (dite p A B) Q := by rw [dif_pos h]
theorem dite_neg_wp {R : Type} {p : Prop} [Decidable p] (h : ¬ p) (A : p → Prog (TpuEff nD τ sig (Elt F) Λ₀ .tc) R) (B : ¬ p → Prog (TpuEff nD τ sig (Elt F) Λ₀ .tc) R) (Q : R → sProp 𝕄) :
    wp frame (wpE (defs₀ (F := F)) Variants.none (c : Thread nD τ) none) Set.univ (B h) Q ⊢ wp frame (wpE (defs₀ (F := F)) Variants.none (c : Thread nD τ) none) Set.univ (dite p A B) Q := by rw [dif_neg h]

section

variable (v8 v19 v30 v41 v52 : BitVec 32) (h : k0_chk4 v8 v19 v30 v41 v52)

/-! ## One product -/

/-- The step up to the store of the product. -/
def t8A (t : Fin (k0_t8_loop v8 v19 v30 v41 v52).trips) : Prog (TpuEff nD τ sig (Elt F) Λ₀ .tc) (Σ' (v122 : Elt F .i32), k0_chk5 v8 v19 v30 v41 v52 t v122) := do
  let v122 : Elt F .i32 ← smemLoad M18 (Rect.unit (s := S3x5) (k0_off26 v8 v19 v30 v41 v52 t) S1x1.size (k0_off26_inb v8 v19 v30 v41 v52 h t)) numel1_S1x1 rfl
  have k0_hw5 : k0_chk5 v8 v19 v30 v41 v52 t v122 := (← Prog.lift (TpuEff.assume (k0_chk5 v8 v19 v30 v41 v52 t v122) (k0_chk5.dec v8 v19 v30 v41 v52 t v122))).down
  if k0_h11 : k0_cond11 v8 v19 v30 v41 v52 t = 1#1 then do
    let v158 : DmaSems sig S1 := cc0_scratch14.slice (Rect.unit (s := S4) (k0_off27 v8 v19 v30 v41 v52 t) S1.size (k0_off27_inb v8 v19 v30 v41 v52 h t k0_h11))
    let v159 : DmaSems sig S_ := v158.squeeze S_ squeezes_S1_S_
    let v160 : Memref sig .tc .hbm S1x128x9728 .f32 := M3.slice (Rect.unit (s := S5x3584x9728) (k0_off28 v8 v19 v30 v41 v52 t v122) S1x128x9728.size (k0_off28_inb v8 v19 v30 v41 v52 t v122 k0_hw5 k0_h11)) (fun _ => rfl)
    let v161 : Memref sig .tc .hbm S128x9728 .f32 := v160.squeeze S128x9728 squeezes_S1x128x9728_S128x9728
    let v162 : Memref sig .tc .vmem S1x128x9728 .f32 := M17.slice (Rect.unit (s := S4x128x9728) (k0_off29 v8 v19 v30 v41 v52 t) S1x128x9728.size (k0_off29_inb v8 v19 v30 v41 v52 h t k0_h11)) (fun _ => rfl)
    let v163 : Memref sig .tc .vmem S128x9728 .f32 := v162.squeeze S128x9728 squeezes_S1x128x9728_S128x9728
    Prog.lift (.waitDma2 v159.sem v163 v161 ((View.wordExact_bits rfl).reshape _ _) ((View.wordExact_bits rfl).reshape _ _))
    pure ⟨⟩
  else do
    pure ⟨⟩
  let v130 : Elt F .i32 ← smemLoad M18 (Rect.unit (s := S3x5) (k0_off30 v8 v19 v30 v41 v52 t) S1x1.size (k0_off30_inb v8 v19 v30 v41 v52 h t)) numel1_S1x1 rfl
  let v134 : Elt F .i32 ← smemLoad M18 (Rect.unit (s := S3x5) (k0_off31 v8 v19 v30 v41 v52 t) S1x1.size (k0_off31_inb v8 v19 v30 v41 v52 h t)) numel1_S1x1 rfl
  let v139 : Vec F S128x256 .bf16 ← Prog.lift (.load M14 (Rect.unit (s := S3584x256) (k0_off32 v8 v19 v30 v41 v52 t) S128x256.size (k0_off32_inb v8 v19 v30 v41 v52 h t)).toLoadRect (View.loadsAt_vmem h_S128x256))
  let v144 : Vec F S256x9728 .bf16 ← Prog.lift (.load M15 (Rect.unit (s := S256x9728) ![0, 0] S256x9728.size inb_S256x9728_S256x9728_0_0).toLoadRect (View.loadsAt_vmem h_S256x9728))
  let v147 : Vec F S1x128x9728 .f32 ← Prog.lift (.load M17 (Rect.unit (s := S4x128x9728) (k0_off33 v8 v19 v30 v41 v52 t) S1x128x9728.size (k0_off33_inb v8 v19 v30 v41 v52 h t)).toLoadRect (View.loadsAt_vmem h_S1x128x9728))
  Prog.lift (.store M17 (Rect.unit (s := S4x128x9728) (k0_off33 v8 v19 v30 v41 v52 t) S1x128x9728.size (k0_off33_inb v8 v19 v30 v41 v52 h t)) (k0_pay15 v130 v134 v139 v144) Finset.univ (View.stores_vmem_bits_univ h_S1x128x9728 rfl) (.inl rfl))
  pure ⟨v122, k0_hw5⟩

/-- The copy out. -/
def t8C (t : Fin (k0_t8_loop v8 v19 v30 v41 v52).trips) (v122 : Elt F .i32) (hw : k0_chk5 v8 v19 v30 v41 v52 t v122) : Prog (TpuEff nD τ sig (Elt F) Λ₀ .tc) Unit :=
  Prog.lift (.enqueueDma ((M17.slice (Rect.unit (s := S4x128x9728) (k0_off36 v8 v19 v30 v41 v52 t) S1x128x9728.size (k0_off36_inb v8 v19 v30 v41 v52 h t)) (fun _ => rfl)).squeeze S128x9728 squeezes_S1x128x9728_S128x9728)
    (.here ((M3.slice (Rect.unit (s := S5x3584x9728) (k0_off35 v8 v19 v30 v41 v52 t v122) S1x128x9728.size (k0_off35_inb v8 v19 v30 v41 v52 t v122 hw)) (fun _ => rfl)).squeeze S128x9728 squeezes_S1x128x9728_S128x9728))
    (.dma ((cc0_scratch14.slice (Rect.unit (s := S4) (k0_off34 v8 v19 v30 v41 v52 t) S1.size (k0_off34_inb v8 v19 v30 v41 v52 h t))).squeeze S_ squeezes_S1_S_).sem)
    ((View.wordExact_bits rfl).reshape _ _) ((View.wordExact_bits rfl).reshape _ _) ⟨Or.inl rfl, trivial⟩) >>= fun _ => pure ⟨⟩

/-- One trip. -/
def t8B (t : Fin (k0_t8_loop v8 v19 v30 v41 v52).trips) : Prog (TpuEff nD τ sig (Elt F) Λ₀ .tc) Unit :=
  t8A v8 v19 v30 v41 v52 h t >>= fun r => t8C v8 v19 v30 v41 v52 h t r.1 r.2

set_option maxRecDepth 65536 in
set_option maxHeartbeats 4000000 in
theorem t8B_eq (a0 : Memref sig .tc .smem S5 .i32) (h0 : a0.IsWhole) (v62 : BitVec 32) (t : Fin (k0_t8_loop v8 v19 v30 v41 v52).trips) :
    k0_t8_body (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 v8 v19 v30 v41 v52 h v62 t ⟨⟩ = t8B v8 v19 v30 v41 v52 h t := by
  unfold k0_t8_body; rw [k0_part5_eq_skeleton]; rfl

variable (DW : DWBuf (F := F) c) (W : ℕ → BitVec 32) (f18 : TabBuf (F := F) c) (g14 : Buf (Elt F) (M14.view.loc (c : Thread nD τ))) (g15 : Buf (Elt F) (M15.view.loc (c : Thread nD τ)))

/-- Before product `T`. -/
def tInv (T : ℕ) : sProp 𝕄 :=
  iprop((∃ W : Waits sig Unit, owes (c : Thread nD τ) 0 W) ∗ hold c M18 f18 ∗ hold c M14 g14 ∗ hold c M15 g15
    ∗ bigSep Finset.univ (slotSt c (lv v8 v19 v30 v41 v52) DW T) ∗ bigSep Finset.univ (rBlk c (lv v8 v19 v30 v41 v52) DW T (T - 4)))

/-- With product `T` in its buffer and not yet sent. -/
def tMid (T : ℕ) : sProp 𝕄 :=
  iprop((∃ W : Waits sig Unit, owes (c : Thread nD τ) 0 W) ∗ hold c M18 f18 ∗ hold c M14 g14 ∗ hold c M15 g15
    ∗ (∃ f : RingBuf (F := F) c, slotAt c (slotOf T) f ∗ ⌜(slotM (slotOf T)).view.read (Elt F) f = PX c W g14 g15 (liveBlk (lv v8 v19 v30 v41 v52) T)⌝)
    ∗ semVal ((c : Thread nD τ), SemLoc.dma (rsem (slotOf T))) 0
    ∗ (slotSt c (lv v8 v19 v30 v41 v52) DW (T + 1) (slotOf T) -∗ bigSep Finset.univ (slotSt c (lv v8 v19 v30 v41 v52) DW (T + 1)))
    ∗ bigSep Finset.univ (rBlk c (lv v8 v19 v30 v41 v52) DW T (T + 1 - 4)))

theorem t8A_wp (t : Fin (k0_t8_loop v8 v19 v30 v41 v52).trips) (hf : LiveOK c (lv v8 v19 v30 v41 v52) W f18 5) (ht : t.val / 28 < 5)
    (hw : k0_chk5 v8 v19 v30 v41 v52 t (f18 (ix 0 (t.val / 28) (by decide) ht)))
    (Q : (Σ' (v122 : Elt F .i32), k0_chk5 v8 v19 v30 v41 v52 t v122) → sProp 𝕄) :
    iprop(tInv c v8 v19 v30 v41 v52 DW f18 g14 g15 t.val ∗ (tMid c v8 v19 v30 v41 v52 DW W f18 g14 g15 t.val -∗ Q ⟨f18 (ix 0 (t.val / 28) (by decide) ht), hw⟩))
      ⊢ wp frame (wpE (defs₀ (F := F)) Variants.none (c : Thread nD τ) none) Set.univ (t8A (F := F) v8 v19 v30 v41 v52 h t) Q := by
  have hn : t.val < 28 * nl (lv v8 v19 v30 v41 v52) 5 := lt_of_lt_of_eq t.isLt (trips_words v8 v19 v30 v41 v52).1
  obtain ⟨e26, e27, e29, e30, e31, e32, e33, e34, e36, ec, -⟩ := t8_words v8 v19 v30 v41 v52 t
  unfold tInv
  iintro ⟨⟨HO, H18, H14, H15, HS, HR⟩, HQ⟩
  ihave HS := (bigSep_swap (Φ := slotSt c (lv v8 v19 v30 v41 v52) DW t.val) (Ψ := slotSt c (lv v8 v19 v30 v41 v52) DW (t.val + 1)) (slotOf t.val) (fun s hs => slotSt_ne c _ DW t.val s hs)) $$ HS
  icases HS with ⟨Hs, HS⟩
  unfold t8A
  iapply (cellLoad_wp c f18 0 (t.val / 28) (by decide) ht _ _ e26)
  isplitl [H18]; · iexact H18
  iintro H18
  iapply (assume_wp c _ _ hw)
  by_cases hc : k0_cond11 v8 v19 v30 v41 v52 t = 1#1
  · have h4 : 4 ≤ t.val := ec.mp hc
    iapply (dite_pos_wp c hc)
    ihave Hs := (Entails.of_eq (slotSt_use c _ DW t.val h4)) $$ Hs
    icases Hs with ⟨%f, Hs⟩
    iapply (rCollect_wp c (lv v8 v19 v30 v41 v52) DW t.val (t.val - 4) (show t.val - 4 < t.val by omega) (show t.val - 4 < 28 * nl (lv v8 v19 v30 v41 v52) 5 by omega) (slotOf t.val) f _ _ _ _ _ _ e27)
    isplitl [HO]; · iexact HO
    isplitl [Hs]; · iexact Hs
    isplitl [HR]; · iexact HR
    iintro HO HR ⟨Hs, Hv⟩
    iapply (rFill_wp c (lv v8 v19 v30 v41 v52) W f18 g14 g15 t.val hn hf (slotOf t.val) _ _ _ _ _ _ _ _ e30 e31 e32 e33)
    isplitl [H18]; · iexact H18
    isplitl [H14]; · iexact H14
    isplitl [H15]; · iexact H15
    isplitl [Hs]; · iexact Hs
    iintro H18 H14 H15 Hs
    iapply HQ
    unfold tMid
    isplitl [HO]; · iexact HO
    isplitl [H18]; · iexact H18
    isplitl [H14]; · iexact H14
    isplitl [H15]; · iexact H15
    isplitl [Hs]; · iexact Hs
    isplitl [Hv]; · iexact Hv
    isplitl [HS]; · iexact HS
    rw [show t.val + 1 - 4 = t.val - 4 + 1 by omega]
    iexact HR
  · have h4 : t.val < 4 := Nat.lt_of_not_le fun hh => hc (ec.mpr hh)
    iapply (dite_neg_wp c hc)
    ihave Hs := (Entails.of_eq (slotSt_new c _ DW t.val h4)) $$ Hs
    icases Hs with ⟨Hs, Hv⟩
    iapply (rFill_wp c (lv v8 v19 v30 v41 v52) W f18 g14 g15 t.val hn hf (slotOf t.val) _ _ _ _ _ _ _ _ e30 e31 e32 e33)
    isplitl [H18]; · iexact H18
    isplitl [H14]; · iexact H14
    isplitl [H15]; · iexact H15
    isplitl [Hs]; · iexact Hs
    iintro H18 H14 H15 Hs
    iapply HQ
    unfold tMid
    isplitl [HO]; · iexact HO
    isplitl [H18]; · iexact H18
    isplitl [H14]; · iexact H14
    isplitl [H15]; · iexact H15
    isplitl [Hs]; · iexact Hs
    isplitl [Hv]; · iexact Hv
    isplitl [HS]; · iexact HS
    rw [show t.val + 1 - 4 = t.val - 4 by omega]
    iexact HR

theorem t8B_wp (t : Fin (k0_t8_loop v8 v19 v30 v41 v52).trips) (hf : LiveOK c (lv v8 v19 v30 v41 v52) W f18 5)
    (hP : ∀ x : Fin 5 × Fin 28, lv v8 v19 v30 v41 v52 x.1 = true → (blk x).view.read (Elt F) DW = PX c W g14 g15 x) :
    tInv c v8 v19 v30 v41 v52 DW f18 g14 g15 t.val ⊢ wp frame (wpE (defs₀ (F := F)) Variants.none (c : Thread nD τ) none) Set.univ (t8B (F := F) v8 v19 v30 v41 v52 h t) (fun _ => tInv c v8 v19 v30 v41 v52 DW f18 g14 g15 (t.val + 1)) := by
  have hn : t.val < 28 * nl (lv v8 v19 v30 v41 v52) 5 := lt_of_lt_of_eq t.isLt (trips_words v8 v19 v30 v41 v52).1
  have h5 := nl_five_le (lv v8 v19 v30 v41 v52)
  have ht : t.val / 28 < 5 := by omega
  obtain ⟨e26, e27, e29, e30, e31, e32, e33, e34, e36, ec, -⟩ := t8_words v8 v19 v30 v41 v52 t
  have hw0 := (hf (t.val / 28) ht (by omega)).1
  have hw1 : (f18 (ix 0 (t.val / 28) (by decide) ht) : BitVec 32).toNat = (liveExp (lv v8 v19 v30 v41 v52) (t.val / 28)).val := by
    have hb : ∀ e : Fin 5, (BitVec.ofNat 32 e.val).toNat = e.val := by decide
    exact (congrArg BitVec.toNat hw0).trans (hb _)
  have hw : k0_chk5 v8 v19 v30 v41 v52 t (f18 (ix 0 (t.val / 28) (by decide) ht)) := chk5 v8 v19 v30 v41 v52 t _ (by rw [hw1]; exact Fin.isLt _)
  have e35 := (t8_words_blk v8 v19 v30 v41 v52 t (f18 (ix 0 (t.val / 28) (by decide) ht))).2
  rw [hw1] at e35
  unfold t8B
  rw [wp_bind]
  iintro H
  iapply (t8A_wp c v8 v19 v30 v41 v52 h DW W f18 g14 g15 t hf ht hw)
  isplitl [H]; · iexact H
  iintro H
  unfold tMid
  icases H with ⟨HO, H18, H14, H15, Hs, Hv, HS, HR⟩
  unfold t8C
  iapply (rIssue_wp c (lv v8 v19 v30 v41 v52) DW W g14 g15 hP t.val (t.val + 1 - 4) (by omega) hn (slotOf t.val) _ _ _ _ _ _ e34 e36 e35)
  isplitl [Hs]; · iexact Hs
  isplitl [Hv]; · iexact Hv
  isplitl [HR]; · iexact HR
  iintro HB HR
  unfold tInv
  isplitl [HO]; · iexact HO
  isplitl [H18]; · iexact H18
  isplitl [H14]; · iexact H14
  isplitl [H15]; · iexact H15
  isplitl [HB HS]
  · iapply HS
    iapply (Entails.of_eq (slotSt_done c (lv v8 v19 v30 v41 v52) DW t.val).symm)
    iexact HB
  iexact HR

/-- The loop over the products. -/
theorem t8_wp (a0 : Memref sig .tc .smem S5 .i32) (h0 : a0.IsWhole) (v62 : BitVec 32) (hf : LiveOK c (lv v8 v19 v30 v41 v52) W f18 5)
    (hP : ∀ x : Fin 5 × Fin 28, lv v8 v19 v30 v41 v52 x.1 = true → (blk x).view.read (Elt F) DW = PX c W g14 g15 x) :
    tInv c v8 v19 v30 v41 v52 DW f18 g14 g15 0
      ⊢ wp frame (wpE (defs₀ (F := F)) Variants.none (c : Thread nD τ) none) Set.univ (Scf.Loop.for (k0_t8_loop v8 v19 v30 v41 v52) (k0_t8_ok v8 v19 v30 v41 v52 h) ⟨⟩ (k0_t8_body (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 v8 v19 v30 v41 v52 h v62))
        (fun _ => tInv c v8 v19 v30 v41 v52 DW f18 g14 g15 (28 * nl (lv v8 v19 v30 v41 v52) 5)) := by
  iintro H
  iapply (Scf.wp_for frame (wpE (defs₀ (F := F)) Variants.none (c : Thread nD τ) none) Set.univ _ _ _ (k0_t8_ok v8 v19 v30 v41 v52 h) ⟨⟩ (k0_t8_body (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 v8 v19 v30 v41 v52 h v62)
    (fun k _ => tInv c v8 v19 v30 v41 v52 DW f18 g14 g15 k) ?_)
  · intro k acc
    have e := t8B_eq (F := F) v8 v19 v30 v41 v52 h a0 h0 v62 k
    exact (by rw [show acc = ⟨⟩ from rfl, e]; exact t8B_wp c v8 v19 v30 v41 v52 h DW W f18 g14 g15 k hf hP)
  isplitl [H]; · iexact H
  iintro %acc H
  have e : (k0_t8_loop v8 v19 v30 v41 v52).trips = 28 * nl (lv v8 v19 v30 v41 v52) 5 := (trips_words v8 v19 v30 v41 v52).1
  iapply (Entails.of_eq (show tInv (F := F) c v8 v19 v30 v41 v52 DW f18 g14 g15 (k0_t8_loop v8 v19 v30 v41 v52).trips = tInv c v8 v19 v30 v41 v52 DW f18 g14 g15 (28 * nl (lv v8 v19 v30 v41 v52) 5) by rw [e]))
  iexact H

end

/-! ## The last copies -/

section

variable (l : Fin 5 → Bool) (DW : DWBuf (F := F) c)

/-- A buffer after the copies out of the first `k` buffers are collected. -/
def drSlot (k : ℕ) (s : Fin 4) : sProp 𝕄 :=
  if s.val < k then iprop(slotAny c s ∗ semVal ((c : Thread nD τ), SemLoc.dma (rsem s)) 0) else slotSt c l DW (28 * nl l 5) s

/-- After `k` of the last waits. -/
def drInv (k : ℕ) : sProp 𝕄 :=
  iprop((∃ W : Waits sig Unit, owes (c : Thread nD τ) 0 W) ∗ bigSep Finset.univ (drSlot c l DW k) ∗ bigSep Finset.univ (rBlk c l DW (28 * nl l 5) (28 * nl l 5 - 4 + k)))

/-- One of the last waits. -/
def drB (oS : Fin 1 → ℕ) (oM : Fin 3 → ℕ) (hS : ∀ a, oS a + S1.size a ≤ S4.size a) (hM : ∀ a, oM a + S1x128x9728.size a ≤ S4x128x9728.size a) : Prog (TpuEff nD τ sig (Elt F) Λ₀ .tc) Unit :=
  Prog.lift (.waitDma2 ((cc0_scratch14.slice (Rect.unit (s := S4) oS S1.size hS)).squeeze S_ squeezes_S1_S_).sem
    ((M17.slice (Rect.unit (s := S4x128x9728) oM S1x128x9728.size hM) (fun _ => rfl)).squeeze S128x9728 squeezes_S1x128x9728_S128x9728)
    ((M3.slice (Rect.unit (s := S5x3584x9728) ![0, 0, 0] S1x128x9728.size inb_S5x3584x9728_S1x128x9728_0_0_0) (fun _ => rfl)).squeeze S128x9728 squeezes_S1x128x9728_S128x9728)
    ((View.wordExact_bits rfl).reshape _ _) ((View.wordExact_bits rfl).reshape _ _)) >>= fun _ => pure ⟨⟩

theorem drB_wp (k : ℕ) (hk : k < min 4 (nl l 5 * 28)) (oS : Fin 1 → ℕ) (oM : Fin 3 → ℕ) (hS hM) (eS : oS = ![k]) :
    drInv c l DW k ⊢ wp frame (wpE (defs₀ (F := F)) Variants.none (c : Thread nD τ) none) Set.univ (drB (F := F) oS oM hS hM) (fun _ => drInv c l DW (k + 1)) := by
  have h4 : k < 4 := by omega
  have hn : 28 ≤ 28 * nl l 5 := by omega
  unfold drInv
  iintro ⟨HO, HS, HR⟩
  ihave HS := (bigSep_swap (Φ := drSlot c l DW k) (Ψ := drSlot c l DW (k + 1)) (⟨k, h4⟩ : Fin 4) ?_) $$ HS
  · intro s hs
    have hne : s.val ≠ k := fun e => hs (Fin.ext e)
    unfold drSlot
    by_cases hl : s.val < k
    · rw [if_pos hl, if_pos (by omega)]
    · rw [if_neg hl, if_neg (by omega)]
  icases HS with ⟨Hs, HS⟩
  have e1 : drSlot c l DW k (⟨k, h4⟩ : Fin 4) = iprop(∃ f : RingBuf (F := F) c, rBat c l DW (⟨k, h4⟩ : Fin 4) f (28 * nl l 5 - 4 + k) 1) := by
    unfold drSlot
    rw [if_neg (Nat.lt_irrefl k)]
    unfold slotSt
    rw [if_pos (show k < 28 * nl l 5 by omega), show 28 * nl l 5 - 1 - (28 * nl l 5 - 1 - (⟨k, h4⟩ : Fin 4).val) % 4 = 28 * nl l 5 - 4 + k by show 28 * nl l 5 - 1 - (28 * nl l 5 - 1 - k) % 4 = _; omega]
  ihave Hs := (Entails.of_eq e1) $$ Hs
  icases Hs with ⟨%f, Hs⟩
  unfold drB
  iapply (rCollect_wp c l DW (28 * nl l 5) (28 * nl l 5 - 4 + k) (by omega) (by omega) (⟨k, h4⟩ : Fin 4) f _ _ _ _ _ _ eS)
  isplitl [HO]; · iexact HO
  isplitl [Hs]; · iexact Hs
  isplitl [HR]; · iexact HR
  iintro HO HR Hs
  iapply (le_wp_ret frame (wpE (defs₀ (F := F)) Variants.none (c : Thread nD τ) none) Set.univ _ (fun _ => iprop((∃ W : Waits sig Unit, owes (c : Thread nD τ) 0 W) ∗ bigSep Finset.univ (drSlot c l DW (k + 1)) ∗ bigSep Finset.univ (rBlk c l DW (28 * nl l 5) (28 * nl l 5 - 4 + (k + 1))))))
  isplitl [HO]; · iexact HO
  isplitl [HS Hs]
  · iapply HS
    have e2 : drSlot c l DW (k + 1) (⟨k, h4⟩ : Fin 4) = iprop(slotAny c (⟨k, h4⟩ : Fin 4) ∗ semVal ((c : Thread nD τ), SemLoc.dma (rsem (⟨k, h4⟩ : Fin 4))) 0) := by
      unfold drSlot; rw [if_pos (Nat.lt_succ_self k)]
    iapply (Entails.of_eq e2.symm)
    iexact Hs
  iexact HR

/-- The last waits collect what is left. -/
theorem drain_wp (L : Scf.Loop 32) (ok : L.OK) (hT : L.trips = min 4 (nl l 5 * 28)) (oS : Fin L.trips → Fin 1 → ℕ) (oM : Fin L.trips → Fin 3 → ℕ) (hS : ∀ t, ∀ a, oS t a + S1.size a ≤ S4.size a)
    (hM : ∀ t, ∀ a, oM t a + S1x128x9728.size a ≤ S4x128x9728.size a) (eS : ∀ t, oS t = ![t.val]) :
    drInv c l DW 0 ⊢ wp frame (wpE (defs₀ (F := F)) Variants.none (c : Thread nD τ) none) Set.univ (Scf.Loop.for L ok ⟨⟩ (fun t _ => drB (F := F) (oS t) (oM t) (hS t) (hM t))) (fun _ => drInv c l DW (min 4 (nl l 5 * 28))) := by
  iintro H
  iapply (Scf.wp_for frame (wpE (defs₀ (F := F)) Variants.none (c : Thread nD τ) none) Set.univ L.lb L.ub L.st ok ⟨⟩ (fun t _ => drB (F := F) (oS t) (oM t) (hS t) (hM t))
    (fun k _ => drInv c l DW k) ?_)
  · intro k acc
    exact drB_wp c l DW k.val (hT ▸ k.isLt) _ _ _ _ (eS k)
  isplitl [H]; · iexact H
  iintro %acc H
  rw [show Scf.trips L.lb L.ub L.st = min 4 (nl l 5 * 28) from hT]
  iexact H

/-- Everything collected: every buffer free, every block of an expert with tokens filled. -/
theorem drain_end : iprop(bigSep Finset.univ (drSlot c l DW (min 4 (nl l 5 * 28))) ∗ bigSep Finset.univ (rBlk c l DW (28 * nl l 5) (28 * nl l 5 - 4 + min 4 (nl l 5 * 28))))
    ⊢ iprop(bigSep Finset.univ (slotAny (F := F) c) ∗ bigSep Finset.univ (fun s : Fin 4 => semVal ((c : Thread nD τ), SemLoc.dma (rsem s)) 0)
      ∗ bigSep (Finset.univ.filter fun x : Fin 5 × Fin 28 => l x.1 = true) (blkAt c DW)) := by
  have e1 : bigSep Finset.univ (drSlot c l DW (min 4 (nl l 5 * 28))) = bigSep Finset.univ (fun s : Fin 4 => iprop(slotAny (F := F) c s ∗ semVal ((c : Thread nD τ), SemLoc.dma (rsem s)) 0)) :=
    bigSep_congr fun s _ => by
      have h4 := s.isLt
      unfold drSlot
      by_cases hs : s.val < min 4 (nl l 5 * 28)
      · rw [if_pos hs]
      · rw [if_neg hs]; unfold slotSt; rw [if_neg (by omega)]
  have e2 : bigSep Finset.univ (rBlk c l DW (28 * nl l 5) (28 * nl l 5 - 4 + min 4 (nl l 5 * 28))) = bigSep (Finset.univ.filter fun x : Fin 5 × Fin 28 => l x.1 = true) (blkAt c DW) := by
    rw [← bigSep_ite]
    refine bigSep_congr fun x _ => ?_
    unfold rBlk
    by_cases hl : l x.1 = true
    · have := liveNo_lt l x hl
      rw [if_pos hl, if_pos hl, if_pos (by omega)]
    · rw [if_neg hl, if_neg hl]
  rw [e1, e2, show bigSep Finset.univ (fun s : Fin 4 => iprop(slotAny (F := F) c s ∗ semVal ((c : Thread nD τ), SemLoc.dma (rsem s)) 0)) = iprop(bigSep Finset.univ (slotAny (F := F) c) ∗ bigSep Finset.univ (fun s : Fin 4 => semVal ((c : Thread nD τ), SemLoc.dma (rsem s)) 0)) from bigSep_sep _ _ _]
  iintro ⟨⟨H1, H2⟩, H3⟩
  isplitl [H1]; · iexact H1
  isplitl [H2]; · iexact H2
  iexact H3

/-- Nothing begun. -/
theorem ring_start : iprop(bigSep Finset.univ (slotAny (F := F) c) ∗ bigSep Finset.univ (fun s : Fin 4 => semVal ((c : Thread nD τ), SemLoc.dma (rsem s)) 0)
      ∗ bigSep (Finset.univ.filter fun x : Fin 5 × Fin 28 => l x.1 = true) (blkAny (F := F) c))
    ⊢ iprop(bigSep Finset.univ (slotSt c l DW 0) ∗ bigSep Finset.univ (rBlk c l DW 0 0)) := by
  have e1 : bigSep Finset.univ (slotSt c l DW 0) = bigSep Finset.univ (fun s : Fin 4 => iprop(slotAny (F := F) c s ∗ semVal ((c : Thread nD τ), SemLoc.dma (rsem s)) 0)) :=
    bigSep_congr fun s _ => by unfold slotSt; rw [if_neg (Nat.not_lt_zero _)]
  have e2 : bigSep Finset.univ (rBlk c l DW 0 0) = bigSep (Finset.univ.filter fun x : Fin 5 × Fin 28 => l x.1 = true) (blkAny c) := by
    rw [← bigSep_ite]
    refine bigSep_congr fun x _ => ?_
    unfold rBlk
    by_cases hl : l x.1 = true
    · rw [if_pos hl, if_pos hl, if_neg (Nat.not_lt_zero _), if_neg (Nat.not_lt_zero _)]
    · rw [if_neg hl, if_neg hl]
  rw [e1, e2, show bigSep Finset.univ (fun s : Fin 4 => iprop(slotAny (F := F) c s ∗ semVal ((c : Thread nD τ), SemLoc.dma (rsem s)) 0)) = iprop(bigSep Finset.univ (slotAny (F := F) c) ∗ bigSep Finset.univ (fun s : Fin 4 => semVal ((c : Thread nD τ), SemLoc.dma (rsem s)) 0)) from bigSep_sep _ _ _]
  iintro ⟨H1, H2, H3⟩
  isplitl [H1 H2]
  · isplitl [H1]; · iexact H1
    iexact H2
  iexact H3

end

end

end Cert.KernelIdeal.Hand

end
-- ==== Proof.Body.lean ====
/- The kernel body run whole: from the inputs and whatever the other buffers hold, to the inputs as they were and the
   five results at their stated contents. -/
module

public import proofs.«01_k».proof.Proof.Copies
public import proofs.«01_k».proof.Proof.Quant
public import proofs.«01_k».proof.Proof.Products
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ
open Idealize.ShloMosaic.ValueIdx

section
variable (c : Dev nD) (a0 : Memref sig .tc .smem S5 .i32) (h0 : a0.IsWhole) (f0 : Buf (Elt F) (a0.view.loc (c : Thread nD τ)))

/-! ## Stringing loops together -/

/-- A program, then the rest. -/
theorem seq_wp {R S : Type} (A : Prog (TpuEff nD τ sig (Elt F) Λ₀ .tc) S) (K : S → Prog (TpuEff nD τ sig (Elt F) Λ₀ .tc) R) (P P' : sProp 𝕄) (Q : R → sProp 𝕄)
    (h : P ⊢ wp frame (wpE (defs₀ (F := F)) Variants.none (c : Thread nD τ) none) Set.univ A (fun _ => P')) : iprop(P ∗ (∀ a, P' -∗ wp frame (wpE (defs₀ (F := F)) Variants.none (c : Thread nD τ) none) Set.univ (K a) Q)) ⊢ wp frame (wpE (defs₀ (F := F)) Variants.none (c : Thread nD τ) none) Set.univ (A >>= K) Q := by
  rw [wp_bind]
  iintro ⟨HP, HK⟩
  iapply (wp_wand_r frame (wpE (defs₀ (F := F)) Variants.none (c : Thread nD τ) none) Set.univ)
  isplitl [HP]
  · ihave HP := h $$ HP
    iexact HP
  iintro %a HP
  iapply HK
  iexact HP

/-- A loop of no trips does nothing. -/
theorem none_wp {R : Type} (L : Scf.Loop 32) (ok : L.OK) (hT : L.trips = 0) (body : Fin L.trips → Unit → Prog (TpuEff nD τ sig (Elt F) Λ₀ .tc) Unit)
    (K : Unit → Prog (TpuEff nD τ sig (Elt F) Λ₀ .tc) R) (Q : R → sProp 𝕄) :
    wp frame (wpE (defs₀ (F := F)) Variants.none (c : Thread nD τ) none) Set.univ (K ⟨⟩) Q ⊢ wp frame (wpE (defs₀ (F := F)) Variants.none (c : Thread nD τ) none) Set.univ (Scf.Loop.for L ok ⟨⟩ body >>= K) Q := by
  have hp : (iprop(emp) : sProp 𝕄) ⊢ wp frame (wpE (defs₀ (F := F)) Variants.none (c : Thread nD τ) none) Set.univ (Scf.Loop.for L ok ⟨⟩ body) (fun _ => iprop(emp)) := by
    iintro H
    iapply (Scf.wp_for frame (wpE (defs₀ (F := F)) Variants.none (c : Thread nD τ) none) Set.univ L.lb L.ub L.st ok ⟨⟩ body (fun k _ => iprop(emp)) ?_)
    · intro k acc
      exact absurd (lt_of_lt_of_eq k.isLt hT) (Nat.not_lt_zero _)
    isplitl [H]; · iexact H
    iintro %u H
    iexact H
  iintro H
  iapply (seq_wp c _ K _ _ Q hp)
  isplitr
  · iempintro
  iintro %u _
  iexact H

/-! ## What the gradient's array holds at the end -/

variable (f1 : Buf (Elt F) (M1.view.loc (c : Thread nD τ))) (f2 : Buf (Elt F) (M2.view.loc (c : Thread nD τ)))

/-- The gradient: a block of an expert with tokens holds its panel's product, any other zeros. -/
def dwOf : DWBuf (F := F) c := fun i : S5x3584x9728.Idx =>
  if lvs c a0 f0 (i 0) = true then
    PX c (Wds c a0 f0) (xH c (cp1 c f1)) (yH c (cp2 c f2)) (i 0, ⟨(i 1).val / 128, Nat.div_lt_of_lt_mul (show (i 1).val < 128 * 28 from (i 1).isLt)⟩)
      (ix2 (⟨(i 1).val % 128, Nat.mod_lt _ (by decide)⟩ : Fin 128) (i 2))
  else k0_pay17 (F := F) (ix2 (⟨(i 1).val % 128, Nat.mod_lt _ (by decide)⟩ : Fin 128) (i 2))

theorem row_lt (p : Fin 28) (r : Fin 128) : 128 * p.val + r.val < 3584 := by have := p.isLt; have := r.isLt; omega

/-- Block `x` read at a row and a column. -/
theorem blk_read (G : DWBuf (F := F) c) (x : Fin 5 × Fin 28) (r : Fin 128) (q : Fin 9728) :
    (blk x).view.read (Elt F) G (ix2 r q) = G (ix3 x.1 (⟨128 * x.2.val + r.val, row_lt x.2 r⟩ : Fin 3584) q) := by
  unfold blk
  show G ((Rect.unit (s := S5x3584x9728) ![x.1.val, 128 * x.2.val, 0] S1x128x9728.size (blk_inb x)).emb (Shape.reshapeEquiv squeezes_S1x128x9728_S128x9728.numel_eq (ix2 r q))) = _
  rw [reshapeEquiv_ix2_1ab]
  refine congrArg G (Rect.emb_eq_of_coords _ _ _ fun a => ?_)
  fin_cases a
  · show x.1.val = x.1.val + 1 * 0; omega
  · show 128 * x.2.val + r.val = 128 * x.2.val + 1 * r.val; omega
  · show q.val = 0 + 1 * q.val; omega

theorem dw_live (x : Fin 5 × Fin 28) (hx : lvs c a0 f0 x.1 = true) :
    (blk x).view.read (Elt F) (dwOf c a0 f0 f1 f2) = PX c (Wds c a0 f0) (xH c (cp1 c f1)) (yH c (cp2 c f2)) x := by
  funext y
  obtain ⟨r, q, rfl⟩ : ∃ r q, y = ix2 r q := ⟨_, _, eq_ix2 y⟩
  rw [blk_read]
  unfold dwOf
  have hr := r.isLt
  refine (if_pos hx).trans ?_
  have e1 : ((x.1, ⟨(128 * x.2.val + r.val) / 128, Nat.div_lt_of_lt_mul (row_lt x.2 r)⟩) : Fin 5 × Fin 28) = x :=
    Prod.ext rfl (Fin.ext (show (128 * x.2.val + r.val) / 128 = x.2.val by omega))
  have e2 : (⟨(128 * x.2.val + r.val) % 128, Nat.mod_lt _ (by decide)⟩ : Fin 128) = r := Fin.ext (show (128 * x.2.val + r.val) % 128 = r.val by omega)
  exact congrArg₂ (fun X R => PX c (Wds c a0 f0) (xH c (cp1 c f1)) (yH c (cp2 c f2)) X (ix2 R q)) e1 e2

theorem dw_dead (x : Fin 5 × Fin 28) (hx : lvs c a0 f0 x.1 = false) :
    (blk x).view.read (Elt F) (dwOf c a0 f0 f1 f2) = M16.view.read (Elt F) (zeros c) := by
  funext y
  obtain ⟨r, q, rfl⟩ : ∃ r q, y = ix2 r q := ⟨_, _, eq_ix2 y⟩
  rw [blk_read]
  unfold dwOf
  have hr := r.isLt
  refine (if_neg (by show ¬ lvs c a0 f0 x.1 = true; rw [hx]; decide)).trans ?_
  have e2 : (⟨(128 * x.2.val + r.val) % 128, Nat.mod_lt _ (by decide)⟩ : Fin 128) = r := Fin.ext (show (128 * x.2.val + r.val) % 128 = r.val by omega)
  exact congrArg (fun R => k0_pay17 (F := F) (ix2 R q)) e2

/-! ## The second half of the body -/

set_option maxHeartbeats 1000000 in
theorem part9_wp (hw4 : k0_chk4 (szs c a0 f0 0) (szs c a0 f0 1) (szs c a0 f0 2) (szs c a0 f0 3) (szs c a0 f0 4)) (v62 : BitVec 32) (f8 : Buf (Elt F) (M8.view.loc (c : Thread nD τ))) (f9 : Buf (Elt F) (M9.view.loc (c : Thread nD τ))) (f4 : Buf (Elt F) (M4.view.loc (c : Thread nD τ))) (f5 : Buf (Elt F) (M5.view.loc (c : Thread nD τ))) (f6 : Buf (Elt F) (M6.view.loc (c : Thread nD τ))) (f7 : Buf (Elt F) (M7.view.loc (c : Thread nD τ))) (f18 : TabBuf (F := F) c)
    (hf : LiveOK c (lvs c a0 f0) (Wds c a0 f0) f18 5) (Q : BitVec 32 → sProp 𝕄) :
    iprop((∃ W : Waits sig Unit, owes (c : Thread nD τ) 0 W) ∗ underWay c (1 : DmaSem sig) 57344 M1 M8 f1 f8 ∗ underWay c (2 : DmaSem sig) 155648 M2 M9 f2 f9 ∗ (∃ f, hold c M10 f) ∗ (∃ f, hold c M11 f) ∗ (∃ f, hold c M12 f) ∗ (∃ f, hold c M13 f) ∗ (∃ f, hold c M14 f) ∗ (∃ f, hold c M15 f)
      ∗ hold c M4 f4 ∗ hold c M5 f5 ∗ hold c M6 f6 ∗ hold c M7 f7 ∗ zeroSem c (4 : DmaSem sig) ∗ zeroSem c (5 : DmaSem sig) ∗ zeroSem c (6 : DmaSem sig) ∗ zeroSem c (7 : DmaSem sig)
      ∗ hold c M18 f18 ∗ bigSep Finset.univ (slotAny c) ∗ bigSep Finset.univ (fun s : Fin 4 => semVal ((c : Thread nD τ), SemLoc.dma (rsem s)) 0) ∗ bigSep (Finset.univ.filter fun x : Fin 5 × Fin 28 => lvs c a0 f0 x.1 = true) (blkAny c)
      ∗ (∀ v, (∃ W : Waits sig Unit, owes (c : Thread nD τ) 0 W) -∗ hold c M1 f1 -∗ hold c M2 f2 -∗ zeroSem c (1 : DmaSem sig) -∗ zeroSem c (2 : DmaSem sig) -∗ hold c M8 (cp1 c f1) -∗ hold c M9 (cp2 c f2)
          -∗ underWay c (4 : DmaSem sig) 28672 M10 M4 (xC c (cp1 c f1)) f4 -∗ underWay c (5 : DmaSem sig) 3584 M11 M5 (xS c (cp1 c f1)) f5 -∗ underWay c (6 : DmaSem sig) 77824 M12 M6 (yC c (cp2 c f2)) f6 -∗ underWay c (7 : DmaSem sig) 9728 M13 M7 (yS c (cp2 c f2)) f7
          -∗ hold c M18 f18 -∗ hold c M14 (xH c (cp1 c f1)) -∗ hold c M15 (yH c (cp2 c f2))
          -∗ bigSep Finset.univ (slotSt c (lvs c a0 f0) (dwOf c a0 f0 f1 f2) (28 * (nl (lvs c a0 f0) 5))) -∗ bigSep Finset.univ (rBlk c (lvs c a0 f0) (dwOf c a0 f0 f1 f2) (28 * (nl (lvs c a0 f0) 5)) (28 * (nl (lvs c a0 f0) 5) - 4)) -∗ Q v))
    ⊢ wp frame (wpE (defs₀ (F := F)) Variants.none (c : Thread nD τ) none) Set.univ (k0_part9 (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 (szs c a0 f0 0) (szs c a0 f0 1) (szs c a0 f0 2) (szs c a0 f0 3) (szs c a0 f0 4) hw4 v62) Q := by
  rw [k0_part9_eq_skeleton]
  unfold k0_part9_skel
  iintro ⟨HO, U1, U2, H10, H11, H12, H13, H14, H15, H4, H5, H6, H7, Z4, Z5, Z6, Z7, H18, HS, HZ, HB, HQ⟩
  iapply (wait1_wp c f1 f8 _ Q)
  isplitl [HO]; · iexact HO
  isplitl [U1]; · iexact U1
  iintro HO Z1 H1 H8
  iapply (seq_wp c _ _ _ _ Q (x_wp c (cp1 c f1) a0 h0 (szs c a0 f0 0) (szs c a0 f0 1) (szs c a0 f0 2) (szs c a0 f0 3) (szs c a0 f0 4) hw4 v62))
  isplitl [H8 H10 H11 H14]
  · isplitl [H8]; · iexact H8
    isplitl [H10]; · iexact H10
    isplitl [H11]; · iexact H11
    iexact H14
  iintro %_ ⟨H8, H10, H11, H14⟩
  iapply (wait2_wp c f2 f9 _ Q)
  isplitl [HO]; · iexact HO
  isplitl [U2]; · iexact U2
  iintro HO Z2 H2 H9
  iapply (seq_wp c _ _ _ _ Q (y_wp c (cp2 c f2) a0 h0 (szs c a0 f0 0) (szs c a0 f0 1) (szs c a0 f0 2) (szs c a0 f0 3) (szs c a0 f0 4) hw4 v62))
  isplitl [H9 H12 H13 H15]
  · isplitl [H9]; · iexact H9
    isplitl [H12]; · iexact H12
    isplitl [H13]; · iexact H13
    iexact H15
  iintro %_ ⟨H9, H12, H13, H15⟩
  iapply (send10_wp c (xC c (cp1 c f1)) f4 _ Q)
  isplitl [H10]; · iexact H10
  isplitl [H4]; · iexact H4
  isplitl [Z4]; · iexact Z4
  iintro U4
  iapply (send11_wp c (xS c (cp1 c f1)) f5 _ Q)
  isplitl [H11]; · iexact H11
  isplitl [H5]; · iexact H5
  isplitl [Z5]; · iexact Z5
  iintro U5
  iapply (send12_wp c (yC c (cp2 c f2)) f6 _ Q)
  isplitl [H12]; · iexact H12
  isplitl [H6]; · iexact H6
  isplitl [Z6]; · iexact Z6
  iintro U6
  iapply (send13_wp c (yS c (cp2 c f2)) f7 _ Q)
  isplitl [H13]; · iexact H13
  isplitl [H7]; · iexact H7
  isplitl [Z7]; · iexact Z7
  iintro U7
  ihave HR := (ring_start c (lvs c a0 f0) (dwOf c a0 f0 f1 f2)) $$ [HS HZ HB]
  · isplitl [HS]; · iexact HS
    isplitl [HZ]; · iexact HZ
    iexact HB
  icases HR with ⟨HS, HR⟩
  iapply (seq_wp c _ _ _ _ Q (t8_wp c (szs c a0 f0 0) (szs c a0 f0 1) (szs c a0 f0 2) (szs c a0 f0 3) (szs c a0 f0 4) hw4 (dwOf c a0 f0 f1 f2) (Wds c a0 f0) f18 (xH c (cp1 c f1)) (yH c (cp2 c f2)) a0 h0 v62 hf (fun x hx => dw_live c a0 f0 f1 f2 x hx)))
  isplitl [HO H18 H14 H15 HS HR]
  · unfold tInv
    isplitl [HO]; · iexact HO
    isplitl [H18]; · iexact H18
    isplitl [H14]; · iexact H14
    isplitl [H15]; · iexact H15
    isplitl [HS]; · iexact HS
    iexact HR
  iintro %_ HT
  unfold tInv
  icases HT with ⟨HO, H18, H14, H15, HS, HR⟩
  iapply (none_wp c _ _ (trips_words (szs c a0 f0 0) (szs c a0 f0 1) (szs c a0 f0 2) (szs c a0 f0 3) (szs c a0 f0 4)).2.1 _ _ Q)
  iapply (le_wp_ret frame (wpE (defs₀ (F := F)) Variants.none (c : Thread nD τ) none) Set.univ _ Q)
  ispecialize HQ $$ %_
  ispecialize HQ $$ HO
  ispecialize HQ $$ H1
  ispecialize HQ $$ H2
  ispecialize HQ $$ Z1
  ispecialize HQ $$ Z2
  ispecialize HQ $$ H8
  ispecialize HQ $$ H9
  ispecialize HQ $$ U4
  ispecialize HQ $$ U5
  ispecialize HQ $$ U6
  ispecialize HQ $$ U7
  ispecialize HQ $$ H18
  ispecialize HQ $$ H14
  ispecialize HQ $$ H15
  ispecialize HQ $$ HS
  ispecialize HQ $$ HR
  iexact HQ

set_option maxHeartbeats 1000000 in
theorem part10_wp (hw4 : k0_chk4 (szs c a0 f0 0) (szs c a0 f0 1) (szs c a0 f0 2) (szs c a0 f0 3) (szs c a0 f0 4)) (v62 v87 : BitVec 32) (f4 : Buf (Elt F) (M4.view.loc (c : Thread nD τ))) (f5 : Buf (Elt F) (M5.view.loc (c : Thread nD τ))) (f6 : Buf (Elt F) (M6.view.loc (c : Thread nD τ))) (Q : PUnit → sProp 𝕄) :
    iprop((∃ W : Waits sig Unit, owes (c : Thread nD τ) 0 W) ∗ underWay c (4 : DmaSem sig) 28672 M10 M4 (xC c (cp1 c f1)) f4 ∗ underWay c (5 : DmaSem sig) 3584 M11 M5 (xS c (cp1 c f1)) f5 ∗ underWay c (6 : DmaSem sig) 77824 M12 M6 (yC c (cp2 c f2)) f6
      ∗ bigSep Finset.univ (slotSt c (lvs c a0 f0) (dwOf c a0 f0 f1 f2) (28 * (nl (lvs c a0 f0) 5))) ∗ bigSep Finset.univ (rBlk c (lvs c a0 f0) (dwOf c a0 f0 f1 f2) (28 * (nl (lvs c a0 f0) 5)) (28 * (nl (lvs c a0 f0) 5) - 4))
      ∗ zBat c (lvs c a0 f0) (dwOf c a0 f0 f1 f2) (zeros c) (28 * nd (lvs c a0 f0) 5) 0
      ∗ ((∃ W : Waits sig Unit, owes (c : Thread nD τ) 0 W) -∗ zeroSem c (4 : DmaSem sig) -∗ hold c M10 (xC c (cp1 c f1)) -∗ hold c M4 (cp10 c (xC c (cp1 c f1))) -∗ zeroSem c (5 : DmaSem sig) -∗ hold c M11 (xS c (cp1 c f1)) -∗ hold c M5 (cp11 c (xS c (cp1 c f1))) -∗ zeroSem c (6 : DmaSem sig) -∗ hold c M12 (yC c (cp2 c f2)) -∗ hold c M6 (cp12 c (yC c (cp2 c f2)))
        -∗ bigSep Finset.univ (slotAny (F := F) c) -∗ bigSep Finset.univ (fun s : Fin 4 => semVal ((c : Thread nD τ), SemLoc.dma (rsem s)) 0) -∗ bigSep (Finset.univ.filter fun x : Fin 5 × Fin 28 => lvs c a0 f0 x.1 = true) (blkAt c (dwOf c a0 f0 f1 f2))
        -∗ bigSep Finset.univ (zDel c (lvs c a0 f0) (dwOf c a0 f0 f1 f2) (zeros c)) -∗ zeroSem c (3 : DmaSem sig) -∗ Q ⟨⟩))
    ⊢ wp frame (wpE (defs₀ (F := F)) Variants.none (c : Thread nD τ) none) Set.univ (k0_part10 (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14 (szs c a0 f0 0) (szs c a0 f0 1) (szs c a0 f0 2) (szs c a0 f0 3) (szs c a0 f0 4) hw4 v62 v87) Q := by
  rw [k0_part10_eq_skeleton]
  unfold k0_part10_skel
  iintro ⟨HO, U4, U5, U6, HS, HR, HZ, HQ⟩
  iapply (seq_wp c _ _ _ _ Q (drain_wp c (lvs c a0 f0) (dwOf c a0 f0 f1 f2) (k0_t10_loop (szs c a0 f0 0) (szs c a0 f0 1) (szs c a0 f0 2) (szs c a0 f0 3) (szs c a0 f0 4)) (k0_t10_ok (szs c a0 f0 0) (szs c a0 f0 1) (szs c a0 f0 2) (szs c a0 f0 3) (szs c a0 f0 4) hw4) (trips_words (szs c a0 f0 0) (szs c a0 f0 1) (szs c a0 f0 2) (szs c a0 f0 3) (szs c a0 f0 4)).2.2.1
    (fun t => k0_off48 (szs c a0 f0 0) (szs c a0 f0 1) (szs c a0 f0 2) (szs c a0 f0 3) (szs c a0 f0 4) t) (fun t => k0_off49 (szs c a0 f0 0) (szs c a0 f0 1) (szs c a0 f0 2) (szs c a0 f0 3) (szs c a0 f0 4) t) (fun t => k0_off48_inb (szs c a0 f0 0) (szs c a0 f0 1) (szs c a0 f0 2) (szs c a0 f0 3) (szs c a0 f0 4) hw4 t) (fun t => k0_off49_inb (szs c a0 f0 0) (szs c a0 f0 1) (szs c a0 f0 2) (szs c a0 f0 3) (szs c a0 f0 4) hw4 t) (fun t => (t10_words (szs c a0 f0 0) (szs c a0 f0 1) (szs c a0 f0 2) (szs c a0 f0 3) (szs c a0 f0 4) t).1)))
  isplitl [HO HS HR]
  · unfold drInv
    isplitl [HO]; · iexact HO
    isplitl [HS]
    · rw [show drSlot c (lvs c a0 f0) (dwOf c a0 f0 f1 f2) 0 = slotSt c (lvs c a0 f0) (dwOf c a0 f0 f1 f2) (28 * (nl (lvs c a0 f0) 5)) from
        funext fun s => by unfold drSlot; rw [if_neg (Nat.not_lt_zero _)]]
      iexact HS
    rw [Nat.add_zero]
    iexact HR
  iintro %_ HD
  unfold drInv
  icases HD with ⟨⟨%W, HO⟩, HD⟩
  ihave HD := (drain_end c (lvs c a0 f0) (dwOf c a0 f0 f1 f2)) $$ HD
  icases HD with ⟨HS, HRZ, HB⟩
  iapply (none_wp c _ _ (trips_words (szs c a0 f0 0) (szs c a0 f0 1) (szs c a0 f0 2) (szs c a0 f0 3) (szs c a0 f0 4)).2.2.2.1 _ _ Q)
  iapply (seq_wp c _ _ _ _ Q (zDrain_wp c (lvs c a0 f0) (dwOf c a0 f0 f1 f2) (zeros c) (k0_t12_loop (szs c a0 f0 0) (szs c a0 f0 1) (szs c a0 f0 2) (szs c a0 f0 3) (szs c a0 f0 4)) (k0_t12_ok (szs c a0 f0 0) (szs c a0 f0 1) (szs c a0 f0 2) (szs c a0 f0 3) (szs c a0 f0 4) hw4) (trips_words (szs c a0 f0 0) (szs c a0 f0 1) (szs c a0 f0 2) (szs c a0 f0 3) (szs c a0 f0 4)).2.2.2.2.1
    (fun _ => ![0, 0, 0]) (fun _ => inb_S5x3584x9728_S1x128x9728_0_0_0) W))
  isplitl [HO HZ]
  · isplitl [HO]; · iexact HO
    iexact HZ
  iintro %_ ⟨HO, HD, Z3⟩
  iapply (none_wp c _ _ (trips_words (szs c a0 f0 0) (szs c a0 f0 1) (szs c a0 f0 2) (szs c a0 f0 3) (szs c a0 f0 4)).2.2.2.2.2 _ _ Q)
  iapply (wait10_wp c (xC c (cp1 c f1)) f4 _ Q)
  isplitl [HO]; · iexact HO
  isplitl [U4]; · iexact U4
  iintro HO Z4 H10 H4
  iapply (wait11_wp c (xS c (cp1 c f1)) f5 _ Q)
  isplitl [HO]; · iexact HO
  isplitl [U5]; · iexact U5
  iintro HO Z5 H11 H5
  iapply (wait12_wp c (yC c (cp2 c f2)) f6 _ Q)
  isplitl [HO]; · iexact HO
  isplitl [U6]; · iexact U6
  iintro HO Z6 H12 H6
  iapply (le_wp_ret frame (wpE (defs₀ (F := F)) Variants.none (c : Thread nD τ) none) Set.univ _ Q)
  ispecialize HQ $$ HO
  ispecialize HQ $$ Z4
  ispecialize HQ $$ H10
  ispecialize HQ $$ H4
  ispecialize HQ $$ Z5
  ispecialize HQ $$ H11
  ispecialize HQ $$ H5
  ispecialize HQ $$ Z6
  ispecialize HQ $$ H12
  ispecialize HQ $$ H6
  ispecialize HQ $$ HS
  ispecialize HQ $$ HRZ
  ispecialize HQ $$ HB
  ispecialize HQ $$ HD
  ispecialize HQ $$ Z3
  iexact HQ

/-! ## The body -/

set_option maxHeartbeats 1000000 in
theorem body_wp (f8 : Buf (Elt F) (M8.view.loc (c : Thread nD τ))) (f9 : Buf (Elt F) (M9.view.loc (c : Thread nD τ))) (f16 : Buf (Elt F) (M16.view.loc (c : Thread nD τ))) (f17 : RingBuf (F := F) c) (f3 : DWBuf (F := F) c) (f4 : Buf (Elt F) (M4.view.loc (c : Thread nD τ))) (f5 : Buf (Elt F) (M5.view.loc (c : Thread nD τ))) (f6 : Buf (Elt F) (M6.view.loc (c : Thread nD τ))) (f7 : Buf (Elt F) (M7.view.loc (c : Thread nD τ)))
    (f18 : TabBuf (F := F) c) (Q : PUnit → sProp 𝕄) :
    iprop((∃ W : Waits sig Unit, owes (c : Thread nD τ) 0 W) ∗ hold c a0 f0 ∗ hold c M1 f1 ∗ hold c M2 f2 ∗ hold c M3 f3 ∗ hold c M4 f4 ∗ hold c M5 f5 ∗ hold c M6 f6 ∗ hold c M7 f7 ∗ hold c M8 f8 ∗ hold c M9 f9
      ∗ (∃ f, hold c M10 f) ∗ (∃ f, hold c M11 f) ∗ (∃ f, hold c M12 f) ∗ (∃ f, hold c M13 f) ∗ (∃ f, hold c M14 f) ∗ (∃ f, hold c M15 f) ∗ hold c M16 f16 ∗ hold c M17 f17 ∗ hold c M18 f18 ∗ zeroSem c (1 : DmaSem sig) ∗ zeroSem c (2 : DmaSem sig) ∗ zeroSem c (3 : DmaSem sig) ∗ zeroSem c (4 : DmaSem sig) ∗ zeroSem c (5 : DmaSem sig) ∗ zeroSem c (6 : DmaSem sig) ∗ zeroSem c (7 : DmaSem sig) ∗ bigSep Finset.univ (fun s : Fin 4 => semVal ((c : Thread nD τ), SemLoc.dma (rsem s)) 0)
      ∗ ((∃ W : Waits sig Unit, owes (c : Thread nD τ) 0 W) -∗ hold c a0 f0 -∗ hold c M1 f1 -∗ hold c M2 f2 -∗ hold c M3 (dwOf c a0 f0 f1 f2) -∗ hold c M4 (cp10 c (xC c (cp1 c f1))) -∗ hold c M5 (cp11 c (xS c (cp1 c f1))) -∗ hold c M6 (cp12 c (yC c (cp2 c f2))) -∗ hold c M7 (cp13 c (yS c (cp2 c f2)))
        -∗ (∃ f, hold c M8 f) -∗ (∃ f, hold c M9 f) -∗ (∃ f, hold c M10 f) -∗ (∃ f, hold c M11 f) -∗ (∃ f, hold c M12 f) -∗ (∃ f, hold c M13 f) -∗ (∃ f, hold c M14 f) -∗ (∃ f, hold c M15 f) -∗ (∃ f, hold c M16 f) -∗ (∃ f, hold c M17 f) -∗ (∃ f, hold c M18 f) -∗ zeroSem c (1 : DmaSem sig) -∗ zeroSem c (2 : DmaSem sig) -∗ zeroSem c (3 : DmaSem sig) -∗ zeroSem c (4 : DmaSem sig) -∗ zeroSem c (5 : DmaSem sig) -∗ zeroSem c (6 : DmaSem sig) -∗ zeroSem c (7 : DmaSem sig) -∗ bigSep Finset.univ (fun s : Fin 4 => semVal ((c : Thread nD τ), SemLoc.dma (rsem s)) 0) -∗ Q ⟨⟩))
    ⊢ wp frame (wpE (defs₀ (F := F)) Variants.none (c : Thread nD τ) none) Set.univ (cc0_mxfp8_weight_grad (F := F) a0 h0 M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) cc0_scratch11 cc0_scratch12 cc0_scratch13 cc0_scratch14) Q := by
  have hw4 : k0_chk4 (szs c a0 f0 0) (szs c a0 f0 1) (szs c a0 f0 2) (szs c a0 f0 3) (szs c a0 f0 4) := chk4 (szs c a0 f0 0) (szs c a0 f0 1) (szs c a0 f0 2) (szs c a0 f0 3) (szs c a0 f0 4)
  rw [cc0_mxfp8_weight_grad_eq_skeleton]
  unfold cc0_mxfp8_weight_grad_skel
  iintro ⟨HO, H0, H1, H2, H3, H4, H5, H6, H7, H8, H9, H10, H11, H12, H13, H14, H15, H16, H17, H18, Z1, Z2, Z3, Z4, Z5, Z6, Z7, HRZ, HQ⟩
  rw [part7_eq]
  rw [wp_bind]
  iapply (pre7_wp c a0 f0 f1 f2 f8 f9 f16 _ _)
  isplitl [H0]; · iexact H0
  isplitl [H1]; · iexact H1
  isplitl [H2]; · iexact H2
  isplitl [H8]; · iexact H8
  isplitl [H9]; · iexact H9
  isplitl [H16]; · iexact H16
  isplitl [Z1]; · iexact Z1
  isplitl [Z2]; · iexact Z2
  iintro H0 U1 U2 H16
  ihave H3 := (blocks_of c f3) $$ H3
  ihave HZ := (zStart c (lvs c a0 f0) (zeros c)) $$ [H3 H16]
  · isplitl [H3]; · iexact H3
    iexact H16
  icases HZ with ⟨HB, H16⟩
  iapply (fupd_wp frame (wpE (defs₀ (F := F)) Variants.none (c : Thread nD τ) none))
  imod (Transfers.batch_alloc' (Lvl := ℕ) (countersEmb (U := Pipeline.UD sig nD τ)) (c : Thread nD τ) () NZ
      (zDel c (lvs c a0 f0) (dwOf c a0 f0 f1 f2) (zeros c)) (sm := SemLoc.dma (3 : DmaSem sig)) (E := Set.univ)) $$ Z3 with HZ
  imodintro
  iapply (post7_wp c a0 f0 (dwOf c a0 f0 f1 f2) (zeros c) (fun x hx => dw_dead c a0 f0 f1 f2 x hx) _)
  isplitl [H0]; · iexact H0
  isplitl [H18 HB HZ]
  · unfold segs segSt
    isplitl [H18]
    · iexists f18
      isplitl [H18]; · iexact H18
      ipureintro
      intro r hr hn
      exact absurd hn (by simp [nl_zero])
    isplitl [HB]
    · iexact HB
    unfold zBat
    iexact HZ
  iintro H0 HS
  rw [wp_bind]
  rw [part8_eq]
  iapply (part8_wp c a0 f0 (dwOf c a0 f0 f1 f2) (zeros c) (fun x hx => dw_dead c a0 f0 f1 f2 x hx) hw4 _)
  isplitl [H0]; · iexact H0
  isplitl [HS]; · iexact HS
  iintro H0 HS
  unfold segs segSt
  icases HS with ⟨⟨%ft, H18, %hft⟩, HB, HZ⟩
  ihave HB := (zEnd c (lvs c a0 f0) (zeros c)) $$ HB
  ihave H17 := (slots_of c f17) $$ H17
  rw [wp_bind]
  iapply (part9_wp c a0 h0 f0 f1 f2 hw4 _ f8 f9 f4 f5 f6 f7 ft hft _)
  isplitl [HO]; · iexact HO
  isplitl [U1]; · iexact U1
  isplitl [U2]; · iexact U2
  isplitl [H10]; · iexact H10
  isplitl [H11]; · iexact H11
  isplitl [H12]; · iexact H12
  isplitl [H13]; · iexact H13
  isplitl [H14]; · iexact H14
  isplitl [H15]; · iexact H15
  isplitl [H4]; · iexact H4
  isplitl [H5]; · iexact H5
  isplitl [H6]; · iexact H6
  isplitl [H7]; · iexact H7
  isplitl [Z4]; · iexact Z4
  isplitl [Z5]; · iexact Z5
  isplitl [Z6]; · iexact Z6
  isplitl [Z7]; · iexact Z7
  isplitl [H18]; · iexact H18
  isplitl [H17]; · iexact H17
  isplitl [HRZ]; · iexact HRZ
  isplitl [HB]; · iexact HB
  iintro %v HO H1 H2 Z1 Z2 H8 H9 U4 U5 U6 U7 H18 H14 H15 HS HR
  rw [wp_bind]
  iapply (part10_wp c a0 h0 f0 f1 f2 hw4 _ v f4 f5 f6 _)
  isplitl [HO]; · iexact HO
  isplitl [U4]; · iexact U4
  isplitl [U5]; · iexact U5
  isplitl [U6]; · iexact U6
  isplitl [HS]; · iexact HS
  isplitl [HR]; · iexact HR
  isplitl [HZ]; · iexact HZ
  iintro HO Z4 H10 H4 Z5 H11 H5 Z6 H12 H6 HS HRZ HB HD Z3
  iapply (wait13_wp c (yS c (cp2 c f2)) f7 _ Q)
  isplitl [HO]; · iexact HO
  isplitl [U7]; · iexact U7
  iintro HO Z7 H13 H7
  iapply (le_wp_ret frame (wpE (defs₀ (F := F)) Variants.none (c : Thread nD τ) none) Set.univ _ Q)
  ihave HD := (zCollect c (lvs c a0 f0) (dwOf c a0 f0 f1 f2) (zeros c)) $$ [HD H16]
  · isplitl [HD]; · iexact HD
    iexact H16
  icases HD with ⟨HD, H16⟩
  ihave H3 := (show iprop(bigSep (Finset.univ.filter fun x : Fin 5 × Fin 28 => lvs c a0 f0 x.1 = true) (blkAt c (dwOf c a0 f0 f1 f2)) ∗ bigSep (Finset.univ.filter fun x : Fin 5 × Fin 28 => lvs c a0 f0 x.1 = false) (blkAt c (dwOf c a0 f0 f1 f2))) ⊢ hold c M3 (dwOf c a0 f0 f1 f2) from by
    refine BIBase.Entails.trans ?_ (blocks_join c (dwOf c a0 f0 f1 f2))
    rw [bigSep_filter_split Finset.univ (fun x : Fin 5 × Fin 28 => lvs c a0 f0 x.1 = true) (Φ := blkAt c (dwOf c a0 f0 f1 f2))]
    rw [show (Finset.univ.filter fun x : Fin 5 × Fin 28 => ¬ lvs c a0 f0 x.1 = true) = (Finset.univ.filter fun x : Fin 5 × Fin 28 => lvs c a0 f0 x.1 = false) from
      Finset.filter_congr fun x _ => by simp]
    exact Entails.of_eq rfl) $$ [HB HD]
  · isplitl [HB]; · iexact HB
    iexact HD
  ihave H17 := (slots_join c f17) $$ HS
  ispecialize HQ $$ HO
  ispecialize HQ $$ H0
  ispecialize HQ $$ H1
  ispecialize HQ $$ H2
  ispecialize HQ $$ H3
  ispecialize HQ $$ H4
  ispecialize HQ $$ H5
  ispecialize HQ $$ H6
  ispecialize HQ $$ H7
  ispecialize HQ $$ [H8]; · iexists _; iexact H8
  ispecialize HQ $$ [H9]; · iexists _; iexact H9
  ispecialize HQ $$ [H10]; · iexists _; iexact H10
  ispecialize HQ $$ [H11]; · iexists _; iexact H11
  ispecialize HQ $$ [H12]; · iexists _; iexact H12
  ispecialize HQ $$ [H13]; · iexists _; iexact H13
  ispecialize HQ $$ [H14]; · iexists _; iexact H14
  ispecialize HQ $$ [H15]; · iexists _; iexact H15
  ispecialize HQ $$ [H16]; · iexists _; iexact H16
  ispecialize HQ $$ H17
  ispecialize HQ $$ [H18]; · iexists _; iexact H18
  ispecialize HQ $$ Z1
  ispecialize HQ $$ Z2
  ispecialize HQ $$ Z3
  ispecialize HQ $$ Z4
  ispecialize HQ $$ Z5
  ispecialize HQ $$ Z6
  ispecialize HQ $$ Z7
  ispecialize HQ $$ HRZ
  iexact HQ

end

end Cert.KernelIdeal.Hand

end
-- ==== Proof.Run.lean ====
/- The launch: the body's triple put under the pipeline of one grid point, and what a run of the whole program ends in.
   The three arguments end unchanged, the five results hold the values the body's triple names, and every semaphore reads zero. -/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ
section

variable (m : (ℓ : Loc nD τ sig) → Buf (Elt F) ℓ) (ρ : Dev nD → PrngReg)

/-- Core `c`'s buffers as launched. -/
abbrev VL (c : Dev nD) (b : Ref sig .tc) : Buf (Elt F) ((c : Thread nD τ).loc b) := m ((c : Thread nD τ).loc b)

theorem hmainL (𝒱₀ : Variants) : Pipeline.HMain (Ix := Unit) (Name := ℕ) (U := Pipeline.UD sig nD τ) (Lvl := ℕ) cfgs 0 defs₀ 𝒱₀ m (main (F := F)) (VL m) :=
  Pipeline.hmain_region cfgs 0 defs₀ 𝒱₀ m main fun c => (main_chain c).trans rfl

/-- The body's own semaphores: one to eleven. -/
abbrev osem0 : Fin 11 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11] : Fin 11 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5, 6, 7, 8, 9, 10] (by decide) (by decide)]; rfl

/-- The semaphores of the ring's four buffers, one by one. -/
theorem ringSems_eq (c : Dev nD) :
    (bigSep Finset.univ (fun s : Fin 4 => semVal ((c : Thread nD τ), SemLoc.dma (rsem s)) 0) : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [BI.bigSep_eq_bigSepL_of_eq [0, 1, 2, 3] (by decide) (by decide)]; rfl

/-- The arguments the body copies in from HBM. -/
def H0 : Finset (Ref sig .tc) := {main_arg0, main_arg1}
theorem H0_sub : H0 ⊆ Pipeline.restRefs sig spec0 := by decide
theorem hbmPts0_eq (c : Dev nD) :
    (bigSep H0 (fun b => ((c : Thread nD τ).loc b) ↦{fullShare} VL m c b) : sProp 𝕄)
      = iprop(hold c M1 (VL m c main_arg0) ∗ hold c M2 (VL m c main_arg1)) := by
  rw [BI.bigSep_eq_bigSepL_of_eq [main_arg0, main_arg1] (by decide) (by decide)]; rfl

/-- The results. -/
def R0 : Finset (Ref sig .tc) := {main_v0_0, main_v0_1, main_v0_2, main_v0_3, main_v0_4}
theorem R0_sub : R0 ⊆ Pipeline.restRefs sig spec0 \ H0 := by decide
theorem routedPts0_eq (c : Dev nD) (G : (b : Ref sig .tc) → Buf (Elt F) ((c : Thread nD τ).loc b)) :
    (Pipeline.routed R0 c G : sProp 𝕄)
      = iprop(hold c M3 (G main_v0_0) ∗ hold c M4 (G main_v0_1) ∗ hold c M5 (G main_v0_2) ∗ hold c M6 (G main_v0_3) ∗ hold c M7 (G main_v0_4)) := by
  unfold Pipeline.routed; rw [BI.bigSep_eq_bigSepL_of_eq [main_v0_0, main_v0_1, main_v0_2, main_v0_3, main_v0_4] (by decide) (by decide)]; rfl

/-! ## What the results hold -/

/-- The group sizes, in the staging buffer's terms. -/
abbrev A0 : Memref sig .tc .smem S5 .i32 := Memref.whole cc0_stg0_0
def gsz (c : Dev nD) : Buf (Elt F) (A0.view.loc (c : Thread nD τ)) := fun i => VL m c main_arg2 i

/-- The gradient, the codes and the scales a run ends with. -/
def res3 (c : Dev nD) : DWBuf (F := F) c := dwOf c A0 (gsz m c) (VL m c main_arg0) (VL m c main_arg1)
def res4 (c : Dev nD) : Buf (Elt F) (M4.view.loc (c : Thread nD τ)) := cp10 c (xC c (cp1 c (VL m c main_arg0)))
def res5 (c : Dev nD) : Buf (Elt F) (M5.view.loc (c : Thread nD τ)) := cp11 c (xS c (cp1 c (VL m c main_arg0)))
def res6 (c : Dev nD) : Buf (Elt F) (M6.view.loc (c : Thread nD τ)) := cp12 c (yC c (cp2 c (VL m c main_arg1)))
def res7 (c : Dev nD) : Buf (Elt F) (M7.view.loc (c : Thread nD τ)) := cp13 c (yS c (cp2 c (VL m c main_arg1)))

/-- Every buffer's contents at the end, as far as the results go. -/
def GL (c : Dev nD) (b : Ref sig .tc) : Buf (Elt F) ((c : Thread nD τ).loc b) :=
  Function.update (Function.update (Function.update (Function.update (Function.update (VL m c)
    main_v0_0 (res3 m c)) main_v0_1 (res4 m c)) main_v0_2 (res5 m c)) main_v0_3 (res6 m c)) main_v0_4 (res7 m c) b

theorem GL0 (c : Dev nD) : GL m c main_v0_0 = res3 m c := by
  unfold GL
  rw [Function.update_of_ne (show main_v0_0 ≠ main_v0_4 by decide), Function.update_of_ne (show main_v0_0 ≠ main_v0_3 by decide),
    Function.update_of_ne (show main_v0_0 ≠ main_v0_2 by decide), Function.update_of_ne (show main_v0_0 ≠ main_v0_1 by decide), Function.update_self]
theorem GL1 (c : Dev nD) : GL m c main_v0_1 = res4 m c := by
  unfold GL
  rw [Function.update_of_ne (show main_v0_1 ≠ main_v0_4 by decide), Function.update_of_ne (show main_v0_1 ≠ main_v0_3 by decide),
    Function.update_of_ne (show main_v0_1 ≠ main_v0_2 by decide), Function.update_self]
theorem GL2 (c : Dev nD) : GL m c main_v0_2 = res5 m c := by
  unfold GL
  rw [Function.update_of_ne (show main_v0_2 ≠ main_v0_4 by decide), Function.update_of_ne (show main_v0_2 ≠ main_v0_3 by decide), Function.update_self]
theorem GL3 (c : Dev nD) : GL m c main_v0_3 = res6 m c := by
  unfold GL
  rw [Function.update_of_ne (show main_v0_3 ≠ main_v0_4 by decide), Function.update_self]
theorem GL4 (c : Dev nD) : GL m c main_v0_4 = res7 m c := by
  unfold GL
  rw [Function.update_self]

/-! ## The body as the pipeline calls it -/

/-- The sizes' block is the whole argument. -/
def blk0 (c : Dev nD) (t : Fin cfg0.N) : ((cfg0.win 0).xblock (cfg0.grid.coords t)).Idx → Elt F (cfg0.win 0).elt :=
  ((cfg0.win 0).blk t).view.read (Elt F) (VL m c (Pipeline.arrRef spec0 0))

theorem blk0_eq (c : Dev nD) (t : Fin cfg0.N) : blk0 m c t = gsz m c := by
  funext i
  refine congrArg (VL m c main_arg2) (funext fun a => Fin.ext ?_)
  show 0 * _ + 1 * (i a).val = (i a).val
  omega

/-- What is held beside the window: before the body the results as launched, after it the results at their values. -/
def PhiL (c : Dev nD) : ℕ → sProp 𝕄
  | 0 => Pipeline.ΦDRG osem0 spec0 H0 R0 (VL m) (VL m) c
  | _ + 1 => Pipeline.ΦDRG osem0 spec0 H0 R0 (VL m) (GL m) c

/-- The proof data of the pipeline: the sizes' buffer is left as fetched; before the body the results are as launched, after it they
    hold the named values. -/
def dats (_ : Fin 1) (c : Dev nD) : Dat τ (Elt F) Unit ℕ (Pipeline.UD sig nD τ) ℕ cfg0 c where
  A w := VL m c (Pipeline.arrRef spec0 w)
  after w t := match w with
    | ⟨0, _⟩ => blk0 m c t
  Φ t := PhiL m c t.val
  q _ := fullShare
  owed _ := 0

theorem A_eq (c : Dev nD) (w : Fin cfg0.W) : (dats m 0 c).A w = VL m c (Pipeline.arrRef spec0 w) := by
  dsimp only [dats]
theorem after0_0 (c : Dev nD) (t : Fin cfg0.N) : (dats m 0 c).after 0 t = blk0 m c t := by dsimp only [dats]

theorem before0_0 (c : Dev nD) (t : Fin cfg0.N) (d) : (dats m 0 c).before 0 t d = blk0 m c t :=
  ((dats m 0 c).before_in_eq_fetched 0 rfl (fun _ => rfl) (fun _ _ _ => rfl) (fun t => by rw [after0_0]; unfold Dat.blockOf blk0; rw [A_eq]; try rfl) t d).trans
    (by unfold Dat.fetched Dat.blockOf blk0; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem Phi_pre (c : Dev nD) (G : (c : Dev nD) → (b : Ref sig .tc) → Buf (Elt F) ((c : Thread nD τ).loc b)) :
    (Pipeline.ΦDRG osem0 spec0 H0 R0 (VL m) G c : sProp 𝕄)
      = iprop(((∃ f, hold c M8 f) ∗ (∃ f, hold c M9 f) ∗ (∃ f, hold c M10 f) ∗ (∃ f, hold c M11 f) ∗ (∃ f, hold c M12 f) ∗ (∃ f, hold c M13 f) ∗ (∃ f, hold c M14 f) ∗ (∃ f, hold c M15 f) ∗ (∃ f, hold c M16 f) ∗ (∃ f, hold c M17 f) ∗ (∃ f, hold c M18 f)) ∗ (∃ r, prngReg c r) ∗ (semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)
          ∗ (hold c M1 (VL m c main_arg0) ∗ hold c M2 (VL m c main_arg1))
          ∗ (hold c M3 (G c main_v0_0) ∗ hold c M4 (G c main_v0_1) ∗ hold c M5 (G c main_v0_2) ∗ hold c M6 (G c main_v0_3) ∗ hold c M7 (G c main_v0_4))) := by
  rw [Pipeline.ΦDRG_eq, scopedRest0_eq, ownSems00_eq, hbmPts0_eq, routedPts0_eq]

theorem stg_owns (c : Dev nD) (t : Fin cfg0.N) : (owns (c : Thread nD τ) (st0_0 t) fullShare (blk0 m c t) : sProp 𝕄) = hold c A0 (gsz m c) := by
  rw [blk0_eq]
  exact owns_whole (c : Thread nD τ) cc0_stg0_0 fullShare (gsz m c)

theorem sound_body (c : Dev nD) (t : Fin cfg0.N) :
    bodyPre m c t ⊢ wp frame (wpE (defs₀ (F := F)) Variants.none c none) Set.univ (bodyAt0 t) (fun _ => bodyPost m c t) := by
  have hN := N_0
  have e0 : (dats m 0 c).Φ t.castSucc = Pipeline.ΦDRG osem0 spec0 H0 R0 (VL m) (VL m) c := by
    rw [fin_N0 t]; exact show PhiL m c 0 = _ from rfl
  have e1 : (dats m 0 c).Φ t.succ = Pipeline.ΦDRG osem0 spec0 H0 R0 (VL m) (GL m) c := by
    rw [fin_N0 t]; exact show PhiL m c (0 + 1) = _ from rfl
  unfold bodyPre bodyPost
  rw [e0, e1, Phi_pre, Phi_pre, after0_0, stg_owns, GL0, GL1, GL2, GL3, GL4]
  have eo : ∀ d, owns (c : Thread nD τ) (st0_0 t) fullShare ((dats m 0 c).before 0 t d) ⊢ hold c A0 (gsz m c) := fun d => by
    rw [before0_0, stg_owns]
  unfold Dat.owesAt Pipeline.owesWithin
  rw [show (dats m 0 c).owed t.castSucc = 0 from rfl, show (dats m 0 c).owed t.succ = 0 from rfl]
  iintro ⟨⟨⟨⟨%f8, H8⟩, ⟨%f9, H9⟩, H10, H11, H12, H13, H14, H15, ⟨%f16, H16⟩, ⟨%f17, H17⟩, ⟨%f18, H18⟩⟩, Hg, ⟨Q1, Q2, Q3, Q4, Q5, Q6, Q7, Q8, Q9, Q10, Q11⟩, ⟨H1, H2⟩, ⟨H3, H4, H5, H6, H7⟩⟩, ⟨%W, -, HW⟩, ⟨%d0, H0⟩⟩
  ihave H0 := (eo d0) $$ H0
  ihave HRZ := (Entails.of_eq (ringSems_eq (F := F) c).symm) $$ [Q8 Q9 Q10 Q11]
  · isplitl [Q8]; · iexact Q8
    isplitl [Q9]; · iexact Q9
    isplitl [Q10]; · iexact Q10
    iexact Q11
  iapply (body_wp c A0 (hstage0_0 0) (gsz m c) (VL m c main_arg0) (VL m c main_arg1) f8 f9 f16 f17 (VL m c main_v0_0) (VL m c main_v0_1) (VL m c main_v0_2) (VL m c main_v0_3) (VL m c main_v0_4) f18 _)
  isplitl [HW]; · iexists W; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [HRZ]; · iexact HRZ
  iintro HW H0 H1 H2 H3 H4 H5 H6 H7 H8 H9 H10 H11 H12 H13 H14 H15 H16 H17 H18 Q1 Q2 Q3 Q4 Q5 Q6 Q7 HRZ
  ihave HRZ := (Entails.of_eq (ringSems_eq (F := F) c)) $$ HRZ
  icases HRZ with ⟨Q8, Q9, Q10, Q11⟩
  isplitl [H8 H9 H10 H11 H12 H13 H14 H15 H16 H17 H18 Hg Q1 Q2 Q3 Q4 Q5 Q6 Q7 Q8 Q9 Q10 Q11 H1 H2 H3 H4 H5 H6 H7]
  · isplitl [H8 H9 H10 H11 H12 H13 H14 H15 H16 H17 H18]
    · isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [Hg]; · iexact Hg
    isplitl [Q1 Q2 Q3 Q4 Q5 Q6 Q7 Q8 Q9 Q10 Q11]
    · isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      iexact Q11
    isplitl [H1 H2]
    · isplitl [H1]; · iexact H1
      iexact H2
    isplitl [H3]; · iexact H3
    isplitl [H4]; · iexact H4
    isplitl [H5]; · iexact H5
    isplitl [H6]; · iexact H6
    iexact H7
  isplitl [HW]
  · icases HW with ⟨%W', HW⟩
    iexists W'; isplitr; · ipureintro; exact fun _ _ => Or.inl trivial
    iexact HW
  iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePostRG cfgs (dats m) 0 R0 (VL m) (GL m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := VL m) (hmain := hmainL m Variants.none) (hA := A_eq m) (G := GL m)
    (hin := fun _ => .rfl) (hout := fun _ => .rfl) (hQ' := fun _ h => h)

/-- The run, stated on the buffers: the arguments unchanged, the results at their values, every semaphore at zero. -/
theorem run_values : θ_run defs (onTc (τ := τ) (main (F := F))) ⟨m, fun _ => 0, ρ⟩ (fun r => (∀ c : Dev nD,
      (r.2.mem ((c.tc : Thread nD τ).loc main_v0_0) = res3 m c
      ∧ r.2.mem ((c.tc : Thread nD τ).loc main_v0_1) = res4 m c
      ∧ r.2.mem ((c.tc : Thread nD τ).loc main_v0_2) = res5 m c
      ∧ r.2.mem ((c.tc : Thread nD τ).loc main_v0_3) = res6 m c
      ∧ r.2.mem ((c.tc : Thread nD τ).loc main_v0_4) = res7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨⟨(h.1.written c (b := main_v0_0) (by decide)).trans (GL0 m c), (h.1.written c (b := main_v0_1) (by decide)).trans (GL1 m c),
        (h.1.written c (b := main_v0_2) (by decide)).trans (GL2 m c), (h.1.written c (b := main_v0_3) (by decide)).trans (GL3 m c),
        (h.1.written c (b := main_v0_4) (by decide)).trans (GL4 m c)⟩,
      (h.1.toR c).2 main_arg0 (Finset.mem_sdiff.mpr ⟨Pipeline.mem_restRefs_of main_arg0 (by decide) (by decide), by decide⟩),
      (h.1.toR c).2 main_arg1 (Finset.mem_sdiff.mpr ⟨Pipeline.mem_restRefs_of main_arg1 (by decide) (by decide), by decide⟩),
      ((h.1.toR c).1 0).trans (((dats m 0 c).arrAt_in 0 rfl _).trans (A_eq m c 0))⟩, h.2⟩) (run_main m ρ)

/-- The frame: every run ends with the arguments unchanged and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).2, h.2⟩) (run_values m ρ)

end

end Cert.KernelIdeal.Hand

end
-- ==== Proof.Transport.lean ====
/- The program and its idealization are one text: each one's parts equal the other's, so what is proved of the
   idealization at any scalars holds of the program. -/
module

public import proofs.«01_k».proof.Proof.Run
public import proofs.«01_k».proof.Proof.Gen.Kernel

@[expose] public section

set_option maxRecDepth 100000

noncomputable section

namespace Cert.KernelIdeal.Hand

open Idealize.ShloMosaic Idealize.ShloMosaic.TcCoe
open Idealize.SL Idealize.SL.Sem

variable {F : FTy → Type} [FloatOps F]

set_option maxHeartbeats 4000000 in
theorem defs0Eq (a : Cert.Kernel.Facts) (b : Cert.KernelIdeal.Facts) : @Cert.Kernel.defs₀ F _ a = @Cert.KernelIdeal.defs₀ F _ b := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l x
  fin_cases l
  obtain ⟨t, s⟩ := x
  rfl

set_option maxHeartbeats 4000000 in
theorem defsEq (a : Cert.Kernel.Facts) (b : Cert.KernelIdeal.Facts) : @Cert.Kernel.defs F _ a = @Cert.KernelIdeal.defs F _ b := by
  unfold Cert.Kernel.defs Cert.KernelIdeal.defs
  rw [defs0Eq a b]
  rfl

set_option maxHeartbeats 4000000 in
/-- The frame of the program itself. -/
theorem frame_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defsEq Cert.Kernel.Gen.facts Cert.KernelIdeal.Gen.facts]
  exact frame_all (F := F) m ρ

end Cert.KernelIdeal.Hand

end
-- ==== Proof.Scale.lean ====
/- The scale of one block, as the kernel finds it and as the reference states it. The kernel searches for the
   exponent field of the ratio bit by bit and assembles the scale and its reciprocal from exponent fields; the
   reference takes the least power of two above the ratio. Both are powers of two of the same exponent. -/
module

public import Idealize.ShloMosaic.PureOps.Ideal.Laws

@[expose] public section

noncomputable section

namespace Cert.KernelIdeal.Hand

open Idealize.ShloMosaic

/-! ## Exponent fields -/

/-- The float whose exponent field is `w`, with sign and fraction zero. -/
def field (w : BitVec 32) : EReal := FloatOps.ofBits (F := Ideal) .f32 (IntOp.shli .vector w 23#32)

/-- A power of two as an extended real. -/
def pw (z : ℤ) : EReal := (((2 : ℝ) ^ z : ℝ) : EReal)

theorem field_bits : ∀ n : Fin 256,
    ((BitVec.ofNat 32 n.val <<< 23#32).extractLsb' 31 1 == 1#1) = false
    ∧ ((BitVec.ofNat 32 n.val <<< 23#32).extractLsb' 23 8).toNat = n.val
    ∧ ((BitVec.ofNat 32 n.val <<< 23#32).extractLsb' 0 23).toNat = 0 := by decide +kernel

/-- A pattern with a plain sign, no fraction and an exponent field within the normal range. -/
theorem ieee_pow (b : BitVec 32) (n : ℕ) (a : (b.extractLsb' (8 + 23) 1 == 1#1) = false)
    (e : (b.extractLsb' 23 8).toNat = n) (f : (b.extractLsb' 0 23).toNat = 0) (h0 : n ≠ 0) (h1 : n ≠ 2 ^ 8 - 1) :
    Ideal.ieee 8 23 b = pw ((n : ℤ) - 127) := by
  unfold Ideal.ieee
  dsimp only
  rw [e, f, if_neg h1, if_neg h0, a, if_neg Bool.false_ne_true]
  unfold pw
  congr 1
  have h : ((n : ℤ) - 127) = ((n : ℤ) - ((2 : ℤ) ^ (8 - 1) - 1) - (23 : ℕ)) + 23 := by norm_num
  rw [h, zpow_add₀ (by norm_num : (2 : ℝ) ≠ 0)]
  norm_num
  ring

/-- A field from 1 to 254 is a power of two. -/
theorem field_pow (n : ℕ) (h0 : 1 ≤ n) (h1 : n ≤ 254) : field (BitVec.ofNat 32 n) = pw ((n : ℤ) - 127) := by
  obtain ⟨a, b, c⟩ := field_bits ⟨n, by omega⟩
  have hs : IntOp.shli .vector (BitVec.ofNat 32 n) 23#32 = BitVec.ofNat 32 n <<< 23#32 := if_pos (by decide)
  unfold field
  rw [hs]
  exact ieee_pow _ n a b c (by omega) (by omega)

/-- The zero field is zero. -/
theorem field_zero : field 0#32 = 0 := by
  have hs : IntOp.shli .vector (0#32) 23#32 = 0#32 := by decide
  show Ideal.ieee 8 23 (IntOp.shli .vector (0#32) 23#32) = _
  rw [hs]
  exact Ideal.ofBits_zero_f32

/-- The field of ones is above everything. -/
theorem field_top : field 255#32 = ⊤ := by
  have hs : IntOp.shli .vector (255#32) 23#32 = 0x7F800000#32 := by decide
  show Ideal.ieee 8 23 (IntOp.shli .vector (255#32) 23#32) = _
  rw [hs]
  simp [Ideal.ieee]

theorem pw_le {a b : ℤ} : pw a ≤ pw b ↔ a ≤ b := by
  unfold pw
  rw [EReal.coe_le_coe_iff, zpow_le_zpow_iff_right₀ (by norm_num)]

theorem pw_pos (a : ℤ) : (0 : EReal) < pw a := by
  unfold pw
  exact_mod_cast zpow_pos (by norm_num : (0 : ℝ) < 2) a

/-- The fields grow with the number. -/
theorem field_mono {a b : ℕ} (h : a ≤ b) (hb : b ≤ 255) : field (BitVec.ofNat 32 a) ≤ field (BitVec.ofNat 32 b) := by
  rcases Nat.eq_zero_or_pos a with rfl | ha
  · rcases Nat.eq_zero_or_pos b with rfl | hb0
    · exact le_rfl
    · show field 0#32 ≤ _
      rw [field_zero]
      rcases Nat.lt_or_ge b 255 with hb' | hb'
      · rw [field_pow b hb0 (by omega)]; exact (pw_pos _).le
      · rw [show b = 255 by omega]; show _ ≤ field 255#32; rw [field_top]; exact le_top
  · rcases Nat.lt_or_ge b 255 with hb' | hb'
    · rw [field_pow a ha (by omega), field_pow b (by omega) (by omega), pw_le]; omega
    · rw [show b = 255 by omega]; show _ ≤ field 255#32; rw [field_top]; exact le_top

/-! ## The search -/

/-- One step: the candidate is kept when its field does not exceed the ratio. -/
def step (r : EReal) (bit b : BitVec 32) : BitVec 32 :=
  Scalar.select (Ideal.cmp .oge r (field (b + bit))) (b + bit) b

/-- The first four steps. -/
def hiSearch (r : EReal) : BitVec 32 := step r 16#32 (step r 32#32 (step r 64#32 (step r 128#32 0#32)))

/-- All eight steps. -/
def search (r : EReal) : BitVec 32 := step r 1#32 (step r 2#32 (step r 4#32 (step r 8#32 (hiSearch r))))

/-- `b` is at most the field sought, and the field sought is below `b + w`. -/
def Within (r : EReal) (b w : ℕ) : Prop :=
  field (BitVec.ofNat 32 b) ≤ r ∧ (∀ n, b + w ≤ n → n ≤ 255 → ¬ field (BitVec.ofNat 32 n) ≤ r) ∧ b + w ≤ 256

theorem step_within {r : EReal} {b h : ℕ} (hh : 0 < h) (H : Within r b (2 * h)) :
    ∃ b', step r (BitVec.ofNat 32 h) (BitVec.ofNat 32 b) = BitVec.ofNat 32 b' ∧ Within r b' h := by
  obtain ⟨h1, h2, h3⟩ := H
  have e : BitVec.ofNat 32 b + BitVec.ofNat 32 h = BitVec.ofNat 32 (b + h) := (BitVec.ofNat_add ..).symm
  unfold step
  rw [e]
  by_cases hp : field (BitVec.ofNat 32 (b + h)) ≤ r
  · refine ⟨b + h, ?_, hp, fun n hn hn' => h2 n (by omega) hn', by omega⟩
    simp [Scalar.select, Ideal.cmp, hp]
  · refine ⟨b, ?_, h1, fun n hn hn' hf => hp ((field_mono hn hn').trans hf), by omega⟩
    simp [Scalar.select, Ideal.cmp, hp]

/-- The search ends on the greatest field that does not exceed the ratio. -/
theorem search_within {r : EReal} (hr : 0 ≤ r) : ∃ b, search r = BitVec.ofNat 32 b ∧ Within r b 1 := by
  have h0 : Within r 0 (2 * 128) := ⟨by show field 0#32 ≤ r; rw [field_zero]; exact hr, fun n a b => by omega, by omega⟩
  obtain ⟨b1, e1, w1⟩ := step_within (h := 128) (by omega) h0
  obtain ⟨b2, e2, w2⟩ := step_within (h := 64) (by omega) w1
  obtain ⟨b3, e3, w3⟩ := step_within (h := 32) (by omega) w2
  obtain ⟨b4, e4, w4⟩ := step_within (h := 16) (by omega) w3
  obtain ⟨b5, e5, w5⟩ := step_within (h := 8) (by omega) w4
  obtain ⟨b6, e6, w6⟩ := step_within (h := 4) (by omega) w5
  obtain ⟨b7, e7, w7⟩ := step_within (h := 2) (by omega) w6
  obtain ⟨b8, e8, w8⟩ := step_within (h := 1) (by omega) w7
  refine ⟨b8, ?_, w8⟩
  unfold search hiSearch
  rw [show step r 128#32 0#32 = _ from e1, show step r 64#32 _ = _ from e2, show step r 32#32 _ = _ from e3,
    show step r 16#32 _ = _ from e4, show step r 8#32 _ = _ from e5, show step r 4#32 _ = _ from e6,
    show step r 2#32 _ = _ from e7, show step r 1#32 _ = _ from e8]

/-- The exponent kept: zero for a ratio below the normal range (and for one past it), one more than the
    ratio's own otherwise. -/
def kexp (b : BitVec 32) : BitVec 32 :=
  Scalar.select (IntOp.ori (IntOp.cmpi .eq b 0#32) (IntOp.cmpi .eq b 255#32)) 0#32 (b - 126#32)

/-- The kernel's scale and reciprocal scale. -/
def kscale (r : EReal) : EReal := field (127#32 + kexp (search r))
def kinv (r : EReal) : EReal := field (127#32 - kexp (search r))

theorem kexp_words : ∀ n : Fin 253, (127#32 + kexp (BitVec.ofNat 32 n.val) = BitVec.ofNat 32 (if n.val = 0 then 127 else n.val + 1))
    ∧ (127#32 - kexp (BitVec.ofNat 32 n.val) = BitVec.ofNat 32 (if n.val = 0 then 127 else 253 - n.val)) := by decide +kernel

/-- Either the ratio is below the normal range and both are one, or the scale is the power of two next above it. -/
theorem kscale_cases {r : EReal} (h0 : 0 ≤ r) (h1 : r < pw 126) :
    (r < pw (-126) ∧ kscale r = pw 0 ∧ kinv r = pw 0)
    ∨ ∃ z : ℤ, -125 ≤ z ∧ z ≤ 126 ∧ pw (z - 1) ≤ r ∧ r < pw z ∧ kscale r = pw z ∧ kinv r = pw (-z) := by
  obtain ⟨b, e, w1, w2, w3⟩ := search_within h0
  have hb : b < 253 := by
    by_contra hc
    have : field (BitVec.ofNat 32 253) ≤ r := (field_mono (by omega) (by omega)).trans w1
    rw [field_pow 253 (by omega) (by omega)] at this
    exact absurd (lt_of_le_of_lt this h1) (by norm_num)
  obtain ⟨k1, k2⟩ := kexp_words ⟨b, hb⟩
  dsimp only at k1 k2
  have hn := w2 (b + 1) le_rfl (by omega)
  rw [field_pow (b + 1) (by omega) (by omega), not_le] at hn
  unfold kscale kinv
  rw [e, k1, k2]
  by_cases hz : b = 0
  · left
    subst hz
    refine ⟨by simpa using hn, ?_, ?_⟩ <;> rw [if_pos rfl, field_pow 127 (by omega) (by omega)] <;> norm_num
  · right
    rw [if_neg hz, if_neg hz, field_pow _ (by omega) (by omega), field_pow _ (by omega) (by omega)]
    rw [field_pow b (by omega) (by omega)] at w1
    refine ⟨(b : ℤ) - 126, by omega, by omega, ?_, ?_, ?_, ?_⟩
    · convert w1 using 2; ring
    · convert hn using 2; push_cast; ring
    · congr 1; push_cast; ring
    · congr 1; push_cast [show b ≤ 253 by omega]; ring

/-! ## The reference's scale -/

/-- Candidate `k` of the reference. -/
def cand (k : ℕ) : EReal :=
  FloatOps.exp2 (F := Ideal) (φ := .f32) (FloatOps.subf (F := Ideal) (φ := .f32)
    (FloatOps.sitofp (F := Ideal) .f32 (BitVec.ofNat 32 k)) (FloatOps.ofBits (F := Ideal) .f32 0x42FA0000#32))

theorem lit_125 : Ideal.ofBits .f32 0x42FA0000#32 = ((125 : ℝ) : EReal) := by
  simp [Ideal.ofBits, Ideal.ieee]
  rw [← EReal.coe_mul]
  norm_num

theorem ofNat_toInt : ∀ k : Fin 253, (BitVec.ofNat 32 k.val).toInt = (k.val : ℤ) := by decide +kernel

theorem cand_eq (k : ℕ) (h : k < 253) : cand k = pw ((k : ℤ) - 125) := by
  have e := ofNat_toInt ⟨k, h⟩
  dsimp only at e
  show Ideal.exp2 ((((BitVec.ofNat 32 k).toInt : ℝ) : EReal) - Ideal.ofBits .f32 0x42FA0000#32) = _
  rw [lit_125, e, ← EReal.coe_sub, Ideal.exp2_coe]
  unfold pw
  congr 1
  show (2 : ℝ) ^ ((((k : ℤ) : ℝ) - 125 : ℝ)) = _
  rw [← Real.rpow_intCast]
  congr 1
  push_cast
  ring

/-- The reference's scale. -/
def rscale (r : EReal) : EReal :=
  Scalar.select (Ideal.cmp .olt r (FloatOps.ofBits (F := Ideal) .f32 0x00800000#32)) (FloatOps.ofBits (F := Ideal) .f32 0x3F800000#32)
    ((Finset.univ : Finset (Fin 253)).fold min (FloatOps.ofBits (F := Ideal) .f32 0x7F800000#32)
      fun k => Scalar.select (Ideal.cmp .ogt (cand k.val) r) (cand k.val) (FloatOps.ofBits (F := Ideal) .f32 0x7F000000#32))

theorem lit_field (n : ℕ) (b : BitVec 32) (h : IntOp.shli .vector (BitVec.ofNat 32 n) 23#32 = b) (h0 : 1 ≤ n) (h1 : n ≤ 254) :
    FloatOps.ofBits (F := Ideal) .f32 b = pw ((n : ℤ) - 127) := by
  rw [← h]; exact field_pow n h0 h1

theorem lit_one : FloatOps.ofBits (F := Ideal) .f32 0x3F800000#32 = pw 0 := lit_field 127 _ (by decide) (by omega) (by omega)
theorem lit_min : FloatOps.ofBits (F := Ideal) .f32 0x00800000#32 = pw (-126) := lit_field 1 _ (by decide) (by omega) (by omega)
theorem lit_max : FloatOps.ofBits (F := Ideal) .f32 0x7F000000#32 = pw 127 := lit_field 254 _ (by decide) (by omega) (by omega)
theorem lit_inf : FloatOps.ofBits (F := Ideal) .f32 0x7F800000#32 = ⊤ := by
  have : FloatOps.ofBits (F := Ideal) .f32 0x7F800000#32 = field 255#32 := by
    unfold field; congr 1
  rw [this, field_top]

theorem rscale_low {r : EReal} (h : r < pw (-126)) : rscale r = pw 0 := by
  unfold rscale
  rw [lit_min, lit_one]
  simp [Scalar.select, Ideal.cmp, h]

theorem rscale_pow {r : EReal} {z : ℤ} (h0 : -125 ≤ z) (h1 : z ≤ 126) (hl : pw (z - 1) ≤ r) (hu : r < pw z) :
    rscale r = pw z := by
  have hn : ¬ r < pw (-126) := not_lt.2 ((pw_le.2 (by omega)).trans hl)
  unfold rscale
  rw [lit_min, lit_max, lit_inf]
  have e : Ideal.cmp .olt r (pw (-126)) = 0#1 := by simp [Ideal.cmp, hn]
  rw [e, show ∀ a b : EReal, Scalar.select (0#1) a b = b from fun a b => rfl]
  refine le_antisymm ?_ ?_
  · refine (Finset.fold_min_le _).2 (Or.inr ⟨⟨(z + 125).toNat, by omega⟩, Finset.mem_univ _, ?_⟩)
    dsimp only
    rw [cand_eq _ (by omega), show (((z + 125).toNat : ℕ) : ℤ) - 125 = z by omega]
    simp [Scalar.select, Ideal.cmp, hu]
  · refine (Finset.le_fold_min _).2 ⟨le_top, fun k _ => ?_⟩
    rw [cand_eq _ k.isLt]
    by_cases hk : r < pw ((k.val : ℤ) - 125)
    · have : z - 1 < (k.val : ℤ) - 125 := by
        by_contra hc
        exact absurd (lt_of_lt_of_le hk ((pw_le.2 (not_lt.1 hc)).trans hl)) (lt_irrefl _)
      simp only [Scalar.select, Ideal.cmp, hk]
      simpa using pw_le.2 (show z ≤ (k.val : ℤ) - 125 by omega)
    · simp only [Scalar.select, Ideal.cmp, hk]
      simpa using pw_le.2 (show z ≤ 127 by omega)

/-- The two scales are one. -/
theorem scale_eq {r : EReal} (h0 : 0 ≤ r) (h1 : r < pw 126) : kscale r = rscale r := by
  rcases kscale_cases h0 h1 with ⟨h, e, _⟩ | ⟨z, a, b, c, d, e, _⟩
  · rw [e, rscale_low h]
  · rw [e, rscale_pow a b c d]

theorem div_pw (z : ℤ) : Ideal.div (pw 0) (pw z) = pw (-z) := by
  unfold pw
  rw [Ideal.div_coe (zpow_ne_zero _ (by norm_num)), ← EReal.coe_mul]
  congr 1
  rw [zpow_neg]; simp

/-- The kernel's reciprocal scale is the reciprocal of the reference's scale. -/
theorem inv_eq {r : EReal} (h0 : 0 ≤ r) (h1 : r < pw 126) :
    kinv r = Ideal.div (FloatOps.ofBits (F := Ideal) .f32 0x3F800000#32) (rscale r) := by
  rw [lit_one]
  rcases kscale_cases h0 h1 with ⟨h, _, e⟩ | ⟨z, a, b, c, d, _, e⟩
  · rw [e, rscale_low h, div_pw, neg_zero]
  · rw [e, rscale_pow a b c d, div_pw]

end Cert.KernelIdeal.Hand
-- ==== Proof.Spec.lean ====
/- One group of the block quantiser over the extended reals: the ratio, the code and the value the code stands for,
   written with the kernel's scale and with the reference's; they agree where the ratio is small enough. -/
module

public import proofs.«01_k».proof.Proof.Scale
public import Idealize.ShloMosaic.Lib.ValueIdxCore

@[expose] public section

noncomputable section

namespace Cert.KernelIdeal.Hand

open Idealize.ShloMosaic
open Idealize.ShloMosaic.ValueIdx

/-- A float literal as an extended real. -/
abbrev lit (b : BitVec 32) : EReal := FloatOps.ofBits (F := Ideal) .f32 b

/-- The largest magnitude of a group over the format's largest value, whose reciprocal is `K`. -/
def ratio (K : BitVec 32) (x : Fin 32 → EReal) : EReal :=
  (Finset.univ : Finset (Fin 32)).fold max (lit 0xFF800000#32) (fun j => max (x j) (-(x j))) * lit K

/-- A value times an inverse scale, clamped. -/
def clamp (lo hi : BitVec 32) (x inv : EReal) : EReal := min (lit hi) (max (lit lo) (x * inv))

/-- The kernel's code of a group's element. -/
def kcode (K lo hi : BitVec 32) (x : Fin 32 → EReal) (j : Fin 32) : EReal := clamp lo hi (x j) (kinv (ratio K x))
/-- The reference's code of a group's element. -/
def rcode (K lo hi : BitVec 32) (x : Fin 32 → EReal) (j : Fin 32) : EReal :=
  clamp lo hi (x j) (Ideal.div (lit 0x3F800000#32) (rscale (ratio K x)))

/-- Group `n` of a batch's tokens, of one column. -/
def grp {N : ℕ} (f : (⟨3, ![2, 128, N]⟩ : Shape).Idx → EReal) (b : Fin 2) (n : Fin 4) (c : Fin N) : Fin 32 → EReal :=
  fun j => f (ix3 b ⟨32 * n.val + j.val, by omega⟩ c)

/-- The group of a token within its batch, and its place in the group. -/
def tg (t : Fin 128) : Fin 4 := ⟨t.val / 32, by omega⟩
def tp (t : Fin 128) : Fin 32 := ⟨t.val % 32, by omega⟩
/-- A row of the flattened tokens: its batch and its token. -/
def rb (r : Fin 256) : Fin 2 := ⟨r.val / 128, by omega⟩
def rt (r : Fin 256) : Fin 128 := ⟨r.val % 128, by omega⟩

theorem code_eq (K lo hi : BitVec 32) (x : Fin 32 → EReal) (j : Fin 32) (h0 : 0 ≤ ratio K x) (h1 : ratio K x < pw 126) :
    kcode K lo hi x j = rcode K lo hi x j := by
  unfold kcode rcode
  rw [inv_eq h0 h1]

end Cert.KernelIdeal.Hand
-- ==== Proof.KernelPoint.lean ====
/- The kernel's quantiser read at an index over the extended reals. -/
module

public import proofs.«01_k».proof.Proof.Quant
public import proofs.«01_k».proof.Proof.Spec

@[expose] public section

noncomputable section

namespace Cert.KernelIdeal.Hand

open Cert.KernelIdeal Cert.KernelIdeal.Gen
open Idealize.ShloMosaic Idealize.ShloMosaic.TcCoe
open Idealize.ShloMosaic.ValueIdx

/-! ## The quantiser's steps with the format's constants left open -/

/-- A block of tokens by groups. -/
def byGroup (v : S2x128x256.Idx → EReal) : S8x32x256.Idx → EReal :=
  shapeCast S8x32x256 (shapeCast S256x256 v shapeCasts_S2x128x256_S256x256) shapeCasts_S256x256_S8x32x256
/-- The groups' ratios. -/
def ratios (K : BitVec 32) (w : S8x32x256.Idx → EReal) : S8x256.Idx → EReal :=
  fun i => multiReduction (F := Ideal) (φ := .f32) .maximumf [1] S8x256 (absf (F := Ideal) (φ := .f32) w) 0xFF800000#32 reduces_S8x32x256_S8x256 (.inl rfl) rfl i * lit K
/-- A value per group, at each of the group's elements. -/
def spread (s : S8x256.Idx → EReal) : S8x32x256.Idx → EReal :=
  broadcastTo S8x32x256 (shapeCast S8x1x256 s shapeCasts_S8x256_S8x1x256) broadcasts_S8x1x256_S8x32x256
/-- The codes, rows by tokens. -/
def codes (lo hi : BitVec 32) (w : S8x32x256.Idx → EReal) (inv : S8x256.Idx → EReal) : S256x256.Idx → EReal :=
  shapeCast S256x256 (fun i => clamp lo hi (w i) (spread inv i)) shapeCasts_S8x32x256_S256x256
/-- The values the codes stand for. -/
def hats (q : S256x256.Idx → EReal) (s : S8x256.Idx → EReal) : S256x256.Idx → EReal :=
  shapeCast S256x256 (fun i => shapeCast S8x32x256 q shapeCasts_S256x256_S8x32x256 i * spread s i) shapeCasts_S8x32x256_S256x256

/-! ## They are the program's -/

set_option maxRecDepth 65536
variable (v : Vec Ideal S2x128x256 .bf16)

theorem x_ratio : k0_pay2 v = ratios 0x3B124925#32 (byGroup v) := rfl
theorem y_ratio : k0_pay9 v = ratios 0x37924925#32 (byGroup v) := rfl
/-- One step of the search, for all groups at once. -/
def steps (r : FVec Ideal S8x256 .f32) (bit : BitVec 32) (b : IVec S8x256 32) : IVec S8x256 32 :=
  select (cmpf .oge r (bitcastToFloat .f32 (shli (addi b (broadcast S8x256 bit)) (broadcast S8x256 23#32)))) (addi b (broadcast S8x256 bit)) b
theorem steps_apply (r : FVec Ideal S8x256 .f32) (bit : BitVec 32) (b : IVec S8x256 32) (i) : steps r bit b i = step (r i) bit (b i) := rfl
/-- The first four steps, for all groups at once. -/
def firsts (r : FVec Ideal S8x256 .f32) : IVec S8x256 32 :=
  steps r 16#32 (steps r 32#32 (steps r 64#32 (steps r 128#32 (broadcast S8x256 0#32))))
theorem firsts_apply (r : FVec Ideal S8x256 .f32) (i) : firsts r i = hiSearch (r i) := by
  unfold firsts hiSearch
  rw [steps_apply, steps_apply, steps_apply, steps_apply]
  rfl
theorem x_firsts : k0_pay3 v = firsts (k0_pay2 v) := by
  unfold k0_pay3 firsts steps; rfl
theorem y_firsts : k0_pay10 v = firsts (k0_pay9 v) := by
  unfold k0_pay10 firsts steps; rfl
theorem x_hi (i) : k0_pay3 v i = hiSearch (k0_pay2 v i) := by rw [x_firsts, firsts_apply]
theorem y_hi (i) : k0_pay10 v i = hiSearch (k0_pay9 v i) := by rw [y_firsts, firsts_apply]
theorem x_exp (r : FVec Ideal S8x256 .f32) (b : IVec S8x256 32) (i) (h : b i = hiSearch (r i)) : k0_pay4 r b 8#32 i = kexp (search (r i)) := by
  show kexp (step (r i) 1#32 (step (r i) 2#32 (step (r i) 4#32 (step (r i) 8#32 (b i))))) = _
  rw [h]; rfl
theorem y_exp (r : FVec Ideal S8x256 .f32) (b : IVec S8x256 32) (i) (h : b i = hiSearch (r i)) : k0_pay11 r b 8#32 i = kexp (search (r i)) := by
  show kexp (step (r i) 1#32 (step (r i) 2#32 (step (r i) 4#32 (step (r i) 8#32 (b i))))) = _
  rw [h]; rfl
theorem x_scale : xscale v = fun i => kscale (ratios 0x3B124925#32 (byGroup v) i) := by
  funext i
  show field (127#32 + k0_pay4 (k0_pay2 v) (k0_pay3 v) 8#32 i) = _
  rw [x_exp _ _ _ (x_hi v i)]; rfl
theorem y_scale : yscale v = fun i => kscale (ratios 0x37924925#32 (byGroup v) i) := by
  funext i
  show field (127#32 + k0_pay11 (k0_pay9 v) (k0_pay10 v) 8#32 i) = _
  rw [y_exp _ _ _ (y_hi v i)]; rfl
theorem x_inv : (fun i => field (xinv v i)) = fun i => kinv (ratios 0x3B124925#32 (byGroup v) i) := by
  funext i
  show field (127#32 - k0_pay4 (k0_pay2 v) (k0_pay3 v) 8#32 i) = _
  rw [x_exp _ _ _ (x_hi v i)]; rfl
theorem y_inv : (fun i => field (yinv v i)) = fun i => kinv (ratios 0x37924925#32 (byGroup v) i) := by
  funext i
  show field (127#32 - k0_pay11 (k0_pay9 v) (k0_pay10 v) 8#32 i) = _
  rw [y_exp _ _ _ (y_hi v i)]; rfl
theorem x_codes : k0_pay18 (k0_pay1 v) (xinv v) k0_pay7
    = codes 0xC3E00000#32 0x43E00000#32 (byGroup v) (fun i => kinv (ratios 0x3B124925#32 (byGroup v) i)) := by
  rw [← x_inv]; rfl
theorem y_codes : k0_pay23 (k0_pay8 v) (yinv v) k0_pay14
    = codes 0xC7600000#32 0x47600000#32 (byGroup v) (fun i => kinv (ratios 0x37924925#32 (byGroup v) i)) := by
  rw [← y_inv]; rfl

/-! ## Read at an index -/

theorem byGroup_apply (w : S2x128x256.Idx → EReal) (r : Fin 8) (j : Fin 32) (l : Fin 256) :
    byGroup w (ix3 r j l) = w (ix3 ⟨r.val / 4, by omega⟩ ⟨32 * (r.val % 4) + j.val, by omega⟩ l) := by
  show w (Shape.reshapeEquiv _ (Shape.reshapeEquiv _ (ix3 r j l))) = _
  rw [Shape.reshapeEquiv_eq_of_rowMajor (y := (ix2 (⟨32 * r.val + j.val, by omega⟩ : Fin 256) l : S256x256.Idx)),
    Shape.reshapeEquiv_eq_of_rowMajor]
  · rw [Shape.rowMajor_val_three, Shape.rowMajor_val_two]
    show ((r.val / 4) * 128 + (32 * (r.val % 4) + j.val)) * 256 + l.val = (32 * r.val + j.val) * 256 + l.val
    omega
  · rw [Shape.rowMajor_val_three, Shape.rowMajor_val_two]
    show (32 * r.val + j.val) * 256 + l.val = (r.val * 32 + j.val) * 256 + l.val
    omega

theorem ratios_apply (K : BitVec 32) (w : S8x32x256.Idx → EReal) (r : Fin 8) (l : Fin 256) :
    ratios K w (ix2 r l) = ratio K fun j => w (ix3 r j l) := by
  have h0 : ratios K w (ix2 r l) = _ * lit K :=
    congrArg (· * lit K) (Ideal.multiReduction_maximumf_single (φ := .f32) (absf (F := Ideal) (φ := .f32) w) 0xFF800000#32 reduces_S8x32x256_S8x256 (.inl rfl) rfl (ix2 r l))
  rw [h0]
  unfold ratio
  have e : (absf (F := Ideal) (φ := .f32) w ∘ reduces_S8x32x256_S8x256.lift (ix2 r l)) = fun j : Fin 32 => max (w (ix3 r j l)) (-(w (ix3 r j l))) := by
    funext j
    have : reduces_S8x32x256_S8x256.lift (ix2 r l) j = ix3 r j l := by
      funext a; fin_cases a <;> rfl
    show max (w (reduces_S8x32x256_S8x256.lift (ix2 r l) j)) (-(w (reduces_S8x32x256_S8x256.lift (ix2 r l) j))) = _
    rw [this]; rfl
  rw [e]; rfl

theorem spread_apply (s : S8x256.Idx → EReal) (r : Fin 8) (j : Fin 32) (l : Fin 256) : spread s (ix3 r j l) = s (ix2 r l) := by
  show s (Shape.reshapeEquiv _ _) = _
  rw [Shape.reshapeEquiv_eq_of_rowMajor]
  rw [Shape.rowMajor_val_three, Shape.rowMajor_val_two]
  show r.val * 256 + l.val = (r.val * 1 + 0) * 256 + l.val
  omega

theorem toRows_apply (q : S8x32x256.Idx → EReal) (t : Fin 256) (l : Fin 256) :
    shapeCast S256x256 q shapeCasts_S8x32x256_S256x256 (ix2 t l) = q (ix3 ⟨t.val / 32, by omega⟩ ⟨t.val % 32, by omega⟩ l) := by
  show q (Shape.reshapeEquiv _ _) = _
  rw [Shape.reshapeEquiv_eq_of_rowMajor]
  rw [Shape.rowMajor_val_three, Shape.rowMajor_val_two]
  show ((t.val / 32) * 32 + t.val % 32) * 256 + l.val = t.val * 256 + l.val
  omega

theorem ofRows_apply (q : S256x256.Idx → EReal) (r : Fin 8) (j : Fin 32) (l : Fin 256) :
    shapeCast S8x32x256 q shapeCasts_S256x256_S8x32x256 (ix3 r j l) = q (ix2 ⟨32 * r.val + j.val, by omega⟩ l) := by
  show q (Shape.reshapeEquiv _ _) = _
  rw [Shape.reshapeEquiv_eq_of_rowMajor]
  rw [Shape.rowMajor_val_three, Shape.rowMajor_val_two]
  show (32 * r.val + j.val) * 256 + l.val = (r.val * 32 + j.val) * 256 + l.val
  omega

/-- Row `t` of the tokens, as a batch's group. -/
theorem grp_row (w : S2x128x256.Idx → EReal) (t : Fin 256) (l : Fin 256) :
    (fun j : Fin 32 => byGroup w (ix3 (⟨t.val / 32, by omega⟩ : Fin 8) j l)) = grp (N := 256) w (rb t) (tg (rt t)) l := by
  funext j
  rw [byGroup_apply]
  unfold grp rb tg rt
  congr 2
  · exact Fin.ext (show t.val / 32 / 4 = t.val / 128 by omega)
  · exact Fin.ext (show 32 * (t.val / 32 % 4) + j.val = 32 * (t.val % 128 / 32) + j.val by omega)

theorem codes_apply (K lo hi : BitVec 32) (w : S2x128x256.Idx → EReal) (t l : Fin 256) :
    codes lo hi (byGroup w) (fun i => kinv (ratios K (byGroup w) i)) (ix2 t l)
      = kcode K lo hi (grp (N := 256) w (rb t) (tg (rt t)) l) (tp (rt t)) := by
  unfold codes
  rw [toRows_apply, spread_apply, ratios_apply, grp_row]
  unfold kcode
  rw [← grp_row]
  congr 3
  exact Fin.ext (show t.val % 32 = t.val % 128 % 32 by omega)

theorem hats_apply (K : BitVec 32) (w : S2x128x256.Idx → EReal) (q : S256x256.Idx → EReal) (t l : Fin 256) :
    hats q (fun i => kscale (ratios K (byGroup w) i)) (ix2 t l)
      = q (ix2 t l) * kscale (ratio K (grp (N := 256) w (rb t) (tg (rt t)) l)) := by
  unfold hats
  rw [toRows_apply, spread_apply, ratios_apply, grp_row, ofRows_apply]
  congr 3
  exact Fin.ext (show 32 * (t.val / 32) + t.val % 32 = t.val by omega)

end Cert.KernelIdeal.Hand
-- ==== Proof.KernelQuant.lean ====
/- What the kernel's quantiser loops leave, read at an index over the extended reals. -/
module

public import proofs.«01_k».proof.Proof.KernelPoint

@[expose] public section

noncomputable section

namespace Cert.KernelIdeal.Hand

open Cert.KernelIdeal Cert.KernelIdeal.Gen
open Idealize.ShloMosaic Idealize.ShloMosaic.TcCoe
open Idealize.ShloMosaic.ValueIdx

theorem unflatten_apply (q : S256x256.Idx → EReal) (b : Fin 2) (t : Fin 128) (l : Fin 256) :
    shapeCast S2x128x256 (shapeCast S2x128x256 q shapeCasts_S256x256_S2x128x256) shapeCasts_S2x128x256_S2x128x256 (ix3 b t l)
      = q (ix2 ⟨128 * b.val + t.val, by omega⟩ l) := by
  show q (Shape.reshapeEquiv _ (Shape.reshapeEquiv _ _)) = _
  rw [Shape.reshapeEquiv_self, Shape.reshapeEquiv_eq_of_rowMajor]
  rw [Shape.rowMajor_val_three, Shape.rowMajor_val_two]
  show (128 * b.val + t.val) * 256 + l.val = (b.val * 128 + t.val) * 256 + l.val
  omega

theorem lowScale_apply (s : FVec Ideal S8x256 .f32) (n : Fin 4) (l : Fin 256) : k0_pay20 s (ix3 0 n l) = s (ix2 ⟨n.val, by omega⟩ l) := by
  show extractStridedSlice S4x256 ![0, 0] s slices_S8x256_o0_0_S4x256 (Shape.reshapeEquiv _ _) = _
  rw [Shape.reshapeEquiv_eq_of_rowMajor (y := (ix2 n l : S4x256.Idx))]
  · refine congrArg s ?_
    funext a; fin_cases a <;> exact Fin.ext (Nat.zero_add _)
  · rw [Shape.rowMajor_val_three, Shape.rowMajor_val_two]
    show n.val * 256 + l.val = (0 * 4 + n.val) * 256 + l.val
    omega

theorem highScale_apply (s : FVec Ideal S8x256 .f32) (n : Fin 4) (l : Fin 256) : k0_pay21 s (ix3 0 n l) = s (ix2 ⟨4 + n.val, by omega⟩ l) := by
  show extractStridedSlice S4x256 ![4, 0] s slices_S8x256_o4_0_S4x256 (Shape.reshapeEquiv _ _) = _
  rw [Shape.reshapeEquiv_eq_of_rowMajor (y := (ix2 n l : S4x256.Idx))]
  · refine congrArg s ?_
    funext a; fin_cases a
    · rfl
    · exact Fin.ext (Nat.zero_add _)
  · rw [Shape.rowMajor_val_three, Shape.rowMajor_val_two]
    show n.val * 256 + l.val = (0 * 4 + n.val) * 256 + l.val
    omega

/-- The scale of a batch's group, from the block's. -/
theorem scales_apply (K : BitVec 32) (w : S2x128x256.Idx → EReal) (b : Fin 2) (n : Fin 4) (l : Fin 256) :
    (if b.val = 0 then k0_pay20 (F := Ideal) (fun i => kscale (ratios K (byGroup w) i)) (ix3 0 n l)
      else k0_pay21 (F := Ideal) (fun i => kscale (ratios K (byGroup w) i)) (ix3 0 n l)) = kscale (ratio K (grp (N := 256) w b n l)) := by
  have key : ∀ r : Fin 8, r.val = 4 * b.val + n.val → ratios K (byGroup w) (ix2 r l) = ratio K (grp (N := 256) w b n l) := by
    intro r hr
    rw [ratios_apply]
    congr 1
    funext j
    rw [byGroup_apply]
    unfold grp
    congr 2
    · exact Fin.ext (show r.val / 4 = b.val by omega)
    · exact Fin.ext (show 32 * (r.val % 4) + j.val = 32 * n.val + j.val by omega)
  split
  · rename_i h
    rw [lowScale_apply, key _ (show n.val = 4 * b.val + n.val by omega)]
  · rename_i h
    rw [highScale_apply, key _ (show 4 + n.val = 4 * b.val + n.val by omega)]

/-! ## The tokens -/

section
variable (c : Dev nD) (f : S2x128x3584.Idx → EReal)

theorem xin_apply (t : Fin k0_t6_loop.trips) (b : Fin 2) (r : Fin 128) (l : Fin 256) (n : Fin 3584) (hn : n.val = 256 * t.val + l.val) :
    xin (F := Ideal) c f t (ix3 b r l) = f (ix3 b r n) := by
  refine congrArg f ?_
  obtain ⟨e, -, -, -⟩ := t6_words t
  funext a
  refine Fin.ext ?_
  have h : ∀ a, k0_off18 t a = (![0, 0, 256 * t.val] : Fin 3 → ℕ) a := fun a => congrFun e a
  fin_cases a
  · show k0_off18 t 0 + 1 * b.val = b.val
    rw [h]; show 0 + 1 * b.val = b.val; omega
  · show k0_off18 t 1 + 1 * r.val = r.val
    rw [h]; show 0 + 1 * r.val = r.val; omega
  · show k0_off18 t 2 + 1 * l.val = n.val
    rw [h]; show 256 * t.val + 1 * l.val = n.val; omega

theorem xin_grp (n : Fin 3584) (b : Fin 2) (g : Fin 4) :
    grp (N := 256) (xin (F := Ideal) c f (xtrip n.val n.isLt)) b g ⟨n.val % 256, Nat.mod_lt _ (by decide)⟩ = grp (N := 3584) f b g n := by
  funext j
  exact xin_apply c f _ _ _ _ _ (show n.val = 256 * (n.val / 256) + n.val % 256 by omega)

theorem xC_apply (b : Fin 2) (t : Fin 128) (n : Fin 3584) :
    xC (F := Ideal) c f (ix3 b t n) = kcode 0x3B124925#32 0xC3E00000#32 0x43E00000#32 (grp f b (tg t) n) (tp t) := by
  show k0_pay19 (k0_pay1 _) (xinv _) k0_pay7 (ix3 b t ⟨n.val % 256, _⟩) = _
  unfold k0_pay19
  refine (unflatten_apply _ _ _ _).trans ?_
  rw [x_codes, codes_apply, ← xin_grp c f]
  have e1 : rb ⟨128 * b.val + t.val, by omega⟩ = b := Fin.ext (show (128 * b.val + t.val) / 128 = b.val by omega)
  have e2 : rt ⟨128 * b.val + t.val, by omega⟩ = t := Fin.ext (show (128 * b.val + t.val) % 128 = t.val by omega)
  rw [e1, e2]
  rfl

theorem xS_apply (b : Fin 2) (g : Fin 4) (n : Fin 3584) : xS (F := Ideal) c f (ix3 b g n) = kscale (ratio 0x3B124925#32 (grp f b g n)) := by
  have h0 : xS (F := Ideal) c f (ix3 b g n) = if b.val = 0 then k0_pay20 (xscale (xin (F := Ideal) c f (xtrip n.val n.isLt))) (ix3 0 g ⟨n.val % 256, Nat.mod_lt _ (by decide)⟩)
    else k0_pay21 (xscale (xin (F := Ideal) c f (xtrip n.val n.isLt))) (ix3 0 g ⟨n.val % 256, Nat.mod_lt _ (by decide)⟩) := rfl
  rw [h0, x_scale, scales_apply, xin_grp]

theorem xH_apply (n : Fin 3584) (r : Fin 256) :
    xH (F := Ideal) c f (ix2 n r) = kcode 0x3B124925#32 0xC3E00000#32 0x43E00000#32 (grp f (rb r) (tg (rt r)) n) (tp (rt r))
      * kscale (ratio 0x3B124925#32 (grp f (rb r) (tg (rt r)) n)) := by
  have h0 : xH (F := Ideal) c f (ix2 n r) = shapeCast S256x256 (transpose S256x256 [1, 0] (hats (k0_pay18 (k0_pay1 (xin (F := Ideal) c f (xtrip n.val n.isLt))) (xinv (xin (F := Ideal) c f (xtrip n.val n.isLt))) k0_pay7) (xscale (xin (F := Ideal) c f (xtrip n.val n.isLt)))) transposes_S256x256_p1_0_S256x256) shapeCasts_S256x256_S256x256 (ix2 ⟨n.val % 256, Nat.mod_lt _ (by decide)⟩ r) := rfl
  rw [h0]
  have h1 : ∀ (q : S256x256.Idx → EReal) (l r : Fin 256), shapeCast S256x256 (transpose S256x256 [1, 0] q transposes_S256x256_p1_0_S256x256) shapeCasts_S256x256_S256x256 (ix2 l r) = q (ix2 r l) := by
    intro q l r
    show q (transposes_S256x256_p1_0_S256x256.src (Shape.reshapeEquiv _ _)) = _
    rw [Shape.reshapeEquiv_self]
    refine congrArg q ?_
    funext a; fin_cases a <;> rfl
  rw [h1, x_codes, x_scale, hats_apply, codes_apply, xin_grp]

end

/-! ## The gradients -/

section
variable (c : Dev nD) (f : S2x128x9728.Idx → EReal)

theorem yin_apply (t : Fin k0_t7_loop.trips) (b : Fin 2) (r : Fin 128) (l : Fin 256) (n : Fin 9728) (hn : n.val = 256 * t.val + l.val) :
    yin (F := Ideal) c f t (ix3 b r l) = f (ix3 b r n) := by
  refine congrArg f ?_
  obtain ⟨e, -, -, -⟩ := t7_words t
  funext a
  refine Fin.ext ?_
  have h : ∀ a, k0_off22 t a = (![0, 0, 256 * t.val] : Fin 3 → ℕ) a := fun a => congrFun e a
  fin_cases a
  · show k0_off22 t 0 + 1 * b.val = b.val
    rw [h]; show 0 + 1 * b.val = b.val; omega
  · show k0_off22 t 1 + 1 * r.val = r.val
    rw [h]; show 0 + 1 * r.val = r.val; omega
  · show k0_off22 t 2 + 1 * l.val = n.val
    rw [h]; show 256 * t.val + 1 * l.val = n.val; omega

theorem yin_grp (n : Fin 9728) (b : Fin 2) (g : Fin 4) :
    grp (N := 256) (yin (F := Ideal) c f (ytrip n.val n.isLt)) b g ⟨n.val % 256, Nat.mod_lt _ (by decide)⟩ = grp (N := 9728) f b g n := by
  funext j
  exact yin_apply c f _ _ _ _ _ (show n.val = 256 * (n.val / 256) + n.val % 256 by omega)

theorem yC_apply (b : Fin 2) (t : Fin 128) (n : Fin 9728) :
    yC (F := Ideal) c f (ix3 b t n) = kcode 0x37924925#32 0xC7600000#32 0x47600000#32 (grp f b (tg t) n) (tp t) := by
  show k0_pay24 (k0_pay8 _) (yinv _) k0_pay14 (ix3 b t ⟨n.val % 256, _⟩) = _
  unfold k0_pay24
  refine (unflatten_apply _ _ _ _).trans ?_
  rw [y_codes, codes_apply, ← yin_grp c f]
  have e1 : rb ⟨128 * b.val + t.val, by omega⟩ = b := Fin.ext (show (128 * b.val + t.val) / 128 = b.val by omega)
  have e2 : rt ⟨128 * b.val + t.val, by omega⟩ = t := Fin.ext (show (128 * b.val + t.val) % 128 = t.val by omega)
  rw [e1, e2]
  rfl

theorem yS_apply (b : Fin 2) (g : Fin 4) (n : Fin 9728) : yS (F := Ideal) c f (ix3 b g n) = kscale (ratio 0x37924925#32 (grp f b g n)) := by
  have h0 : yS (F := Ideal) c f (ix3 b g n) = if b.val = 0 then k0_pay20 (yscale (yin (F := Ideal) c f (ytrip n.val n.isLt))) (ix3 0 g ⟨n.val % 256, Nat.mod_lt _ (by decide)⟩)
    else k0_pay21 (yscale (yin (F := Ideal) c f (ytrip n.val n.isLt))) (ix3 0 g ⟨n.val % 256, Nat.mod_lt _ (by decide)⟩) := rfl
  rw [h0, y_scale, scales_apply, yin_grp]

theorem yH_apply (r : Fin 256) (n : Fin 9728) :
    yH (F := Ideal) c f (ix2 r n) = kcode 0x37924925#32 0xC7600000#32 0x47600000#32 (grp f (rb r) (tg (rt r)) n) (tp (rt r))
      * kscale (ratio 0x37924925#32 (grp f (rb r) (tg (rt r)) n)) := by
  have h0 : yH (F := Ideal) c f (ix2 r n) = shapeCast S256x256 (hats (k0_pay23 (k0_pay8 (yin (F := Ideal) c f (ytrip n.val n.isLt))) (yinv (yin (F := Ideal) c f (ytrip n.val n.isLt))) k0_pay14) (yscale (yin (F := Ideal) c f (ytrip n.val n.isLt)))) shapeCasts_S256x256_S256x256 (ix2 r ⟨n.val % 256, Nat.mod_lt _ (by decide)⟩) := rfl
  rw [h0]
  have h1 : ∀ (q : S256x256.Idx → EReal) (l r : Fin 256), shapeCast S256x256 q shapeCasts_S256x256_S256x256 (ix2 l r) = q (ix2 l r) := by
    intro q l r
    show q (Shape.reshapeEquiv _ _) = _
    rw [Shape.reshapeEquiv_self]
  rw [h1, y_codes, y_scale, hats_apply, codes_apply, yin_grp]

end

end Cert.KernelIdeal.Hand
-- ==== Proof.RefRun.lean ====
/- The reference's result arrays as functions of its argument arrays: the reference is one block over the whole
   arrays, so each result array is what its one store leaves, and the gradient what its five stores leave. -/
module

public import proofs.«01_k».proof.Proof.Gen.ReferenceIdeal.Value
public import Idealize.ShloMosaic.Lib.ValueIdx

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem
open Idealize.ShloMosaic.ValueIdx

variable {F : FTy → Type} [FloatOps F]

theorem hz : (![0, 0, 0] : Fin 3 → Nat) = fun _ => 0 := funext fun a => by fin_cases a <;> rfl

/-- A count. -/
def word (k : Fin 5) : S5.Idx := fun a => match a with | ⟨0, _⟩ => k

/-! ## What the results hold -/

/-- The codes of the tokens, -/
def gXC (x1 : Vec F S2x128x3584 .bf16) : Vec F S2x128x3584 .fp8e4m3 := k0_pay4 x1
/-- their scales, -/
def gXS (x1 : Vec F S2x128x3584 .bf16) : Vec F S2x4x3584 .f32 := k0_pay3 x1
/-- the codes of the output gradients, -/
def gYC (x2 : Vec F S2x128x9728 .bf16) : Vec F S2x128x9728 .fp8e5m2 := k0_pay9 (k0_pay5 x2) (k0_pay6 x2) k0_pay7
/-- their scales, -/
def gYS (x2 : Vec F S2x128x9728 .bf16) : Vec F S2x4x9728 .f32 := k0_pay8 (k0_pay6 x2) k0_pay7
/-- the values the token codes stand for, -/
def gXH (x1 : Vec F S2x128x3584 .bf16) : FVec F S256x3584 .bf16 := k0_pay10 (k0_pay3 x1) (k0_pay4 x1)
/-- and the gradient codes' values, before and after they meet their scales. -/
def gYB (x2 : Vec F S2x128x9728 .bf16) : FVec F S2x128x9728 .bf16 := k0_pay11 (k0_pay5 x2) (k0_pay6 x2) k0_pay7
def gYH (x2 : Vec F S2x128x9728 .bf16) : FVec F S256x9728 .bf16 := k0_pay12 (gYS x2) (gYB x2)

/-- Token numbers. -/
def rows : IVec S256x3584 32 := iota .tc S256x3584 32 [0] iota_S256x3584_d0_w32

/-- Where an expert's tokens start. -/
def start (W : Fin 5 → BitVec 32) : Fin 5 → BitVec 32
  | ⟨0, _⟩ => 0#32
  | ⟨1, _⟩ => Scalar.addi 0#32 (W 0)
  | ⟨2, _⟩ => Scalar.addi (Scalar.addi 0#32 (W 0)) (W 1)
  | ⟨3, _⟩ => Scalar.addi (Scalar.addi (Scalar.addi 0#32 (W 0)) (W 1)) (W 2)
  | ⟨4, _⟩ => Scalar.addi (Scalar.addi (Scalar.addi (Scalar.addi 0#32 (W 0)) (W 1)) (W 2)) (W 3)

/-- The product of one expert. -/
def slab (W : Fin 5 → BitVec 32) (x1 : Vec F S2x128x3584 .bf16) (x2 : Vec F S2x128x9728 .bf16) : Fin 5 → FVec F S1x3584x9728 .f32 := fun e =>
  k0_pay1 (gXH x1) (gYH x2) rows (start W e) (Scalar.addi (start W e) (W e)) (Scalar.cmpi .sgt (W e) 0#32)

/-- The gradient. -/
def gDW (x0 : Vec F S5 .i32) (x1 : Vec F S2x128x3584 .bf16) (x2 : Vec F S2x128x9728 .bf16) : Vec F S5x3584x9728 .f32 :=
  fun i => slab (fun k => x0 (word k)) x1 x2 (i 0) (ix3 0 (i 1) (i 2))

/-! ## What the stores leave -/

theorem out4_eq (c : Dev nD) (a0 : Memref sig .tc .smem S5 .i32) (h0 : a0.IsWhole) (a1 : Memref sig .tc .vmem S2x128x3584 .bf16) (h1 : a1.IsWhole) (a2 : Memref sig .tc .vmem S2x128x9728 .bf16) (h2 : a2.IsWhole) (a3 : Memref sig .tc .vmem S5x3584x9728 .f32) (h3 : a3.IsWhole) (a4 : Memref sig .tc .vmem S2x128x3584 .fp8e4m3) (h4 : a4.IsWhole) (a5 : Memref sig .tc .vmem S2x4x3584 .f32) (h5 : a5.IsWhole) (a6 : Memref sig .tc .vmem S2x128x9728 .fp8e5m2) (h6 : a6.IsWhole) (a7 : Memref sig .tc .vmem S2x4x9728 .f32) (h7 : a7.IsWhole)
  (x0 : Vec F S5 .i32) (x1 : Vec F S2x128x3584 .bf16) (x2 : Vec F S2x128x9728 .bf16) :
    out0_A_4 c a0 h0 a1 h1 a2 h2 a3 h3 a4 h4 a5 h5 a6 h6 a7 h7 x0 x1 x2 = gXC x1 := by
  unfold out0_A_4
  rw [View.read_writes_junk_eq_canon]
  show View.canon ([⟨Rect.unit ![0, 0, 0] S2x128x3584.size inb_S2x128x3584_S2x128x3584_0_0_0, gXC (View.readAt (Elt F) a1.view (Rect.unit ![0, 0, 0] S2x128x3584.size inb_S2x128x3584_S2x128x3584_0_0_0).toLoadRect (h1.unread x1))⟩] : List (View.Piece (Elt F) S2x128x3584 .fp8e4m3)) = _
  rw [View.canon_unit_zero hz, View.readAt_eq_ld, h1.read_unread, View.ld_unit_zero hz]

theorem out5_eq (c : Dev nD) (a0 : Memref sig .tc .smem S5 .i32) (h0 : a0.IsWhole) (a1 : Memref sig .tc .vmem S2x128x3584 .bf16) (h1 : a1.IsWhole) (a2 : Memref sig .tc .vmem S2x128x9728 .bf16) (h2 : a2.IsWhole) (a3 : Memref sig .tc .vmem S5x3584x9728 .f32) (h3 : a3.IsWhole) (a4 : Memref sig .tc .vmem S2x128x3584 .fp8e4m3) (h4 : a4.IsWhole) (a5 : Memref sig .tc .vmem S2x4x3584 .f32) (h5 : a5.IsWhole) (a6 : Memref sig .tc .vmem S2x128x9728 .fp8e5m2) (h6 : a6.IsWhole) (a7 : Memref sig .tc .vmem S2x4x9728 .f32) (h7 : a7.IsWhole)
  (x0 : Vec F S5 .i32) (x1 : Vec F S2x128x3584 .bf16) (x2 : Vec F S2x128x9728 .bf16) :
    out0_A_5 c a0 h0 a1 h1 a2 h2 a3 h3 a4 h4 a5 h5 a6 h6 a7 h7 x0 x1 x2 = gXS x1 := by
  unfold out0_A_5
  rw [View.read_writes_junk_eq_canon]
  show View.canon ([⟨Rect.unit ![0, 0, 0] S2x4x3584.size inb_S2x4x3584_S2x4x3584_0_0_0, gXS (View.readAt (Elt F) a1.view (Rect.unit ![0, 0, 0] S2x128x3584.size inb_S2x128x3584_S2x128x3584_0_0_0).toLoadRect (h1.unread x1))⟩] : List (View.Piece (Elt F) S2x4x3584 .f32)) = _
  rw [View.canon_unit_zero hz, View.readAt_eq_ld, h1.read_unread, View.ld_unit_zero hz]

theorem out6_eq (c : Dev nD) (a0 : Memref sig .tc .smem S5 .i32) (h0 : a0.IsWhole) (a1 : Memref sig .tc .vmem S2x128x3584 .bf16) (h1 : a1.IsWhole) (a2 : Memref sig .tc .vmem S2x128x9728 .bf16) (h2 : a2.IsWhole) (a3 : Memref sig .tc .vmem S5x3584x9728 .f32) (h3 : a3.IsWhole) (a4 : Memref sig .tc .vmem S2x128x3584 .fp8e4m3) (h4 : a4.IsWhole) (a5 : Memref sig .tc .vmem S2x4x3584 .f32) (h5 : a5.IsWhole) (a6 : Memref sig .tc .vmem S2x128x9728 .fp8e5m2) (h6 : a6.IsWhole) (a7 : Memref sig .tc .vmem S2x4x9728 .f32) (h7 : a7.IsWhole)
  (x0 : Vec F S5 .i32) (x1 : Vec F S2x128x3584 .bf16) (x2 : Vec F S2x128x9728 .bf16) :
    out0_A_6 c a0 h0 a1 h1 a2 h2 a3 h3 a4 h4 a5 h5 a6 h6 a7 h7 x0 x1 x2 = gYC x2 := by
  unfold out0_A_6
  rw [View.read_writes_junk_eq_canon]
  show View.canon ([⟨Rect.unit ![0, 0, 0] S2x128x9728.size inb_S2x128x9728_S2x128x9728_0_0_0, gYC (View.readAt (Elt F) a2.view (Rect.unit ![0, 0, 0] S2x128x9728.size inb_S2x128x9728_S2x128x9728_0_0_0).toLoadRect (h2.unread x2))⟩] : List (View.Piece (Elt F) S2x128x9728 .fp8e5m2)) = _
  rw [View.canon_unit_zero hz, View.readAt_eq_ld, h2.read_unread, View.ld_unit_zero hz]

theorem out7_eq (c : Dev nD) (a0 : Memref sig .tc .smem S5 .i32) (h0 : a0.IsWhole) (a1 : Memref sig .tc .vmem S2x128x3584 .bf16) (h1 : a1.IsWhole) (a2 : Memref sig .tc .vmem S2x128x9728 .bf16) (h2 : a2.IsWhole) (a3 : Memref sig .tc .vmem S5x3584x9728 .f32) (h3 : a3.IsWhole) (a4 : Memref sig .tc .vmem S2x128x3584 .fp8e4m3) (h4 : a4.IsWhole) (a5 : Memref sig .tc .vmem S2x4x3584 .f32) (h5 : a5.IsWhole) (a6 : Memref sig .tc .vmem S2x128x9728 .fp8e5m2) (h6 : a6.IsWhole) (a7 : Memref sig .tc .vmem S2x4x9728 .f32) (h7 : a7.IsWhole)
  (x0 : Vec F S5 .i32) (x1 : Vec F S2x128x3584 .bf16) (x2 : Vec F S2x128x9728 .bf16) :
    out0_A_7 c a0 h0 a1 h1 a2 h2 a3 h3 a4 h4 a5 h5 a6 h6 a7 h7 x0 x1 x2 = gYS x2 := by
  unfold out0_A_7
  rw [View.read_writes_junk_eq_canon]
  show View.canon ([⟨Rect.unit ![0, 0, 0] S2x4x9728.size inb_S2x4x9728_S2x4x9728_0_0_0, gYS (View.readAt (Elt F) a2.view (Rect.unit ![0, 0, 0] S2x128x9728.size inb_S2x128x9728_S2x128x9728_0_0_0).toLoadRect (h2.unread x2))⟩] : List (View.Piece (Elt F) S2x4x9728 .f32)) = _
  rw [View.canon_unit_zero hz, View.readAt_eq_ld, h2.read_unread, View.ld_unit_zero hz]

/-- The one index of a one-element block is zero. -/
theorem first_val (k : ℕ) (j : S1.Idx) : k + 1 * (j 0).val = k := by
  have := (j 0).isLt
  simp [S1] at this
  omega

/-- The blocks as loaded. -/
def ldx (a1 : Memref sig .tc .vmem S2x128x3584 .bf16) (h1 : a1.IsWhole) (x1 : Vec F S2x128x3584 .bf16) : Vec F S2x128x3584 .bf16 :=
  View.readAt (Elt F) a1.view (Rect.unit ![0, 0, 0] S2x128x3584.size inb_S2x128x3584_S2x128x3584_0_0_0).toLoadRect (h1.unread x1)
def ldy (a2 : Memref sig .tc .vmem S2x128x9728 .bf16) (h2 : a2.IsWhole) (x2 : Vec F S2x128x9728 .bf16) : Vec F S2x128x9728 .bf16 :=
  View.readAt (Elt F) a2.view (Rect.unit ![0, 0, 0] S2x128x9728.size inb_S2x128x9728_S2x128x9728_0_0_0).toLoadRect (h2.unread x2)

/-- The counts as the block of counts is read. -/
def loaded (a0 : Memref sig .tc .smem S5 .i32) (h0 : a0.IsWhole) (x0 : Vec F S5 .i32) : Fin 5 → BitVec 32
  | ⟨0, _⟩ => View.readAt (Elt F) a0.view (Rect.unit (s := S5) ![0] S1.size inb_S5_S1_0).toLoadRect (h0.unread x0) (Shape.Idx.first (Nat.one_pos.trans_eq numel1_S1.symm))
  | ⟨1, _⟩ => View.readAt (Elt F) a0.view (Rect.unit (s := S5) ![1] S1.size inb_S5_S1_1).toLoadRect (h0.unread x0) (Shape.Idx.first (Nat.one_pos.trans_eq numel1_S1.symm))
  | ⟨2, _⟩ => View.readAt (Elt F) a0.view (Rect.unit (s := S5) ![2] S1.size inb_S5_S1_2).toLoadRect (h0.unread x0) (Shape.Idx.first (Nat.one_pos.trans_eq numel1_S1.symm))
  | ⟨3, _⟩ => View.readAt (Elt F) a0.view (Rect.unit (s := S5) ![3] S1.size inb_S5_S1_3).toLoadRect (h0.unread x0) (Shape.Idx.first (Nat.one_pos.trans_eq numel1_S1.symm))
  | ⟨4, _⟩ => View.readAt (Elt F) a0.view (Rect.unit (s := S5) ![4] S1.size inb_S5_S1_4).toLoadRect (h0.unread x0) (Shape.Idx.first (Nat.one_pos.trans_eq numel1_S1.symm))

theorem loaded_eq (a0 : Memref sig .tc .smem S5 .i32) (h0 : a0.IsWhole) (x0 : Vec F S5 .i32) :
    loaded a0 h0 x0 = fun k => x0 (word k) := by
  funext k
  match k with
  | ⟨0, _⟩ =>
    show View.readAt (Elt F) a0.view (Rect.unit (s := S5) ![0] S1.size inb_S5_S1_0).toLoadRect (h0.unread x0) (Shape.Idx.first (Nat.one_pos.trans_eq numel1_S1.symm)) = _
    rw [View.readAt_eq_ld, h0.read_unread]
    exact congrArg x0 (funext fun a => Fin.ext (by match a with | ⟨0, _⟩ => exact first_val 0 _))
  | ⟨1, _⟩ =>
    show View.readAt (Elt F) a0.view (Rect.unit (s := S5) ![1] S1.size inb_S5_S1_1).toLoadRect (h0.unread x0) (Shape.Idx.first (Nat.one_pos.trans_eq numel1_S1.symm)) = _
    rw [View.readAt_eq_ld, h0.read_unread]
    exact congrArg x0 (funext fun a => Fin.ext (by match a with | ⟨0, _⟩ => exact first_val 1 _))
  | ⟨2, _⟩ =>
    show View.readAt (Elt F) a0.view (Rect.unit (s := S5) ![2] S1.size inb_S5_S1_2).toLoadRect (h0.unread x0) (Shape.Idx.first (Nat.one_pos.trans_eq numel1_S1.symm)) = _
    rw [View.readAt_eq_ld, h0.read_unread]
    exact congrArg x0 (funext fun a => Fin.ext (by match a with | ⟨0, _⟩ => exact first_val 2 _))
  | ⟨3, _⟩ =>
    show View.readAt (Elt F) a0.view (Rect.unit (s := S5) ![3] S1.size inb_S5_S1_3).toLoadRect (h0.unread x0) (Shape.Idx.first (Nat.one_pos.trans_eq numel1_S1.symm)) = _
    rw [View.readAt_eq_ld, h0.read_unread]
    exact congrArg x0 (funext fun a => Fin.ext (by match a with | ⟨0, _⟩ => exact first_val 3 _))
  | ⟨4, _⟩ =>
    show View.readAt (Elt F) a0.view (Rect.unit (s := S5) ![4] S1.size inb_S5_S1_4).toLoadRect (h0.unread x0) (Shape.Idx.first (Nat.one_pos.trans_eq numel1_S1.symm)) = _
    rw [View.readAt_eq_ld, h0.read_unread]
    exact congrArg x0 (funext fun a => Fin.ext (by match a with | ⟨0, _⟩ => exact first_val 4 _))

set_option maxHeartbeats 1000000 in
theorem out3_eq (c : Dev nD) (a0 : Memref sig .tc .smem S5 .i32) (h0 : a0.IsWhole) (a1 : Memref sig .tc .vmem S2x128x3584 .bf16) (h1 : a1.IsWhole) (a2 : Memref sig .tc .vmem S2x128x9728 .bf16) (h2 : a2.IsWhole) (a3 : Memref sig .tc .vmem S5x3584x9728 .f32) (h3 : a3.IsWhole) (a4 : Memref sig .tc .vmem S2x128x3584 .fp8e4m3) (h4 : a4.IsWhole) (a5 : Memref sig .tc .vmem S2x4x3584 .f32) (h5 : a5.IsWhole) (a6 : Memref sig .tc .vmem S2x128x9728 .fp8e5m2) (h6 : a6.IsWhole) (a7 : Memref sig .tc .vmem S2x4x9728 .f32) (h7 : a7.IsWhole)
  (x0 : Vec F S5 .i32) (x1 : Vec F S2x128x3584 .bf16) (x2 : Vec F S2x128x9728 .bf16) :
    out0_A_3 c a0 h0 a1 h1 a2 h2 a3 h3 a4 h4 a5 h5 a6 h6 a7 h7 x0 x1 x2 = gDW x0 x1 x2 := by
  have e1 : ldx a1 h1 x1 = x1 := by
    unfold ldx; rw [View.readAt_eq_ld, h1.read_unread, View.ld_unit_zero hz]
  have e2 : ldy a2 h2 x2 = x2 := by
    unfold ldy; rw [View.readAt_eq_ld, h2.read_unread, View.ld_unit_zero hz]
  have hL : (kernelRun0_A c a0 h0 a1 h1 a2 h2 a3 h3 a4 h4 a5 h5 a6 h6 a7 h7 x0 x1 x2).1 = ([
      ⟨Rect.unit ![4, 0, 0] S1x3584x9728.size inb_S5x3584x9728_S1x3584x9728_4_0_0, slab (loaded a0 h0 x0) (ldx a1 h1 x1) (ldy a2 h2 x2) 4⟩,
      ⟨Rect.unit ![3, 0, 0] S1x3584x9728.size inb_S5x3584x9728_S1x3584x9728_3_0_0, slab (loaded a0 h0 x0) (ldx a1 h1 x1) (ldy a2 h2 x2) 3⟩,
      ⟨Rect.unit ![2, 0, 0] S1x3584x9728.size inb_S5x3584x9728_S1x3584x9728_2_0_0, slab (loaded a0 h0 x0) (ldx a1 h1 x1) (ldy a2 h2 x2) 2⟩,
      ⟨Rect.unit ![1, 0, 0] S1x3584x9728.size inb_S5x3584x9728_S1x3584x9728_1_0_0, slab (loaded a0 h0 x0) (ldx a1 h1 x1) (ldy a2 h2 x2) 1⟩,
      ⟨Rect.unit ![0, 0, 0] S1x3584x9728.size inb_S5x3584x9728_S1x3584x9728_0_0_0, slab (loaded a0 h0 x0) (ldx a1 h1 x1) (ldy a2 h2 x2) 0⟩] : List (View.Piece (Elt F) S5x3584x9728 .f32)) := rfl
  rw [e1, e2, loaded_eq] at hL
  have hc := cover0_A_3 c a0 h0 a1 h1 a2 h2 a3 h3 a4 h4 a5 h5 a6 h6 a7 h7 x0 x1 x2
  unfold out0_A_3
  rw [View.read_writes_junk_eq_canon]
  funext y
  refine View.canon_apply_of_pieces (gDW x0 x1 x2) _ (fun p hp j => ?_) y (hc y)
  rw [hL] at hp
  simp only [List.mem_cons, List.mem_nil_iff, or_false] at hp
  have hj : ∀ (k : ℕ) (j : S1x3584x9728.Idx) (h), (ix3 (0 : Fin 1) ((Rect.unit (s := S5x3584x9728) ![k, 0, 0] S1x3584x9728.size h).emb j 1) ((Rect.unit (s := S5x3584x9728) ![k, 0, 0] S1x3584x9728.size h).emb j 2) : S1x3584x9728.Idx) = j := by
    intro k j h
    funext a
    apply Fin.ext
    have := (j 0).isLt
    match a with
    | ⟨0, _⟩ => show 0 = (j 0).val; simp [S1x3584x9728] at this; omega
    | ⟨1, _⟩ => show 0 + 1 * (j 1).val = (j 1).val; omega
    | ⟨2, _⟩ => show 0 + 1 * (j 2).val = (j 2).val; omega
  have h0' : ∀ (k : ℕ) (hk : k < 5) (j : S1x3584x9728.Idx) (h), (Rect.unit (s := S5x3584x9728) ![k, 0, 0] S1x3584x9728.size h).emb j 0 = (⟨k, hk⟩ : Fin 5) := by
    intro k hk j h
    apply Fin.ext
    show k + 1 * (j 0).val = k
    have := (j 0).isLt
    simp [S1x3584x9728] at this
    omega
  rcases hp with rfl | rfl | rfl | rfl | rfl
  · refine (congrFun (congrArg (slab (fun k => x0 (word k)) x1 x2) (h0' 4 (by omega) j inb_S5x3584x9728_S1x3584x9728_4_0_0).symm) j).trans ?_
    exact congrArg _ (hj 4 j inb_S5x3584x9728_S1x3584x9728_4_0_0).symm
  · refine (congrFun (congrArg (slab (fun k => x0 (word k)) x1 x2) (h0' 3 (by omega) j inb_S5x3584x9728_S1x3584x9728_3_0_0).symm) j).trans ?_
    exact congrArg _ (hj 3 j inb_S5x3584x9728_S1x3584x9728_3_0_0).symm
  · refine (congrFun (congrArg (slab (fun k => x0 (word k)) x1 x2) (h0' 2 (by omega) j inb_S5x3584x9728_S1x3584x9728_2_0_0).symm) j).trans ?_
    exact congrArg _ (hj 2 j inb_S5x3584x9728_S1x3584x9728_2_0_0).symm
  · refine (congrFun (congrArg (slab (fun k => x0 (word k)) x1 x2) (h0' 1 (by omega) j inb_S5x3584x9728_S1x3584x9728_1_0_0).symm) j).trans ?_
    exact congrArg _ (hj 1 j inb_S5x3584x9728_S1x3584x9728_1_0_0).symm
  · refine (congrFun (congrArg (slab (fun k => x0 (word k)) x1 x2) (h0' 0 (by omega) j inb_S5x3584x9728_S1x3584x9728_0_0_0).symm) j).trans ?_
    exact congrArg _ (hj 0 j inb_S5x3584x9728_S1x3584x9728_0_0_0).symm

/-! ## The final arrays -/

variable (m : (ℓ : Loc nD τ sig) → Buf (Elt F) ℓ) (ρ : Dev nD → PrngReg)

theorem idx_zero0 : ∀ t : Fin cfg0.N, win0_0.index t (0 : Fin 1) = 0 :=
  (by decide +kernel : ∀ t : Fin grid0.N, _)

theorem emb0 (t : Fin cfg0.N) (j : S5.Idx) : ((cfg0.win 0).blk t).view.emb j = j := by
  have e := idx_zero0 t
  funext a; apply Fin.ext
  match a with
  | ⟨0, _⟩ => show win0_0.index t (0 : Fin 1) * 5 + 1 * (j 0).val = (j 0).val; omega

theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (j : S2x128x3584.Idx) : ((cfg0.win 1).blk t).view.emb j = j := by
  have e := idx_zero1 t
  funext a; apply Fin.ext
  match a with
  | ⟨0, _⟩ => show win0_1.index t (0 : Fin 3) * 2 + 1 * (j 0).val = (j 0).val; omega
  | ⟨1, _⟩ => show win0_1.index t (1 : Fin 3) * 128 + 1 * (j 1).val = (j 1).val; omega
  | ⟨2, _⟩ => show win0_1.index t (2 : Fin 3) * 3584 + 1 * (j 2).val = (j 2).val; omega

theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (j : S2x128x9728.Idx) : ((cfg0.win 2).blk t).view.emb j = j := by
  have e := idx_zero2 t
  funext a; apply Fin.ext
  match a with
  | ⟨0, _⟩ => show win0_2.index t (0 : Fin 3) * 2 + 1 * (j 0).val = (j 0).val; omega
  | ⟨1, _⟩ => show win0_2.index t (1 : Fin 3) * 128 + 1 * (j 1).val = (j 1).val; omega
  | ⟨2, _⟩ => show win0_2.index t (2 : Fin 3) * 9728 + 1 * (j 2).val = (j 2).val; omega

theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

theorem emb3 (t : Fin cfg0.N) (j : S5x3584x9728.Idx) : ((cfg0.win 3).blk t).view.emb j = j := by
  have e := idx_zero3 t
  funext a; apply Fin.ext
  match a with
  | ⟨0, _⟩ => show win0_3.index t (0 : Fin 3) * 5 + 1 * (j 0).val = (j 0).val; omega
  | ⟨1, _⟩ => show win0_3.index t (1 : Fin 3) * 3584 + 1 * (j 1).val = (j 1).val; omega
  | ⟨2, _⟩ => show win0_3.index t (2 : Fin 3) * 9728 + 1 * (j 2).val = (j 2).val; omega

theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

theorem emb4 (t : Fin cfg0.N) (j : S2x128x3584.Idx) : ((cfg0.win 4).blk t).view.emb j = j := by
  have e := idx_zero4 t
  funext a; apply Fin.ext
  match a with
  | ⟨0, _⟩ => show win0_4.index t (0 : Fin 3) * 2 + 1 * (j 0).val = (j 0).val; omega
  | ⟨1, _⟩ => show win0_4.index t (1 : Fin 3) * 128 + 1 * (j 1).val = (j 1).val; omega
  | ⟨2, _⟩ => show win0_4.index t (2 : Fin 3) * 3584 + 1 * (j 2).val = (j 2).val; omega

theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

theorem emb5 (t : Fin cfg0.N) (j : S2x4x3584.Idx) : ((cfg0.win 5).blk t).view.emb j = j := by
  have e := idx_zero5 t
  funext a; apply Fin.ext
  match a with
  | ⟨0, _⟩ => show win0_5.index t (0 : Fin 3) * 2 + 1 * (j 0).val = (j 0).val; omega
  | ⟨1, _⟩ => show win0_5.index t (1 : Fin 3) * 4 + 1 * (j 1).val = (j 1).val; omega
  | ⟨2, _⟩ => show win0_5.index t (2 : Fin 3) * 3584 + 1 * (j 2).val = (j 2).val; omega

theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (j : S2x128x9728.Idx) : ((cfg0.win 6).blk t).view.emb j = j := by
  have e := idx_zero6 t
  funext a; apply Fin.ext
  match a with
  | ⟨0, _⟩ => show win0_6.index t (0 : Fin 3) * 2 + 1 * (j 0).val = (j 0).val; omega
  | ⟨1, _⟩ => show win0_6.index t (1 : Fin 3) * 128 + 1 * (j 1).val = (j 1).val; omega
  | ⟨2, _⟩ => show win0_6.index t (2 : Fin 3) * 9728 + 1 * (j 2).val = (j 2).val; omega

theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

theorem emb7 (t : Fin cfg0.N) (j : S2x4x9728.Idx) : ((cfg0.win 7).blk t).view.emb j = j := by
  have e := idx_zero7 t
  funext a; apply Fin.ext
  match a with
  | ⟨0, _⟩ => show win0_7.index t (0 : Fin 3) * 2 + 1 * (j 0).val = (j 0).val; omega
  | ⟨1, _⟩ => show win0_7.index t (1 : Fin 3) * 4 + 1 * (j 1).val = (j 1).val; omega
  | ⟨2, _⟩ => show win0_7.index t (2 : Fin 3) * 9728 + 1 * (j 2).val = (j 2).val; omega

theorem iblk0_eq (c : Dev nD) (t : Fin cfg0.N) : iblk m c 0 t = V m c main_arg2 := by
  funext j; show V m c main_arg2 (((cfg0.win 0).blk t).view.emb j) = V m c main_arg2 j; rw [emb0]

theorem iblk1_eq (c : Dev nD) (t : Fin cfg0.N) : iblk m c 1 t = V m c main_arg0 := by
  funext j; show V m c main_arg0 (((cfg0.win 1).blk t).view.emb j) = V m c main_arg0 j; rw [emb1]

theorem iblk2_eq (c : Dev nD) (t : Fin cfg0.N) : iblk m c 2 t = V m c main_arg1 := by
  funext j; show V m c main_arg1 (((cfg0.win 2).blk t).view.emb j) = V m c main_arg1 j; rw [emb2]

theorem flushed3_eq (c : Dev nD) (t : Fin cfg0.N) :
    (dats m 0 c).flushed 3 t = ((cfg0.win 3).blk t).view.read (Elt F) (gDW (V m c main_arg2) (V m c main_arg0) (V m c main_arg1)) := by
  rw [flushed3_A, out3_eq, iblk0_eq, iblk1_eq, iblk2_eq]
  funext j
  show (gDW (V m c main_arg2) (V m c main_arg0) (V m c main_arg1) : Vec F S5x3584x9728 .f32) j = (gDW (V m c main_arg2) (V m c main_arg0) (V m c main_arg1) : Vec F S5x3584x9728 .f32) (((cfg0.win 3).blk t).view.emb j)
  rw [emb3]

theorem covered3 (i : S5x3584x9728.Idx) :
    ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb3] at h⟩

theorem final3 (c : Dev nD) : (dats m 0 c).arrAt 3 cfg0.N = gDW (m ((c : Thread nD τ).loc main_arg2)) (m ((c : Thread nD τ).loc main_arg0)) (m ((c : Thread nD τ).loc main_arg1)) :=
  ((dats m 0 c).arrAt_eq_of_cover 3 (gDW (V m c main_arg2) (V m c main_arg0) (V m c main_arg1)) (fun t _ => flushed3_eq m c t) covered3).trans
    (by rw [V_main_arg2, V_main_arg0, V_main_arg1])

theorem flushed4_eq (c : Dev nD) (t : Fin cfg0.N) :
    (dats m 0 c).flushed 4 t = ((cfg0.win 4).blk t).view.read (Elt F) (gXC (V m c main_arg0)) := by
  rw [flushed4_A, out4_eq, iblk1_eq]
  funext j
  show (gXC (V m c main_arg0) : Vec F S2x128x3584 .fp8e4m3) j = (gXC (V m c main_arg0) : Vec F S2x128x3584 .fp8e4m3) (((cfg0.win 4).blk t).view.emb j)
  rw [emb4]

theorem covered4 (i : S2x128x3584.Idx) :
    ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem final4 (c : Dev nD) : (dats m 0 c).arrAt 4 cfg0.N = gXC (m ((c : Thread nD τ).loc main_arg0)) :=
  ((dats m 0 c).arrAt_eq_of_cover 4 (gXC (V m c main_arg0)) (fun t _ => flushed4_eq m c t) covered4).trans
    (by rw [V_main_arg0])

theorem flushed5_eq (c : Dev nD) (t : Fin cfg0.N) :
    (dats m 0 c).flushed 5 t = ((cfg0.win 5).blk t).view.read (Elt F) (gXS (V m c main_arg0)) := by
  rw [flushed5_A, out5_eq, iblk1_eq]
  funext j
  show (gXS (V m c main_arg0) : Vec F S2x4x3584 .f32) j = (gXS (V m c main_arg0) : Vec F S2x4x3584 .f32) (((cfg0.win 5).blk t).view.emb j)
  rw [emb5]

theorem covered5 (i : S2x4x3584.Idx) :
    ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem final5 (c : Dev nD) : (dats m 0 c).arrAt 5 cfg0.N = gXS (m ((c : Thread nD τ).loc main_arg0)) :=
  ((dats m 0 c).arrAt_eq_of_cover 5 (gXS (V m c main_arg0)) (fun t _ => flushed5_eq m c t) covered5).trans
    (by rw [V_main_arg0])

theorem flushed6_eq (c : Dev nD) (t : Fin cfg0.N) :
    (dats m 0 c).flushed 6 t = ((cfg0.win 6).blk t).view.read (Elt F) (gYC (V m c main_arg1)) := by
  rw [flushed6_A, out6_eq, iblk2_eq]
  funext j
  show (gYC (V m c main_arg1) : Vec F S2x128x9728 .fp8e5m2) j = (gYC (V m c main_arg1) : Vec F S2x128x9728 .fp8e5m2) (((cfg0.win 6).blk t).view.emb j)
  rw [emb6]

theorem covered6 (i : S2x128x9728.Idx) :
    ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem final6 (c : Dev nD) : (dats m 0 c).arrAt 6 cfg0.N = gYC (m ((c : Thread nD τ).loc main_arg1)) :=
  ((dats m 0 c).arrAt_eq_of_cover 6 (gYC (V m c main_arg1)) (fun t _ => flushed6_eq m c t) covered6).trans
    (by rw [V_main_arg1])

theorem flushed7_eq (c : Dev nD) (t : Fin cfg0.N) :
    (dats m 0 c).flushed 7 t = ((cfg0.win 7).blk t).view.read (Elt F) (gYS (V m c main_arg1)) := by
  rw [flushed7_A, out7_eq, iblk2_eq]
  funext j
  show (gYS (V m c main_arg1) : Vec F S2x4x9728 .f32) j = (gYS (V m c main_arg1) : Vec F S2x4x9728 .f32) (((cfg0.win 7).blk t).view.emb j)
  rw [emb7]

theorem covered7 (i : S2x4x9728.Idx) :
    ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

theorem final7 (c : Dev nD) : (dats m 0 c).arrAt 7 cfg0.N = gYS (m ((c : Thread nD τ).loc main_arg1)) :=
  ((dats m 0 c).arrAt_eq_of_cover 7 (gYS (V m c main_arg1)) (fun t _ => flushed7_eq m c t) covered7).trans
    (by rw [V_main_arg1])

/-- The reference's run with every result array at its function of the arguments. -/
theorem run : θ_run defs (onTc (τ := τ) (main (F := F))) ⟨m, fun _ => 0, ρ⟩ fun r => ∀ c : Dev nD,
      r.2.mem ((c : Thread nD τ).loc main_v0_0) = gDW (m ((c : Thread nD τ).loc main_arg2)) (m ((c : Thread nD τ).loc main_arg0)) (m ((c : Thread nD τ).loc main_arg1))
      ∧ r.2.mem ((c : Thread nD τ).loc main_v0_1) = gXC (m ((c : Thread nD τ).loc main_arg0))
      ∧ r.2.mem ((c : Thread nD τ).loc main_v0_2) = gXS (m ((c : Thread nD τ).loc main_arg0))
      ∧ r.2.mem ((c : Thread nD τ).loc main_v0_3) = gYC (m ((c : Thread nD τ).loc main_arg1))
      ∧ r.2.mem ((c : Thread nD τ).loc main_v0_4) = gYS (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c),
    (h c).2.2.2.1.trans (final6 m c), (h c).2.2.2.2.1.trans (final7 m c), (h c).2.2.2.2.2⟩) (run_blocks m ρ)

end Cert.ReferenceIdeal.Hand
-- ==== Proof.RefPoint.lean ====
/- The reference's quantiser read at an index over the extended reals, for tokens of any number of columns. -/
module

public import proofs.«01_k».proof.Proof.RefRun
public import proofs.«01_k».proof.Proof.Spec

@[expose] public section

noncomputable section

namespace Cert.ReferenceIdeal.Hand

open Idealize.ShloMosaic Idealize.ShloMosaic.TcCoe
open Idealize.ShloMosaic.ValueIdx
open Cert.KernelIdeal.Hand (lit ratio clamp rcode grp tg tp rb rt rscale cand)

/-! ## The quantiser's steps, the columns and the format's constants left open -/

section
variable {N : ℕ}

/-- Tokens, tokens by groups, groups, rows. -/
abbrev T3 (N : ℕ) : Shape := ⟨3, ![2, 128, N]⟩
abbrev T4 (N : ℕ) : Shape := ⟨4, ![2, 4, 32, N]⟩
abbrev G3 (N : ℕ) : Shape := ⟨3, ![2, 4, N]⟩
abbrev G4 (N : ℕ) : Shape := ⟨4, ![2, 4, 1, N]⟩
abbrev H4 (N : ℕ) : Shape := ⟨4, ![1, 2, 4, N]⟩
abbrev C4 (N : ℕ) : Shape := ⟨4, ![253, 2, 4, N]⟩
abbrev R2 (N : ℕ) : Shape := ⟨2, ![256, N]⟩

/-- A float literal, the same everywhere. -/
abbrev all (t : Shape) (b : BitVec 32) : FVec Ideal t .f32 := broadcast t (Scalar.ofBits (F := Ideal) .f32 b)
/-- The groups' ratios. -/
def ratios (K : BitVec 32) (w : FVec Ideal (T4 N) .f32) (h : (T4 N).Reduces [2] (G3 N)) : FVec Ideal (G3 N) .f32 :=
  mulf (multiReduction .maximumf [2] (G3 N) (absf w) 0xFF800000#32 h (.inl rfl) rfl) (all (G3 N) K)
/-- The candidate scales, the same at every group. -/
def powers (hi : (C4 N).Iotas .tc 32 [0]) : FVec Ideal (C4 N) .f32 := exp2 (subf (sitofp .f32 (iota .tc (C4 N) 32 [0] hi)) (all (C4 N) 0x42FA0000#32))
/-- The candidates, those not above the ratio replaced by the largest. -/
def cands (r : FVec Ideal (G3 N) .f32) (hi : (C4 N).Iotas .tc 32 [0]) (hc : (G3 N).ShapeCasts (H4 N)) (hb : (H4 N).Broadcasts (C4 N)) : FVec Ideal (C4 N) .f32 :=
  select (cmpf .ogt (powers hi) (broadcastTo (C4 N) (shapeCast (H4 N) r hc) hb)) (powers hi) (all (C4 N) 0x7F000000#32)
/-- The groups' scales. -/
def scales (r : FVec Ideal (G3 N) .f32) (hi : (C4 N).Iotas .tc 32 [0]) (hc : (G3 N).ShapeCasts (H4 N)) (hb : (H4 N).Broadcasts (C4 N))
    (hm : (C4 N).Reduces [0] (G3 N)) : FVec Ideal (G3 N) .f32 :=
  select (cmpf .olt r (all (G3 N) 0x00800000#32)) (all (G3 N) 0x3F800000#32)
    (multiReduction .minimumf [0] (G3 N) (cands r hi hc hb) 0x7F800000#32 hm (.inl rfl) rfl)
/-- A value per group, at each of the group's elements. -/
def spread (s : (G3 N).Idx → EReal) (hc : (G3 N).ShapeCasts (G4 N)) (hb : (G4 N).Broadcasts (T4 N)) : (T4 N).Idx → EReal :=
  broadcastTo (T4 N) (shapeCast (G4 N) s hc) hb

theorem byGroup_apply (w : (T3 N).Idx → EReal) (h : (T3 N).ShapeCasts (T4 N)) (b : Fin 2) (n : Fin 4) (j : Fin 32) (c : Fin N) :
    shapeCast (T4 N) w h (ix4 b n j c) = grp w b n c j := by
  show w (Shape.reshapeEquiv _ _) = w (ix3 b _ c)
  rw [Shape.reshapeEquiv_eq_of_rowMajor]
  rw [Shape.rowMajor_val_three, Shape.rowMajor_val_four]
  show (b.val * 128 + (32 * n.val + j.val)) * N + c.val = ((b.val * 4 + n.val) * 32 + j.val) * N + c.val
  congr 2; omega

theorem toTokens_apply (q : (T4 N).Idx → EReal) (h : (T4 N).ShapeCasts (T3 N)) (b : Fin 2) (t : Fin 128) (c : Fin N) :
    shapeCast (T3 N) q h (ix3 b t c) = q (ix4 b (tg t) (tp t) c) := by
  show q (Shape.reshapeEquiv _ _) = _
  rw [Shape.reshapeEquiv_eq_of_rowMajor]
  rw [Shape.rowMajor_val_three, Shape.rowMajor_val_four]
  show ((b.val * 4 + t.val / 32) * 32 + t.val % 32) * N + c.val = (b.val * 128 + t.val) * N + c.val
  congr 2; omega

theorem toRows_apply (q : (T4 N).Idx → EReal) (h : (T4 N).ShapeCasts (R2 N)) (r : Fin 256) (c : Fin N) :
    shapeCast (R2 N) q h (ix2 r c) = q (ix4 (rb r) (tg (rt r)) (tp (rt r)) c) := by
  show q (Shape.reshapeEquiv _ _) = _
  rw [Shape.reshapeEquiv_eq_of_rowMajor]
  rw [Shape.rowMajor_val_two, Shape.rowMajor_val_four]
  show ((r.val / 128 * 4 + r.val % 128 / 32) * 32 + r.val % 128 % 32) * N + c.val = r.val * N + c.val
  congr 2; omega

theorem spread_apply (s : (G3 N).Idx → EReal) (hc : (G3 N).ShapeCasts (G4 N)) (hb : (G4 N).Broadcasts (T4 N)) (b : Fin 2) (n : Fin 4) (j : Fin 32) (c : Fin N) :
    spread s hc hb (ix4 b n j c) = s (ix3 b n c) := by
  have e : ∀ x : (G4 N).Idx → EReal, broadcastTo (T4 N) x hb (ix4 b n j c) = x (ix4 b n 0 c) := by
    intro x
    refine congrArg x ?_
    funext a
    refine Fin.ext ?_
    fin_cases a
    · rfl
    · rfl
    · rfl
    · by_cases hN : N = 1
      · subst hN
        exact (show (0 : ℕ) = c.val by omega)
      · exact congrArg Fin.val (dif_neg hN)
  refine (e _).trans ?_
  show s (Shape.reshapeEquiv _ _) = _
  rw [Shape.reshapeEquiv_eq_of_rowMajor]
  rw [Shape.rowMajor_val_three, Shape.rowMajor_val_four]
  show (b.val * 4 + n.val) * N + c.val = ((b.val * 4 + n.val) * 1 + 0) * N + c.val
  congr 2; omega

theorem over_apply (r : (G3 N).Idx → EReal) (hc : (G3 N).ShapeCasts (H4 N)) (hb : (H4 N).Broadcasts (C4 N)) (k : Fin 253) (b : Fin 2) (n : Fin 4) (c : Fin N) :
    broadcastTo (C4 N) (shapeCast (H4 N) r hc) hb (ix4 k b n c) = r (ix3 b n c) := by
  have e : ∀ x : (H4 N).Idx → EReal, broadcastTo (C4 N) x hb (ix4 k b n c) = x (ix4 0 b n c) := by
    intro x
    refine congrArg x ?_
    funext a
    refine Fin.ext ?_
    fin_cases a
    · rfl
    · rfl
    · rfl
    · by_cases hN : N = 1
      · subst hN
        exact (show (0 : ℕ) = c.val by omega)
      · exact congrArg Fin.val (dif_neg hN)
  refine (e _).trans ?_
  show r (Shape.reshapeEquiv _ _) = _
  rw [Shape.reshapeEquiv_eq_of_rowMajor]
  rw [Shape.rowMajor_val_three, Shape.rowMajor_val_four]
  show (b.val * 4 + n.val) * N + c.val = ((0 * 2 + b.val) * 4 + n.val) * N + c.val
  congr 2; omega

theorem cands_apply (r : (G3 N).Idx → EReal) (hi : (C4 N).Iotas .tc 32 [0]) (hc : (G3 N).ShapeCasts (H4 N)) (hb : (H4 N).Broadcasts (C4 N))
    (k : Fin 253) (b : Fin 2) (n : Fin 4) (c : Fin N) : cands r hi hc hb (ix4 k b n c)
      = Scalar.select (Ideal.cmp .ogt (cand k.val) (r (ix3 b n c))) (cand k.val) (lit 0x7F000000#32) := by
  have hk : powers hi (ix4 k b n c) = cand k.val := by
    have : iota .tc (C4 N) 32 [0] hi (ix4 k b n c) = BitVec.ofNat 32 k.val := by
      show BitVec.ofNat 32 (0 * 253 + k.val) = _
      rw [Nat.zero_mul, Nat.zero_add]
    unfold cand
    rw [← this]; rfl
  show Scalar.select (Ideal.cmp .ogt (powers hi (ix4 k b n c)) (broadcastTo (C4 N) (shapeCast (H4 N) r hc) hb (ix4 k b n c))) (powers hi (ix4 k b n c)) (lit 0x7F000000#32) = _
  rw [over_apply, hk]

theorem ratios_apply (K : BitVec 32) (w : (T4 N).Idx → EReal) (h : (T4 N).Reduces [2] (G3 N)) (b : Fin 2) (n : Fin 4) (c : Fin N) :
    ratios K w h (ix3 b n c) = ratio K fun j => w (ix4 b n j c) := by
  have h0 : ratios K w h (ix3 b n c) = _ * lit K :=
    congrArg (· * lit K) (Ideal.multiReduction_maximumf_single (φ := .f32) (absf (F := Ideal) (φ := .f32) w) 0xFF800000#32 h (.inl rfl) rfl (ix3 b n c))
  rw [h0]
  unfold ratio
  have e : (absf (F := Ideal) (φ := .f32) w ∘ h.lift (ix3 b n c)) = fun j : Fin 32 => max (w (ix4 b n j c)) (-(w (ix4 b n j c))) := by
    funext j
    have : h.lift (ix3 b n c) j = ix4 b n j c := by
      funext a; fin_cases a <;> rfl
    show max (w (h.lift (ix3 b n c) j)) (-(w (h.lift (ix3 b n c) j))) = _
    rw [this]; rfl
  rw [e]; rfl

theorem scales_apply (r : (G3 N).Idx → EReal) (hi : (C4 N).Iotas .tc 32 [0]) (hc : (G3 N).ShapeCasts (H4 N)) (hb : (H4 N).Broadcasts (C4 N))
    (hm : (C4 N).Reduces [0] (G3 N)) (b : Fin 2) (n : Fin 4) (c : Fin N) : scales r hi hc hb hm (ix3 b n c) = rscale (r (ix3 b n c)) := by
  show Scalar.select (Ideal.cmp .olt (r (ix3 b n c)) (lit 0x00800000#32)) (lit 0x3F800000#32) (multiReduction (F := Ideal) (φ := .f32) .minimumf [0] (G3 N) (cands r hi hc hb) 0x7F800000#32 hm (.inl rfl) rfl (ix3 b n c)) = _
  unfold rscale
  congr 1
  refine (multiReduction_minimumf_eq_fold (F := Ideal) (φ := .f32) (cands r hi hc hb) 0x7F800000#32 hm (.inl rfl) rfl (ix3 b n c)).trans ?_
  refine (hm.fold_filter_drop_single _ _ (cands r hi hc hb) (ix3 b n c)).trans ?_
  have e : (cands r hi hc hb ∘ hm.lift (ix3 b n c)) = fun k : Fin 253 => Scalar.select (Ideal.cmp .ogt (cand k.val) (r (ix3 b n c))) (cand k.val) (lit 0x7F000000#32) := by
    funext k
    have : hm.lift (ix3 b n c) k = ix4 k b n c := by
      funext a; fin_cases a <;> rfl
    show cands r hi hc hb (hm.lift (ix3 b n c) k) = _
    rw [this]
    exact cands_apply r hi hc hb k b n c
  rw [e]; rfl

/-- The codes. -/
def codes (lo hi : BitVec 32) (w : FVec Ideal (T4 N) .f32) (s : FVec Ideal (G3 N) .f32) (hc : (G3 N).ShapeCasts (G4 N)) (hb : (G4 N).Broadcasts (T4 N))
    (ht : (T4 N).ShapeCasts (T3 N)) : FVec Ideal (T3 N) .f32 :=
  shapeCast (T3 N) (minimumf (all (T4 N) hi) (maximumf (all (T4 N) lo) (mulf w (spread (divf (all (G3 N) 0x3F800000#32) s) hc hb)))) ht
/-- The values the codes stand for, by rows. -/
def hats (q : FVec Ideal (T3 N) .bf16) (s : FVec Ideal (G3 N) .bf16) (hg : (T3 N).ShapeCasts (T4 N)) (hc : (G3 N).ShapeCasts (G4 N)) (hb : (G4 N).Broadcasts (T4 N))
    (hr : (T4 N).ShapeCasts (R2 N)) : FVec Ideal (R2 N) .bf16 :=
  shapeCast (R2 N) (mulf (shapeCast (T4 N) q hg) (spread s hc hb)) hr

theorem codes_apply (lo hi : BitVec 32) (w : (T4 N).Idx → EReal) (s : (G3 N).Idx → EReal) (hc : (G3 N).ShapeCasts (G4 N)) (hb : (G4 N).Broadcasts (T4 N))
    (ht : (T4 N).ShapeCasts (T3 N)) (b : Fin 2) (t : Fin 128) (c : Fin N) :
    codes lo hi w s hc hb ht (ix3 b t c) = clamp lo hi (w (ix4 b (tg t) (tp t) c)) (Ideal.div (lit 0x3F800000#32) (s (ix3 b (tg t) c))) := by
  unfold codes
  rw [toTokens_apply]
  show min (lit hi) (max (lit lo) (w (ix4 b (tg t) (tp t) c) * spread (divf (F := Ideal) (φ := .f32) (all (G3 N) 0x3F800000#32) s) hc hb (ix4 b (tg t) (tp t) c))) = _
  rw [spread_apply]; rfl

theorem hats_apply (q : (T3 N).Idx → EReal) (s : (G3 N).Idx → EReal) (hg : (T3 N).ShapeCasts (T4 N)) (hc : (G3 N).ShapeCasts (G4 N)) (hb : (G4 N).Broadcasts (T4 N))
    (hr : (T4 N).ShapeCasts (R2 N)) (r : Fin 256) (c : Fin N) :
    hats q s hg hc hb hr (ix2 r c) = q (ix3 (rb r) (rt r) c) * s (ix3 (rb r) (tg (rt r)) c) := by
  unfold hats
  rw [toRows_apply]
  show shapeCast (T4 N) q hg (ix4 (rb r) (tg (rt r)) (tp (rt r)) c) * spread s hc hb (ix4 (rb r) (tg (rt r)) (tp (rt r)) c) = _
  rw [spread_apply, byGroup_apply]
  unfold grp
  congr 3
  exact Fin.ext (show 32 * (r.val % 128 / 32) + r.val % 128 % 32 = r.val % 128 by omega)

end

/-- A change of float format changes no value. -/
theorem extf_at {s : Shape} {φ φ' : FTy} (v : FVec Ideal s φ) (h : φ.bits < φ'.bits) (i : s.Idx) : extf φ' v h i = v i := rfl
theorem truncf_at {s : Shape} {φ φ' : FTy} (v : FVec Ideal s φ) (h : φ'.bits < φ.bits) (i : s.Idx) : truncf φ' v h i = v i := rfl

/-! ## The program's -/

section
open Cert.ReferenceIdeal Cert.ReferenceIdeal.Gen
set_option maxRecDepth 65536
variable (x1 : S2x128x3584.Idx → EReal) (x2 : S2x128x9728.Idx → EReal)

theorem gXS_apply (b : Fin 2) (n : Fin 4) (c : Fin 3584) : gXS (F := Ideal) x1 (ix3 b n c) = rscale (ratio 0x3B124925#32 (grp x1 b n c)) := by
  have h : gXS (F := Ideal) x1 = scales (ratios 0x3B124925#32 (shapeCast (T4 3584) x1 shapeCasts_S2x128x3584_S2x4x32x3584) reduces_S2x4x32x3584_S2x4x3584)
      iota_S253x2x4x3584_d0_w32 shapeCasts_S2x4x3584_S1x2x4x3584 broadcasts_S1x2x4x3584_S253x2x4x3584 reduces_S253x2x4x3584_S2x4x3584 := rfl
  rw [h, scales_apply, ratios_apply]
  congr 2; funext j; exact byGroup_apply x1 _ b n j c

theorem gYS_apply (b : Fin 2) (n : Fin 4) (c : Fin 9728) : gYS (F := Ideal) x2 (ix3 b n c) = rscale (ratio 0x37924925#32 (grp x2 b n c)) := by
  have h : gYS (F := Ideal) x2 = scales (ratios 0x37924925#32 (shapeCast (T4 9728) x2 shapeCasts_S2x128x9728_S2x4x32x9728) reduces_S2x4x32x9728_S2x4x9728)
      iota_S253x2x4x9728_d0_w32 shapeCasts_S2x4x9728_S1x2x4x9728 broadcasts_S1x2x4x9728_S253x2x4x9728 reduces_S253x2x4x9728_S2x4x9728 := rfl
  rw [h, scales_apply, ratios_apply]
  congr 2; funext j; exact byGroup_apply x2 _ b n j c

theorem gXC_apply (b : Fin 2) (t : Fin 128) (c : Fin 3584) :
    gXC (F := Ideal) x1 (ix3 b t c) = rcode 0x3B124925#32 0xC3E00000#32 0x43E00000#32 (grp x1 b (tg t) c) (tp t) := by
  have h : gXC (F := Ideal) x1 = codes 0xC3E00000#32 0x43E00000#32 (shapeCast (T4 3584) x1 shapeCasts_S2x128x3584_S2x4x32x3584) (gXS (F := Ideal) x1)
      shapeCasts_S2x4x3584_S2x4x1x3584 broadcasts_S2x4x1x3584_S2x4x32x3584 shapeCasts_S2x4x32x3584_S2x128x3584 := rfl
  rw [h, codes_apply, gXS_apply, byGroup_apply]; rfl

theorem gYC_apply (b : Fin 2) (t : Fin 128) (c : Fin 9728) :
    gYC (F := Ideal) x2 (ix3 b t c) = rcode 0x37924925#32 0xC7600000#32 0x47600000#32 (grp x2 b (tg t) c) (tp t) := by
  have h : gYC (F := Ideal) x2 = codes 0xC7600000#32 0x47600000#32 (shapeCast (T4 9728) x2 shapeCasts_S2x128x9728_S2x4x32x9728) (gYS (F := Ideal) x2)
      shapeCasts_S2x4x9728_S2x4x1x9728 broadcasts_S2x4x1x9728_S2x4x32x9728 shapeCasts_S2x4x32x9728_S2x128x9728 := rfl
  rw [h, codes_apply, gYS_apply, byGroup_apply]; rfl

theorem gXH_apply (r : Fin 256) (c : Fin 3584) : gXH (F := Ideal) x1 (ix2 r c)
    = rcode 0x3B124925#32 0xC3E00000#32 0x43E00000#32 (grp x1 (rb r) (tg (rt r)) c) (tp (rt r)) * rscale (ratio 0x3B124925#32 (grp x1 (rb r) (tg (rt r)) c)) := by
  have h : gXH (F := Ideal) x1 = hats (extf .bf16 (gXC (F := Ideal) x1) bitsLt_fp8e4m3_bf16) (truncf .bf16 (gXS (F := Ideal) x1) bitsLt_bf16_f32) shapeCasts_S2x128x3584_S2x4x32x3584
      shapeCasts_S2x4x3584_S2x4x1x3584 broadcasts_S2x4x1x3584_S2x4x32x3584 shapeCasts_S2x4x32x3584_S256x3584 := rfl
  rw [h, hats_apply, extf_at, truncf_at, gXC_apply, gXS_apply]

theorem gYH_apply (r : Fin 256) (c : Fin 9728) : gYH (F := Ideal) x2 (ix2 r c)
    = rcode 0x37924925#32 0xC7600000#32 0x47600000#32 (grp x2 (rb r) (tg (rt r)) c) (tp (rt r)) * rscale (ratio 0x37924925#32 (grp x2 (rb r) (tg (rt r)) c)) := by
  have h : gYH (F := Ideal) x2 = hats (extf .bf16 (gYC (F := Ideal) x2) bitsLt_fp8e5m2_bf16) (truncf .bf16 (gYS (F := Ideal) x2) bitsLt_bf16_f32) shapeCasts_S2x128x9728_S2x4x32x9728
      shapeCasts_S2x4x9728_S2x4x1x9728 broadcasts_S2x4x1x9728_S2x4x32x9728 shapeCasts_S2x4x32x9728_S256x9728 := rfl
  rw [h, hats_apply, extf_at, truncf_at, gYC_apply, gYS_apply]

end

end Cert.ReferenceIdeal.Hand
-- ==== Proof.Bound.lean ====
/- The precondition: every token and every output gradient is finite. Then every group's ratio is a nonnegative number
   well below the largest power of two a scale may have. -/
module

public import proofs.«01_k».proof.Pre_finite
public import proofs.«01_k».proof.Proof.Spec
public import Idealize.ShloMosaic.Lib.ReduceAll

@[expose] public section

noncomputable section

namespace Cert.KernelIdeal.Hand

open Idealize.ShloMosaic
open Idealize.ShloMosaic.ValueIdx

/-! ## The shape facts of the precondition -/

theorem finite_facts : Cert.Pre_finite.Facts where
  bitsLt_bf16_f32 := by decide
  bcast_S_S2x128x3584 := by decide
  reducesTo_S2x128x3584_S_d0_1_2 := by decide
  h_S_ := by decide
  bcast_S_S2x128x9728 := by decide
  reducesTo_S2x128x9728_S_d0_1_2 := by decide

/-! ## Literals -/

/-- A pattern with a plain sign and an exponent field within the normal range is between zero and the next power of two. -/
theorem ieee_between (b : BitVec 32) (n : ℕ) (a : (b.extractLsb' (8 + 23) 1 == 1#1) = false)
    (e : (b.extractLsb' 23 8).toNat = n) (h0 : n ≠ 0) (h1 : n ≠ 2 ^ 8 - 1) :
    0 ≤ Ideal.ieee 8 23 b ∧ Ideal.ieee 8 23 b ≤ pw ((n : ℤ) - 126) := by
  have hf : (b.extractLsb' 0 23).toNat < 2 ^ 23 := BitVec.isLt _
  unfold Ideal.ieee
  dsimp only
  rw [e, if_neg h1, if_neg h0, a, if_neg Bool.false_ne_true]
  constructor
  · refine EReal.coe_nonneg.2 ?_
    positivity
  · unfold pw
    refine EReal.coe_le_coe_iff.2 ?_
    have h : ((n : ℤ) - 126) = ((n : ℤ) - ((2 : ℤ) ^ (8 - 1) - 1) - (23 : ℕ)) + 24 := by norm_num; ring
    rw [h, zpow_add₀ (by norm_num : (2 : ℝ) ≠ 0), mul_comm ((2 : ℝ) ^ _)]
    refine mul_le_mul_of_nonneg_right ?_ (by positivity)
    generalize (b.extractLsb' 0 23).toNat = f at *
    have hr : (f : ℝ) ≤ 8388608 := by
      have : f ≤ 8388608 := by omega
      exact_mod_cast this
    push_cast
    norm_num
    linarith

theorem lit_between (b : BitVec 32) (n : ℕ) (a : (b.extractLsb' (8 + 23) 1 == 1#1) = false)
    (e : (b.extractLsb' 23 8).toNat = n) (h0 : n ≠ 0) (h1 : n ≠ 2 ^ 8 - 1) : 0 ≤ lit b ∧ lit b ≤ pw ((n : ℤ) - 126) :=
  ieee_between b n a e h0 h1

theorem lit_x : 0 ≤ lit 0x3B124925#32 ∧ lit 0x3B124925#32 ≤ pw (-8) := lit_between _ 118 (by decide) (by decide) (by decide) (by decide)
theorem lit_y : 0 ≤ lit 0x37924925#32 ∧ lit 0x37924925#32 ≤ pw (-8) :=
  ⟨(lit_between _ 111 (by decide) (by decide) (by decide) (by decide)).1,
    ((lit_between _ 111 (by decide) (by decide) (by decide) (by decide)).2).trans (pw_le.2 (by norm_num))⟩
theorem lit_finite : lit 0x7F7F0000#32 ≤ pw 128 := (lit_between _ 254 (by decide) (by decide) (by decide) (by decide)).2
theorem lit_bot : lit 0xFF800000#32 = ⊥ := by
  show Ideal.ieee 8 23 (0xFF800000#32) = ⊥
  have a : ((0xFF800000#32).extractLsb' (8 + 23) 1 == 1#1) = true := by decide
  have b : ((0xFF800000#32).extractLsb' 23 8).toNat = 255 := by decide
  have c : ((0xFF800000#32).extractLsb' 0 23).toNat = 0 := by decide
  unfold Ideal.ieee
  dsimp only
  rw [a, b, c]
  norm_num

/-! ## The ratio -/

theorem ratio_bounds (K : BitVec 32) (hK : 0 ≤ lit K ∧ lit K ≤ pw (-8)) (x : Fin 32 → EReal)
    (hx : ∀ j, max (x j) (-(x j)) ≤ lit 0x7F7F0000#32) : 0 ≤ ratio K x ∧ ratio K x < pw 126 := by
  have h0 : 0 ≤ (Finset.univ : Finset (Fin 32)).fold max (lit 0xFF800000#32) (fun j => max (x j) (-(x j))) := by
    refine (Finset.le_fold_max _).2 (Or.inr ⟨0, Finset.mem_univ _, ?_⟩)
    rcases le_total 0 (x 0) with h | h
    · exact le_max_of_le_left h
    · exact le_max_of_le_right (EReal.neg_nonneg.2 h)
  have h1 : (Finset.univ : Finset (Fin 32)).fold max (lit 0xFF800000#32) (fun j => max (x j) (-(x j))) ≤ pw 128 := by
    refine (Finset.fold_max_le _).2 ⟨?_, fun j _ => (hx j).trans lit_finite⟩
    rw [lit_bot]; exact bot_le
  unfold ratio
  refine ⟨mul_nonneg h0 hK.1, lt_of_le_of_lt (mul_le_mul h1 hK.2 hK.1 (pw_pos _).le) ?_⟩
  unfold pw
  rw [← EReal.coe_mul]
  refine EReal.coe_lt_coe_iff.2 ?_
  rw [← zpow_add₀ (by norm_num : (2 : ℝ) ≠ 0)]
  exact zpow_lt_zpow_right₀ (by norm_num) (by norm_num)

/-! ## The precondition's bounds -/

section
open Cert.Pre_finite
instance : Subsingleton S_.Idx := ⟨fun a b => funext fun d => d.elim0⟩

theorem finite_bounds [Facts] (x : FVec Ideal S2x128x3584 .bf16) (y : FVec Ideal S2x128x9728 .bf16) (g : IVec S5 32)
    (h : fn (F := Ideal) x y g = fun _ => 1#1) :
    (∀ i, max (x i : EReal) (-(x i : EReal)) ≤ lit 0x7F7F0000#32) ∧ (∀ i, max (y i : EReal) (-(y i : EReal)) ≤ lit 0x7F7F0000#32) := by
  have h' := congrFun h (fun d => d.elim0)
  have key : ∀ a b : BitVec 1, IntOp.andi a b = 1#1 → a = 1#1 ∧ b = 1#1 := by decide
  obtain ⟨h1, h2⟩ := key _ _ h'
  have le : ∀ a b : EReal, Ideal.cmp .ole a b = 1#1 → a ≤ b := by
    intro a b hab
    by_contra hc
    simp [Ideal.cmp, hc] at hab
  exact ⟨fun i => le _ _ (Host.reduce_andi_all _ _ _ _ _ h1 i), fun i => le _ _ (Host.reduce_andi_all _ _ _ _ _ h2 i)⟩

end

end Cert.KernelIdeal.Hand
-- ==== Proof.Grad.lean ====
/- The gradient over the extended reals: what the kernel leaves at a place is the sum over the tokens that the
   reference states. -/
module

public import proofs.«01_k».proof.Proof.KernelQuant
public import proofs.«01_k».proof.Proof.RefPoint
public import proofs.«01_k».proof.Proof.Run
public import proofs.«01_k».proof.Proof.Bound
public import Idealize.ShloMosaic.Lib.Pointwise.Contract

@[expose] public section

noncomputable section

namespace Cert.KernelIdeal.Hand

open Idealize.ShloMosaic hiding ix1 ix2 ix3 ix4 eq_ix2 eq_ix3
open Idealize.ShloMosaic.TcCoe
open Idealize.ShloMosaic.ValueIdx

/-- Whether a token is at or past `a`, and whether it is before `b`. -/
def atOrPast (a : BitVec 32) (t : Fin 256) : BitVec 1 := IntOp.cmpi .sge (BitVec.ofNat 32 t.val) a
def before (b : BitVec 32) (t : Fin 256) : BitVec 1 := IntOp.cmpi .slt (BitVec.ofNat 32 t.val) b

section
open Cert.KernelIdeal Cert.KernelIdeal.Gen

theorem product_apply (a b : BitVec 32) (P : FVec Ideal S128x256 .bf16) (Y : FVec Ideal S256x9728 .bf16) (r : Fin 128) (q : Fin 9728) :
    k0_pay15 (F := Ideal) a b P Y (ix3 0 r q)
      = lit 0#32 + ∑ t : Fin 256, Scalar.select (IntOp.andi (atOrPast a t) (before b t)) (P (ix2 r t)) (lit 0#32) * Y (ix2 t q) := by
  have hiota : ∀ t : Fin 256, iota .tc S128x256 32 [1] iota_S128x256_d1_w32 (ix2 r t) = BitVec.ofNat 32 t.val := by
    intro t
    show BitVec.ofNat 32 (0 * 256 + t.val) = _
    rw [Nat.zero_mul, Nat.zero_add]
  unfold k0_pay15
  have h0 : ∀ x : S128x9728.Idx → EReal, shapeCast S1x128x9728 x shapeCasts_S128x9728_S1x128x9728 (ix3 0 r q) = x (ix2 r q) := by
    intro x
    show x (Shape.reshapeEquiv _ _) = _
    rw [Shape.reshapeEquiv_eq_of_rowMajor]
    rw [Shape.rowMajor_val_three, Shape.rowMajor_val_two]
    show r.val * 9728 + q.val = (0 * 128 + r.val) * 9728 + q.val
    omega
  refine (h0 _).trans ?_
  refine (Ideal.matmul_apply₁_of dot_S128x256_S256x9728_S128x9728_1_0_0_1_n_n (a := 1) rfl (K := 256) rfl _ _ _ (ix2 r q) (fun t => ix2 r t) (fun t => ix2 t q) ?_ ?_).trans ?_
  · intro k; funext a; fin_cases a <;> rfl
  · intro k; funext a; fin_cases a <;> rfl
  · refine congrArg (lit 0#32 + ·) (Finset.sum_congr rfl fun t _ => ?_)
    unfold atOrPast before
    rw [← hiota t]
    rfl

end

section
open Cert.ReferenceIdeal Cert.ReferenceIdeal.Gen

/-- The zero of one width is the zero of the other. -/
theorem zero_bf16 : FloatOps.ofBits (F := Ideal) FTy.bf16 0x0000#16 = lit 0#32 := by
  simp [lit, Ideal.ofBits, Ideal.ieee]

theorem slab_apply (a s g : BitVec 32) (X : FVec Ideal S256x3584 .bf16) (Y : FVec Ideal S256x9728 .bf16) (r : Fin 3584) (q : Fin 9728) :
    k0_pay1 (F := Ideal) X Y Cert.ReferenceIdeal.Hand.rows a (Scalar.addi a s) (Scalar.cmpi .sgt g 0#32) (ix3 0 r q)
      = lit 0#32 + ∑ t : Fin 256, Scalar.select (IntOp.andi (IntOp.andi (Scalar.cmpi .sgt g 0#32) (atOrPast a t)) (before (Scalar.addi a s) t)) (X (ix2 t r)) (lit 0#32) * Y (ix2 t q) := by
  have hiota : ∀ t : Fin 256, Cert.ReferenceIdeal.Hand.rows (ix2 t r) = BitVec.ofNat 32 t.val := by
    intro t
    show BitVec.ofNat 32 (0 * 256 + t.val) = _
    rw [Nat.zero_mul, Nat.zero_add]
  unfold k0_pay1
  have h0 : ∀ x : S3584x9728.Idx → EReal, shapeCast S1x3584x9728 x shapeCasts_S3584x9728_S1x3584x9728 (ix3 0 r q) = x (ix2 r q) := by
    intro x
    show x (Shape.reshapeEquiv _ _) = _
    rw [Shape.reshapeEquiv_eq_of_rowMajor]
    rw [Shape.rowMajor_val_three, Shape.rowMajor_val_two]
    show r.val * 9728 + q.val = (0 * 3584 + r.val) * 9728 + q.val
    omega
  refine (h0 _).trans ?_
  refine (Ideal.matmul_apply₁_of dot_S256x3584_S256x9728_S3584x9728_0_0_1_1_n_n (a := 0) rfl (K := 256) rfl _ _ _ (ix2 r q) (fun t => ix2 t r) (fun t => ix2 t q) ?_ ?_).trans ?_
  · intro k; funext a; fin_cases a <;> rfl
  · intro k; funext a; fin_cases a <;> rfl
  · refine congrArg (lit 0#32 + ·) (Finset.sum_congr rfl fun t _ => ?_)
    unfold atOrPast before
    rw [← hiota t, ← zero_bf16]
    rfl

end

/-! ## The two sides' quantised tokens and gradients -/

section
open Cert.KernelIdeal Cert.KernelIdeal.Gen
open Cert.ReferenceIdeal.Hand (gXC gXS gXH gYC gYS gYH gDW start word slab)

variable (c : Dev nD) (f0 : S5.Idx → BitVec 32) (f1 : S2x128x3584.Idx → EReal) (f2 : S2x128x9728.Idx → EReal)
variable (hx : ∀ i, max (f1 i) (-(f1 i)) ≤ lit 0x7F7F0000#32) (hy : ∀ i, max (f2 i) (-(f2 i)) ≤ lit 0x7F7F0000#32)

include hx in
theorem x_small (b : Fin 2) (g : Fin 4) (n : Fin 3584) : 0 ≤ ratio 0x3B124925#32 (grp f1 b g n) ∧ ratio 0x3B124925#32 (grp f1 b g n) < pw 126 :=
  ratio_bounds _ lit_x _ fun j => hx _
include hy in
theorem y_small (b : Fin 2) (g : Fin 4) (n : Fin 9728) : 0 ≤ ratio 0x37924925#32 (grp f2 b g n) ∧ ratio 0x37924925#32 (grp f2 b g n) < pw 126 :=
  ratio_bounds _ lit_y _ fun j => hy _

include hx in
theorem xC_eq : xC (F := Ideal) c f1 = gXC (F := Ideal) f1 := by
  funext i
  obtain ⟨b, t, n, rfl⟩ : ∃ b t n, i = ix3 b t n := ⟨_, _, _, eq_ix3 i⟩
  rw [xC_apply]
  refine (code_eq _ _ _ _ _ (x_small f1 hx _ _ _).1 (x_small f1 hx _ _ _).2).trans ?_
  exact (Cert.ReferenceIdeal.Hand.gXC_apply f1 b t n).symm
include hx in
theorem xS_eq : xS (F := Ideal) c f1 = gXS (F := Ideal) f1 := by
  funext i
  obtain ⟨b, t, n, rfl⟩ : ∃ b t n, i = ix3 b t n := ⟨_, _, _, eq_ix3 i⟩
  rw [xS_apply]
  refine (scale_eq (x_small f1 hx _ _ _).1 (x_small f1 hx _ _ _).2).trans ?_
  exact (Cert.ReferenceIdeal.Hand.gXS_apply f1 b t n).symm
include hx in
theorem xH_eq (n : Fin 3584) (t : Fin 256) : xH (F := Ideal) c f1 (ix2 n t) = gXH (F := Ideal) f1 (ix2 t n) := by
  rw [xH_apply, Cert.ReferenceIdeal.Hand.gXH_apply, code_eq _ _ _ _ _ (x_small f1 hx _ _ _).1 (x_small f1 hx _ _ _).2,
    scale_eq (x_small f1 hx _ _ _).1 (x_small f1 hx _ _ _).2]
include hy in
theorem yC_eq : yC (F := Ideal) c f2 = gYC (F := Ideal) f2 := by
  funext i
  obtain ⟨b, t, n, rfl⟩ : ∃ b t n, i = ix3 b t n := ⟨_, _, _, eq_ix3 i⟩
  rw [yC_apply]
  refine (code_eq _ _ _ _ _ (y_small f2 hy _ _ _).1 (y_small f2 hy _ _ _).2).trans ?_
  exact (Cert.ReferenceIdeal.Hand.gYC_apply f2 b t n).symm
include hy in
theorem yS_eq : yS (F := Ideal) c f2 = gYS (F := Ideal) f2 := by
  funext i
  obtain ⟨b, t, n, rfl⟩ : ∃ b t n, i = ix3 b t n := ⟨_, _, _, eq_ix3 i⟩
  rw [yS_apply]
  refine (scale_eq (y_small f2 hy _ _ _).1 (y_small f2 hy _ _ _).2).trans ?_
  exact (Cert.ReferenceIdeal.Hand.gYS_apply f2 b t n).symm
include hy in
theorem yH_eq (t : Fin 256) (n : Fin 9728) : yH (F := Ideal) c f2 (ix2 t n) = gYH (F := Ideal) f2 (ix2 t n) := by
  rw [yH_apply, Cert.ReferenceIdeal.Hand.gYH_apply, code_eq _ _ _ _ _ (y_small f2 hy _ _ _).1 (y_small f2 hy _ _ _).2,
    scale_eq (y_small f2 hy _ _ _).1 (y_small f2 hy _ _ _).2]

/-! ## The gradient -/

/-- Where an expert's tokens start and end, and whether it has any, in the reference's words. -/
theorem sizes_eq (e : Fin 5) : szs (F := Ideal) c A0 f0 e = f0 (word e) :=
  congrArg f0 (funext fun a => by fin_cases a; exact Fin.ext (by show e.val + 1 * 0 = e.val; omega))
theorem start_eq (e : Fin 5) : Wds (F := Ideal) c A0 f0 e.val = start (fun k => f0 (word k)) e := by
  unfold Wds
  rw [sizes_eq, sizes_eq, sizes_eq, sizes_eq, sizes_eq]
  fin_cases e <;> rfl
theorem stop_eq (e : Fin 5) : Wds (F := Ideal) c A0 f0 (e.val + 1) = Scalar.addi (start (fun k => f0 (word k)) e) (f0 (word e)) := by
  unfold Wds
  rw [sizes_eq, sizes_eq, sizes_eq, sizes_eq, sizes_eq]
  fin_cases e <;> rfl
theorem live_eq (e : Fin 5) : lvs (F := Ideal) c A0 f0 e = sg (f0 (word e)) := by
  unfold lvs
  rw [sizes_eq, sizes_eq, sizes_eq, sizes_eq, sizes_eq]
  fin_cases e <;> rfl

/-- A panel's row and the gradients, as they were stored. -/
theorem panel_apply (g : S3584x256.Idx → EReal) (p : Fin 28) (r : Fin 128) (t : Fin 256) (n : Fin 3584) (hn : n.val = 128 * p.val + r.val) :
    panel (F := Ideal) c g p (ix2 r t) = g (ix2 n t) := by
  refine congrArg g ?_
  funext a
  refine Fin.ext ?_
  fin_cases a
  · show 128 * p.val + 1 * r.val = n.val; omega
  · show 0 + 1 * t.val = t.val; omega
theorem wholeY_apply (g : S256x9728.Idx → EReal) (t : Fin 256) (q : Fin 9728) : wholeY (F := Ideal) c g (ix2 t q) = g (ix2 t q) := by
  refine congrArg g ?_
  funext a
  refine Fin.ext ?_
  fin_cases a
  · show 0 + 1 * t.val = t.val; omega
  · show 0 + 1 * q.val = q.val; omega

/-- The reference's product at a place. -/
theorem gDW_apply (e : Fin 5) (r : Fin 3584) (q : Fin 9728) : gDW (F := Ideal) f0 f1 f2 (ix3 e r q)
    = lit 0#32 + ∑ t : Fin 256, Scalar.select (IntOp.andi (IntOp.andi (Scalar.cmpi .sgt (f0 (word e)) 0#32) (atOrPast (start (fun k => f0 (word k)) e) t))
        (before (Scalar.addi (start (fun k => f0 (word k)) e) (f0 (word e))) t)) (gXH (F := Ideal) f1 (ix2 t r)) (lit 0#32) * gYH (F := Ideal) f2 (ix2 t q) :=
  slab_apply _ _ _ _ _ r q

include hx hy in
theorem dw_eq : dwOf (F := Ideal) c A0 f0 f1 f2 = gDW (F := Ideal) f0 f1 f2 := by
  funext i
  obtain ⟨e, r, q, rfl⟩ : ∃ e r q, i = ix3 e r q := ⟨_, _, _, eq_ix3 i⟩
  refine Eq.trans ?_ (gDW_apply f0 f1 f2 e r q).symm
  by_cases hl : lvs (F := Ideal) c A0 f0 e = true
  · have hg : Scalar.cmpi .sgt (f0 (word e)) 0#32 = 1#1 := by
      have := live_eq c f0 e ▸ hl
      exact of_decide_eq_true this
    rw [hg]
    refine (if_pos hl).trans ?_
    unfold PX
    rw [reshapeEquiv_ix2_1ab]
    refine (product_apply _ _ _ _ _ _).trans ?_
    refine congrArg (lit 0#32 + ·) (Finset.sum_congr rfl fun t _ => ?_)
    have one : ∀ b : BitVec 1, IntOp.andi 1#1 b = b := by decide
    rw [one]
    have ep : panel (F := Ideal) c (xH (F := Ideal) c f1) ⟨r.val / 128, by omega⟩ (ix2 ⟨r.val % 128, by omega⟩ t) = gXH (F := Ideal) f1 (ix2 t r) :=
      (panel_apply c _ _ _ _ r (show r.val = 128 * (r.val / 128) + r.val % 128 by omega)).trans (xH_eq c f1 hx r t)
    have ey : wholeY (F := Ideal) c (yH (F := Ideal) c f2) (ix2 t q) = gYH (F := Ideal) f2 (ix2 t q) := (wholeY_apply c _ t q).trans (yH_eq c f2 hy t q)
    rw [← ep, ← ey, ← stop_eq c f0 e, ← start_eq c f0 e]
    rfl
  · have hg : Scalar.cmpi .sgt (f0 (word e)) 0#32 = 0#1 := by
      have h := live_eq c f0 e
      have h' : sg (f0 (word e)) = false := by rw [← h]; exact Bool.eq_false_iff.2 hl
      have two : ∀ b : BitVec 1, b ≠ 1#1 → b = 0#1 := by decide
      exact two _ (of_decide_eq_false h')
    rw [hg]
    refine (if_neg hl).trans ?_
    have none : ∀ a b : BitVec 1, IntOp.andi (IntOp.andi 0#1 a) b = 0#1 := by decide
    have z : lit 0#32 = 0 := Ideal.ofBits_zero_f32
    have hs : ∀ t : Fin 256, Scalar.select (IntOp.andi (IntOp.andi 0#1 (atOrPast (start (fun k => f0 (word k)) e) t))
        (before (Scalar.addi (start (fun k => f0 (word k)) e) (f0 (word e))) t)) (gXH (F := Ideal) f1 (ix2 t r)) (lit 0#32) * gYH (F := Ideal) f2 (ix2 t q) = 0 := by
      intro t
      rw [none]
      refine (congrArg (· * gYH (F := Ideal) f2 (ix2 t q)) (show Scalar.select 0#1 (gXH (F := Ideal) f1 (ix2 t r)) (lit 0#32) = lit 0#32 from if_neg (by decide))).trans ?_
      show lit 0#32 * _ = _
      rw [z, zero_mul]
    rw [Finset.sum_congr rfl fun t _ => hs t, Finset.sum_const_zero, add_zero]
    rfl

end

end Cert.KernelIdeal.Hand
-- ==== Proof.Agree.lean ====
/- The kernel and the reference end with equal results over the extended reals, from finite arguments. -/
module

public import proofs.«01_k».proof.Defs
public import proofs.«01_k».proof.Proof.Grad

@[expose] public section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Every element's magnitude is at most the largest finite value. -/
def Finites {s : Shape} (x : s.Idx → EReal) : Prop := ∀ i, max (x i) (-(x i)) ≤ lit 0x7F7F0000#32

/-- The kernel's results are the reference's functions of the arguments. -/
theorem results_eq (c : Dev nD) (hx : Finites (s := S2x128x3584) (m ((c : Thread nD τ).loc main_arg0)))
    (hy : Finites (s := S2x128x9728) (m ((c : Thread nD τ).loc main_arg1))) :
    res3 m c = Cert.ReferenceIdeal.Hand.gDW (F := Ideal) (m ((c : Thread nD τ).loc main_arg2)) (m ((c : Thread nD τ).loc main_arg0)) (m ((c : Thread nD τ).loc main_arg1))
    ∧ res4 m c = Cert.ReferenceIdeal.Hand.gXC (F := Ideal) (m ((c : Thread nD τ).loc main_arg0))
    ∧ res5 m c = Cert.ReferenceIdeal.Hand.gXS (F := Ideal) (m ((c : Thread nD τ).loc main_arg0))
    ∧ res6 m c = Cert.ReferenceIdeal.Hand.gYC (F := Ideal) (m ((c : Thread nD τ).loc main_arg1))
    ∧ res7 m c = Cert.ReferenceIdeal.Hand.gYS (F := Ideal) (m ((c : Thread nD τ).loc main_arg1)) :=
  ⟨dw_eq c (gsz m c) (VL m c main_arg0) (VL m c main_arg1) hx hy, xC_eq c (VL m c main_arg0) hx, xS_eq c (VL m c main_arg0) hx,
    yC_eq c (VL m c main_arg1) hy, yS_eq c (VL m c main_arg1) hy⟩

end Cert.KernelIdeal.Hand

namespace Cert.Proof

open Idealize.ShloMosaic Idealize.SL.Sem

theorem agree : Cert.algebraic_KernelIdeal_ReferenceIdeal_pre_finite (hKernelIdeal := Cert.KernelIdeal.Gen.facts) (hReferenceIdeal := Cert.ReferenceIdeal.Gen.facts)
    (hPre_finite := Cert.KernelIdeal.Hand.finite_facts) := by
  intro m g m' g' hpre hargs
  have hb := fun c => @Cert.KernelIdeal.Hand.finite_bounds Cert.KernelIdeal.Hand.finite_facts _ _ _ (hpre c)
  refine ⟨fun c => Cert.KernelIdeal.Hand.res3 m c, fun c => Cert.KernelIdeal.Hand.res4 m c, fun c => Cert.KernelIdeal.Hand.res5 m c,
    fun c => Cert.KernelIdeal.Hand.res6 m c, fun c => Cert.KernelIdeal.Hand.res7 m c, ?_, ?_⟩
  · exact (θ_run _ _ _).mono (fun r h c => ⟨(h.1 c).1.1, (h.1 c).1.2.1, (h.1 c).1.2.2.1, (h.1 c).1.2.2.2.1, (h.1 c).1.2.2.2.2, (h.1 c).2⟩)
      (Cert.KernelIdeal.Hand.run_values m g)
  · refine (θ_run _ _ _).mono (fun r h c => ?_) (Cert.ReferenceIdeal.Hand.run m' g')
    obtain ⟨e3, e4, e5, e6, e7⟩ := Cert.KernelIdeal.Hand.results_eq m c (hb c).1 (hb c).2
    obtain ⟨a0, a1, a2⟩ := hargs c
    obtain ⟨h3, h4, h5, h6, h7, h⟩ := h c
    rw [a0, a1, a2] at h3
    rw [a0] at h4 h5
    rw [a1] at h6 h7
    exact ⟨h3.trans e3.symm, h4.trans e4.symm, h5.trans e5.symm, h6.trans e6.symm, h7.trans e7.symm, h⟩

end Cert.Proof
-- ==== Proof.lean ====
/- The claims: what a run of the kernel, of its idealization and of the reference leaves unchanged, and that the
   idealization's five results are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Transport
public import proofs.«01_k».proof.Proof.Agree

@[expose] public section

set_option maxRecDepth 100000

namespace Cert.Proof

open Idealize.ShloMosaic Idealize.SL.Sem Cert.Kernel

theorem claim : Cert.Claim := ⟨Cert.Kernel.Gen.facts, Cert.KernelIdeal.Gen.facts, Cert.ReferenceIdeal.Gen.facts, Cert.KernelIdeal.Hand.finite_facts,
  fun m ρ _ => Cert.KernelIdeal.Hand.frame_kernel m ρ,
  fun m ρ _ => Cert.KernelIdeal.Hand.frame_all m ρ,
  fun m ρ _ => Cert.KernelIdeal.Hand.frame_all m ρ,
  fun m ρ _ => Cert.ReferenceIdeal.Gen.frame m ρ,
  fun m ρ _ => Cert.ReferenceIdeal.Gen.frame m ρ,
  trivial,
  agree⟩

end Cert.Proof

end
